-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sizes_partition_rows [hPre_sizes_partition_rows : Cert.Pre_sizes_partition_rows.Facts] (m : (ℓ : Loc Cert.KernelIdeal.nD Cert.KernelIdeal.τ Cert.KernelIdeal.sig) → Buf (Elt Ideal) ℓ) : Prop :=
  ∀ c : Dev Cert.KernelIdeal.nD,
    (Cert.Pre_sizes_partition_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sizes_partition_rows [hPre_sizes_partition_rows : Cert.Pre_sizes_partition_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sizes_partition_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_QuantKernel (m : (ℓ : Loc Cert.QuantKernel.nD Cert.QuantKernel.τ Cert.QuantKernel.sig) → Buf (Elt Bits) ℓ) : Prop :=
  True

def Pre_QuantKernelIdeal (m : (ℓ : Loc Cert.QuantKernelIdeal.nD Cert.QuantKernelIdeal.τ Cert.QuantKernelIdeal.sig) → Buf (Elt Ideal) ℓ) : Prop :=
  True

def Pre_QuantKernelIdeal_finite_and_sizes_partition_rows [hPre_finite_and_sizes_partition_rows : Cert.Pre_finite_and_sizes_partition_rows.Facts] (m : (ℓ : Loc Cert.QuantKernelIdeal.nD Cert.QuantKernelIdeal.τ Cert.QuantKernelIdeal.sig) → Buf (Elt Ideal) ℓ) : Prop :=
  ∀ c : Dev Cert.QuantKernelIdeal.nD,
    (Cert.Pre_finite_and_sizes_partition_rows.fn (F := Ideal) (m ((c.tc : Thread Cert.QuantKernelIdeal.nD Cert.QuantKernelIdeal.τ).loc Cert.QuantKernelIdeal.main_arg0)) (m ((c.tc : Thread Cert.QuantKernelIdeal.nD Cert.QuantKernelIdeal.τ).loc Cert.QuantKernelIdeal.main_arg1)) (m ((c.tc : Thread Cert.QuantKernelIdeal.nD Cert.QuantKernelIdeal.τ).loc Cert.QuantKernelIdeal.main_arg2)) (m ((c.tc : Thread Cert.QuantKernelIdeal.nD Cert.QuantKernelIdeal.τ).loc Cert.QuantKernelIdeal.main_arg3))) = (fun _ => 1#1)

def Pre_QuantReferenceIdeal (m : (ℓ : Loc Cert.QuantReferenceIdeal.nD Cert.QuantReferenceIdeal.τ Cert.QuantReferenceIdeal.sig) → Buf (Elt Ideal) ℓ) : Prop :=
  True

def Pre_QuantReferenceIdeal_finite_and_sizes_partition_rows [hPre_finite_and_sizes_partition_rows : Cert.Pre_finite_and_sizes_partition_rows.Facts] (m : (ℓ : Loc Cert.QuantReferenceIdeal.nD Cert.QuantReferenceIdeal.τ Cert.QuantReferenceIdeal.sig) → Buf (Elt Ideal) ℓ) : Prop :=
  ∀ c : Dev Cert.QuantReferenceIdeal.nD,
    (Cert.Pre_finite_and_sizes_partition_rows.fn (F := Ideal) (m ((c.tc : Thread Cert.QuantReferenceIdeal.nD Cert.QuantReferenceIdeal.τ).loc Cert.QuantReferenceIdeal.main_arg0)) (m ((c.tc : Thread Cert.QuantReferenceIdeal.nD Cert.QuantReferenceIdeal.τ).loc Cert.QuantReferenceIdeal.main_arg1)) (m ((c.tc : Thread Cert.QuantReferenceIdeal.nD Cert.QuantReferenceIdeal.τ).loc Cert.QuantReferenceIdeal.main_arg2)) (m ((c.tc : Thread Cert.QuantReferenceIdeal.nD Cert.QuantReferenceIdeal.τ).loc Cert.QuantReferenceIdeal.main_arg3))) = (fun _ => 1#1)

def Pre_DequantKernel (m : (ℓ : Loc Cert.DequantKernel.nD Cert.DequantKernel.τ Cert.DequantKernel.sig) → Buf (Elt Bits) ℓ) : Prop :=
  True

def Pre_DequantKernelIdeal (m : (ℓ : Loc Cert.DequantKernelIdeal.nD Cert.DequantKernelIdeal.τ Cert.DequantKernelIdeal.sig) → Buf (Elt Ideal) ℓ) : Prop :=
  True

def Pre_DequantReferenceIdeal (m : (ℓ : Loc Cert.DequantReferenceIdeal.nD Cert.DequantReferenceIdeal.τ Cert.DequantReferenceIdeal.sig) → Buf (Elt Ideal) ℓ) : Prop :=
  True

def Pre_DequantUKernel (m : (ℓ : Loc Cert.DequantUKernel.nD Cert.DequantUKernel.τ Cert.DequantUKernel.sig) → Buf (Elt Bits) ℓ) : Prop :=
  True

def Pre_DequantUKernelIdeal (m : (ℓ : Loc Cert.DequantUKernelIdeal.nD Cert.DequantUKernelIdeal.τ Cert.DequantUKernelIdeal.sig) → Buf (Elt Ideal) ℓ) : Prop :=
  True

def Pre_DequantUReferenceIdeal (m : (ℓ : Loc Cert.DequantUReferenceIdeal.nD Cert.DequantUReferenceIdeal.τ Cert.DequantUReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_sizes_partition_rows [hKernelIdeal : Cert.KernelIdeal.Facts] [hPre_sizes_partition_rows : Cert.Pre_sizes_partition_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sizes_partition_rows m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_sizes_partition_rows [hReferenceIdeal : Cert.ReferenceIdeal.Facts] [hPre_sizes_partition_rows : Cert.Pre_sizes_partition_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sizes_partition_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_QuantKernel [hQuantKernel : Cert.QuantKernel.Facts] : Prop :=
  ∀ (m : (ℓ : Loc Cert.QuantKernel.nD Cert.QuantKernel.τ Cert.QuantKernel.sig) → Buf (Elt Bits) ℓ) (g : Dev Cert.QuantKernel.nD → PrngReg), Pre_QuantKernel m →
    θ_run (Cert.QuantKernel.defs (F := Bits)) (onTc (τ := Cert.QuantKernel.τ) (Cert.QuantKernel.main (F := Bits))) ⟨m, fun _ => 0, g⟩ (fun r => (∀ c : Dev Cert.QuantKernel.nD,
      r.2.mem ((c.tc : Thread Cert.QuantKernel.nD Cert.QuantKernel.τ).loc Cert.QuantKernel.main_arg0) = m ((c.tc : Thread Cert.QuantKernel.nD Cert.QuantKernel.τ).loc Cert.QuantKernel.main_arg0)
      ∧ r.2.mem ((c.tc : Thread Cert.QuantKernel.nD Cert.QuantKernel.τ).loc Cert.QuantKernel.main_arg1) = m ((c.tc : Thread Cert.QuantKernel.nD Cert.QuantKernel.τ).loc Cert.QuantKernel.main_arg1)
      ∧ r.2.mem ((c.tc : Thread Cert.QuantKernel.nD Cert.QuantKernel.τ).loc Cert.QuantKernel.main_arg2) = m ((c.tc : Thread Cert.QuantKernel.nD Cert.QuantKernel.τ).loc Cert.QuantKernel.main_arg2)
      ∧ r.2.mem ((c.tc : Thread Cert.QuantKernel.nD Cert.QuantKernel.τ).loc Cert.QuantKernel.main_arg3) = m ((c.tc : Thread Cert.QuantKernel.nD Cert.QuantKernel.τ).loc Cert.QuantKernel.main_arg3))
      ∧ r.2.sem = fun _ => 0)

def quiescent_QuantKernelIdeal [hQuantKernelIdeal : Cert.QuantKernelIdeal.Facts] : Prop :=
  ∀ (m : (ℓ : Loc Cert.QuantKernelIdeal.nD Cert.QuantKernelIdeal.τ Cert.QuantKernelIdeal.sig) → Buf (Elt Ideal) ℓ) (g : Dev Cert.QuantKernelIdeal.nD → PrngReg), Pre_QuantKernelIdeal m →
    θ_run (Cert.QuantKernelIdeal.defs (F := Ideal)) (onTc (τ := Cert.QuantKernelIdeal.τ) (Cert.QuantKernelIdeal.main (F := Ideal))) ⟨m, fun _ => 0, g⟩ (fun r => (∀ c : Dev Cert.QuantKernelIdeal.nD,
      r.2.mem ((c.tc : Thread Cert.QuantKernelIdeal.nD Cert.QuantKernelIdeal.τ).loc Cert.QuantKernelIdeal.main_arg0) = m ((c.tc : Thread Cert.QuantKernelIdeal.nD Cert.QuantKernelIdeal.τ).loc Cert.QuantKernelIdeal.main_arg0)
      ∧ r.2.mem ((c.tc : Thread Cert.QuantKernelIdeal.nD Cert.QuantKernelIdeal.τ).loc Cert.QuantKernelIdeal.main_arg1) = m ((c.tc : Thread Cert.QuantKernelIdeal.nD Cert.QuantKernelIdeal.τ).loc Cert.QuantKernelIdeal.main_arg1)
      ∧ r.2.mem ((c.tc : Thread Cert.QuantKernelIdeal.nD Cert.QuantKernelIdeal.τ).loc Cert.QuantKernelIdeal.main_arg2) = m ((c.tc : Thread Cert.QuantKernelIdeal.nD Cert.QuantKernelIdeal.τ).loc Cert.QuantKernelIdeal.main_arg2)
      ∧ r.2.mem ((c.tc : Thread Cert.QuantKernelIdeal.nD Cert.QuantKernelIdeal.τ).loc Cert.QuantKernelIdeal.main_arg3) = m ((c.tc : Thread Cert.QuantKernelIdeal.nD Cert.QuantKernelIdeal.τ).loc Cert.QuantKernelIdeal.main_arg3))
      ∧ r.2.sem = fun _ => 0)

def quiescent_QuantKernelIdeal_pre_finite_and_sizes_partition_rows [hQuantKernelIdeal : Cert.QuantKernelIdeal.Facts] [hPre_finite_and_sizes_partition_rows : Cert.Pre_finite_and_sizes_partition_rows.Facts] : Prop :=
  ∀ (m : (ℓ : Loc Cert.QuantKernelIdeal.nD Cert.QuantKernelIdeal.τ Cert.QuantKernelIdeal.sig) → Buf (Elt Ideal) ℓ) (g : Dev Cert.QuantKernelIdeal.nD → PrngReg), Pre_QuantKernelIdeal_finite_and_sizes_partition_rows m →
    θ_run (Cert.QuantKernelIdeal.defs (F := Ideal)) (onTc (τ := Cert.QuantKernelIdeal.τ) (Cert.QuantKernelIdeal.main (F := Ideal))) ⟨m, fun _ => 0, g⟩ (fun r => (∀ c : Dev Cert.QuantKernelIdeal.nD,
      r.2.mem ((c.tc : Thread Cert.QuantKernelIdeal.nD Cert.QuantKernelIdeal.τ).loc Cert.QuantKernelIdeal.main_arg0) = m ((c.tc : Thread Cert.QuantKernelIdeal.nD Cert.QuantKernelIdeal.τ).loc Cert.QuantKernelIdeal.main_arg0)
      ∧ r.2.mem ((c.tc : Thread Cert.QuantKernelIdeal.nD Cert.QuantKernelIdeal.τ).loc Cert.QuantKernelIdeal.main_arg1) = m ((c.tc : Thread Cert.QuantKernelIdeal.nD Cert.QuantKernelIdeal.τ).loc Cert.QuantKernelIdeal.main_arg1)
      ∧ r.2.mem ((c.tc : Thread Cert.QuantKernelIdeal.nD Cert.QuantKernelIdeal.τ).loc Cert.QuantKernelIdeal.main_arg2) = m ((c.tc : Thread Cert.QuantKernelIdeal.nD Cert.QuantKernelIdeal.τ).loc Cert.QuantKernelIdeal.main_arg2)
      ∧ r.2.mem ((c.tc : Thread Cert.QuantKernelIdeal.nD Cert.QuantKernelIdeal.τ).loc Cert.QuantKernelIdeal.main_arg3) = m ((c.tc : Thread Cert.QuantKernelIdeal.nD Cert.QuantKernelIdeal.τ).loc Cert.QuantKernelIdeal.main_arg3))
      ∧ r.2.sem = fun _ => 0)

def quiescent_QuantReferenceIdeal [hQuantReferenceIdeal : Cert.QuantReferenceIdeal.Facts] : Prop :=
  ∀ (m : (ℓ : Loc Cert.QuantReferenceIdeal.nD Cert.QuantReferenceIdeal.τ Cert.QuantReferenceIdeal.sig) → Buf (Elt Ideal) ℓ) (g : Dev Cert.QuantReferenceIdeal.nD → PrngReg), Pre_QuantReferenceIdeal m →
    θ_run (Cert.QuantReferenceIdeal.defs (F := Ideal)) (onTc (τ := Cert.QuantReferenceIdeal.τ) (Cert.QuantReferenceIdeal.main (F := Ideal))) ⟨m, fun _ => 0, g⟩ (fun r => (∀ c : Dev Cert.QuantReferenceIdeal.nD,
      r.2.mem ((c.tc : Thread Cert.QuantReferenceIdeal.nD Cert.QuantReferenceIdeal.τ).loc Cert.QuantReferenceIdeal.main_arg0) = m ((c.tc : Thread Cert.QuantReferenceIdeal.nD Cert.QuantReferenceIdeal.τ).loc Cert.QuantReferenceIdeal.main_arg0)
      ∧ r.2.mem ((c.tc : Thread Cert.QuantReferenceIdeal.nD Cert.QuantReferenceIdeal.τ).loc Cert.QuantReferenceIdeal.main_arg1) = m ((c.tc : Thread Cert.QuantReferenceIdeal.nD Cert.QuantReferenceIdeal.τ).loc Cert.QuantReferenceIdeal.main_arg1)
      ∧ r.2.mem ((c.tc : Thread Cert.QuantReferenceIdeal.nD Cert.QuantReferenceIdeal.τ).loc Cert.QuantReferenceIdeal.main_arg2) = m ((c.tc : Thread Cert.QuantReferenceIdeal.nD Cert.QuantReferenceIdeal.τ).loc Cert.QuantReferenceIdeal.main_arg2)
      ∧ r.2.mem ((c.tc : Thread Cert.QuantReferenceIdeal.nD Cert.QuantReferenceIdeal.τ).loc Cert.QuantReferenceIdeal.main_arg3) = m ((c.tc : Thread Cert.QuantReferenceIdeal.nD Cert.QuantReferenceIdeal.τ).loc Cert.QuantReferenceIdeal.main_arg3))
      ∧ r.2.sem = fun _ => 0)

def quiescent_QuantReferenceIdeal_pre_finite_and_sizes_partition_rows [hQuantReferenceIdeal : Cert.QuantReferenceIdeal.Facts] [hPre_finite_and_sizes_partition_rows : Cert.Pre_finite_and_sizes_partition_rows.Facts] : Prop :=
  ∀ (m : (ℓ : Loc Cert.QuantReferenceIdeal.nD Cert.QuantReferenceIdeal.τ Cert.QuantReferenceIdeal.sig) → Buf (Elt Ideal) ℓ) (g : Dev Cert.QuantReferenceIdeal.nD → PrngReg), Pre_QuantReferenceIdeal_finite_and_sizes_partition_rows m →
    θ_run (Cert.QuantReferenceIdeal.defs (F := Ideal)) (onTc (τ := Cert.QuantReferenceIdeal.τ) (Cert.QuantReferenceIdeal.main (F := Ideal))) ⟨m, fun _ => 0, g⟩ (fun r => (∀ c : Dev Cert.QuantReferenceIdeal.nD,
      r.2.mem ((c.tc : Thread Cert.QuantReferenceIdeal.nD Cert.QuantReferenceIdeal.τ).loc Cert.QuantReferenceIdeal.main_arg0) = m ((c.tc : Thread Cert.QuantReferenceIdeal.nD Cert.QuantReferenceIdeal.τ).loc Cert.QuantReferenceIdeal.main_arg0)
      ∧ r.2.mem ((c.tc : Thread Cert.QuantReferenceIdeal.nD Cert.QuantReferenceIdeal.τ).loc Cert.QuantReferenceIdeal.main_arg1) = m ((c.tc : Thread Cert.QuantReferenceIdeal.nD Cert.QuantReferenceIdeal.τ).loc Cert.QuantReferenceIdeal.main_arg1)
      ∧ r.2.mem ((c.tc : Thread Cert.QuantReferenceIdeal.nD Cert.QuantReferenceIdeal.τ).loc Cert.QuantReferenceIdeal.main_arg2) = m ((c.tc : Thread Cert.QuantReferenceIdeal.nD Cert.QuantReferenceIdeal.τ).loc Cert.QuantReferenceIdeal.main_arg2)
      ∧ r.2.mem ((c.tc : Thread Cert.QuantReferenceIdeal.nD Cert.QuantReferenceIdeal.τ).loc Cert.QuantReferenceIdeal.main_arg3) = m ((c.tc : Thread Cert.QuantReferenceIdeal.nD Cert.QuantReferenceIdeal.τ).loc Cert.QuantReferenceIdeal.main_arg3))
      ∧ r.2.sem = fun _ => 0)

def quiescent_DequantKernel [hDequantKernel : Cert.DequantKernel.Facts] : Prop :=
  ∀ (m : (ℓ : Loc Cert.DequantKernel.nD Cert.DequantKernel.τ Cert.DequantKernel.sig) → Buf (Elt Bits) ℓ) (g : Dev Cert.DequantKernel.nD → PrngReg), Pre_DequantKernel m →
    θ_run (Cert.DequantKernel.defs (F := Bits)) (onTc (τ := Cert.DequantKernel.τ) (Cert.DequantKernel.main (F := Bits))) ⟨m, fun _ => 0, g⟩ (fun r => (∀ c : Dev Cert.DequantKernel.nD,
      r.2.mem ((c.tc : Thread Cert.DequantKernel.nD Cert.DequantKernel.τ).loc Cert.DequantKernel.main_arg0) = m ((c.tc : Thread Cert.DequantKernel.nD Cert.DequantKernel.τ).loc Cert.DequantKernel.main_arg0)
      ∧ r.2.mem ((c.tc : Thread Cert.DequantKernel.nD Cert.DequantKernel.τ).loc Cert.DequantKernel.main_arg1) = m ((c.tc : Thread Cert.DequantKernel.nD Cert.DequantKernel.τ).loc Cert.DequantKernel.main_arg1)
      ∧ r.2.mem ((c.tc : Thread Cert.DequantKernel.nD Cert.DequantKernel.τ).loc Cert.DequantKernel.main_arg2) = m ((c.tc : Thread Cert.DequantKernel.nD Cert.DequantKernel.τ).loc Cert.DequantKernel.main_arg2)
      ∧ r.2.mem ((c.tc : Thread Cert.DequantKernel.nD Cert.DequantKernel.τ).loc Cert.DequantKernel.main_arg3) = m ((c.tc : Thread Cert.DequantKernel.nD Cert.DequantKernel.τ).loc Cert.DequantKernel.main_arg3)
      ∧ r.2.mem ((c.tc : Thread Cert.DequantKernel.nD Cert.DequantKernel.τ).loc Cert.DequantKernel.main_arg4) = m ((c.tc : Thread Cert.DequantKernel.nD Cert.DequantKernel.τ).loc Cert.DequantKernel.main_arg4))
      ∧ r.2.sem = fun _ => 0)

def quiescent_DequantKernelIdeal [hDequantKernelIdeal : Cert.DequantKernelIdeal.Facts] : Prop :=
  ∀ (m : (ℓ : Loc Cert.DequantKernelIdeal.nD Cert.DequantKernelIdeal.τ Cert.DequantKernelIdeal.sig) → Buf (Elt Ideal) ℓ) (g : Dev Cert.DequantKernelIdeal.nD → PrngReg), Pre_DequantKernelIdeal m →
    θ_run (Cert.DequantKernelIdeal.defs (F := Ideal)) (onTc (τ := Cert.DequantKernelIdeal.τ) (Cert.DequantKernelIdeal.main (F := Ideal))) ⟨m, fun _ => 0, g⟩ (fun r => (∀ c : Dev Cert.DequantKernelIdeal.nD,
      r.2.mem ((c.tc : Thread Cert.DequantKernelIdeal.nD Cert.DequantKernelIdeal.τ).loc Cert.DequantKernelIdeal.main_arg0) = m ((c.tc : Thread Cert.DequantKernelIdeal.nD Cert.DequantKernelIdeal.τ).loc Cert.DequantKernelIdeal.main_arg0)
      ∧ r.2.mem ((c.tc : Thread Cert.DequantKernelIdeal.nD Cert.DequantKernelIdeal.τ).loc Cert.DequantKernelIdeal.main_arg1) = m ((c.tc : Thread Cert.DequantKernelIdeal.nD Cert.DequantKernelIdeal.τ).loc Cert.DequantKernelIdeal.main_arg1)
      ∧ r.2.mem ((c.tc : Thread Cert.DequantKernelIdeal.nD Cert.DequantKernelIdeal.τ).loc Cert.DequantKernelIdeal.main_arg2) = m ((c.tc : Thread Cert.DequantKernelIdeal.nD Cert.DequantKernelIdeal.τ).loc Cert.DequantKernelIdeal.main_arg2)
      ∧ r.2.mem ((c.tc : Thread Cert.DequantKernelIdeal.nD Cert.DequantKernelIdeal.τ).loc Cert.DequantKernelIdeal.main_arg3) = m ((c.tc : Thread Cert.DequantKernelIdeal.nD Cert.DequantKernelIdeal.τ).loc Cert.DequantKernelIdeal.main_arg3)
      ∧ r.2.mem ((c.tc : Thread Cert.DequantKernelIdeal.nD Cert.DequantKernelIdeal.τ).loc Cert.DequantKernelIdeal.main_arg4) = m ((c.tc : Thread Cert.DequantKernelIdeal.nD Cert.DequantKernelIdeal.τ).loc Cert.DequantKernelIdeal.main_arg4))
      ∧ r.2.sem = fun _ => 0)

def quiescent_DequantReferenceIdeal [hDequantReferenceIdeal : Cert.DequantReferenceIdeal.Facts] : Prop :=
  ∀ (m : (ℓ : Loc Cert.DequantReferenceIdeal.nD Cert.DequantReferenceIdeal.τ Cert.DequantReferenceIdeal.sig) → Buf (Elt Ideal) ℓ) (g : Dev Cert.DequantReferenceIdeal.nD → PrngReg), Pre_DequantReferenceIdeal m →
    θ_run (Cert.DequantReferenceIdeal.defs (F := Ideal)) (onTc (τ := Cert.DequantReferenceIdeal.τ) (Cert.DequantReferenceIdeal.main (F := Ideal))) ⟨m, fun _ => 0, g⟩ (fun r => (∀ c : Dev Cert.DequantReferenceIdeal.nD,
      r.2.mem ((c.tc : Thread Cert.DequantReferenceIdeal.nD Cert.DequantReferenceIdeal.τ).loc Cert.DequantReferenceIdeal.main_arg0) = m ((c.tc : Thread Cert.DequantReferenceIdeal.nD Cert.DequantReferenceIdeal.τ).loc Cert.DequantReferenceIdeal.main_arg0)
      ∧ r.2.mem ((c.tc : Thread Cert.DequantReferenceIdeal.nD Cert.DequantReferenceIdeal.τ).loc Cert.DequantReferenceIdeal.main_arg1) = m ((c.tc : Thread Cert.DequantReferenceIdeal.nD Cert.DequantReferenceIdeal.τ).loc Cert.DequantReferenceIdeal.main_arg1)
      ∧ r.2.mem ((c.tc : Thread Cert.DequantReferenceIdeal.nD Cert.DequantReferenceIdeal.τ).loc Cert.DequantReferenceIdeal.main_arg2) = m ((c.tc : Thread Cert.DequantReferenceIdeal.nD Cert.DequantReferenceIdeal.τ).loc Cert.DequantReferenceIdeal.main_arg2)
      ∧ r.2.mem ((c.tc : Thread Cert.DequantReferenceIdeal.nD Cert.DequantReferenceIdeal.τ).loc Cert.DequantReferenceIdeal.main_arg3) = m ((c.tc : Thread Cert.DequantReferenceIdeal.nD Cert.DequantReferenceIdeal.τ).loc Cert.DequantReferenceIdeal.main_arg3)
      ∧ r.2.mem ((c.tc : Thread Cert.DequantReferenceIdeal.nD Cert.DequantReferenceIdeal.τ).loc Cert.DequantReferenceIdeal.main_arg4) = m ((c.tc : Thread Cert.DequantReferenceIdeal.nD Cert.DequantReferenceIdeal.τ).loc Cert.DequantReferenceIdeal.main_arg4))
      ∧ r.2.sem = fun _ => 0)

def quiescent_DequantUKernel [hDequantUKernel : Cert.DequantUKernel.Facts] : Prop :=
  ∀ (m : (ℓ : Loc Cert.DequantUKernel.nD Cert.DequantUKernel.τ Cert.DequantUKernel.sig) → Buf (Elt Bits) ℓ) (g : Dev Cert.DequantUKernel.nD → PrngReg), Pre_DequantUKernel m →
    θ_run (Cert.DequantUKernel.defs (F := Bits)) (onTc (τ := Cert.DequantUKernel.τ) (Cert.DequantUKernel.main (F := Bits))) ⟨m, fun _ => 0, g⟩ (fun r => (∀ c : Dev Cert.DequantUKernel.nD,
      r.2.mem ((c.tc : Thread Cert.DequantUKernel.nD Cert.DequantUKernel.τ).loc Cert.DequantUKernel.main_arg0) = m ((c.tc : Thread Cert.DequantUKernel.nD Cert.DequantUKernel.τ).loc Cert.DequantUKernel.main_arg0)
      ∧ r.2.mem ((c.tc : Thread Cert.DequantUKernel.nD Cert.DequantUKernel.τ).loc Cert.DequantUKernel.main_arg1) = m ((c.tc : Thread Cert.DequantUKernel.nD Cert.DequantUKernel.τ).loc Cert.DequantUKernel.main_arg1)
      ∧ r.2.mem ((c.tc : Thread Cert.DequantUKernel.nD Cert.DequantUKernel.τ).loc Cert.DequantUKernel.main_arg2) = m ((c.tc : Thread Cert.DequantUKernel.nD Cert.DequantUKernel.τ).loc Cert.DequantUKernel.main_arg2)
      ∧ r.2.mem ((c.tc : Thread Cert.DequantUKernel.nD Cert.DequantUKernel.τ).loc Cert.DequantUKernel.main_arg3) = m ((c.tc : Thread Cert.DequantUKernel.nD Cert.DequantUKernel.τ).loc Cert.DequantUKernel.main_arg3)
      ∧ r.2.mem ((c.tc : Thread Cert.DequantUKernel.nD Cert.DequantUKernel.τ).loc Cert.DequantUKernel.main_arg4) = m ((c.tc : Thread Cert.DequantUKernel.nD Cert.DequantUKernel.τ).loc Cert.DequantUKernel.main_arg4))
      ∧ r.2.sem = fun _ => 0)

def quiescent_DequantUKernelIdeal [hDequantUKernelIdeal : Cert.DequantUKernelIdeal.Facts] : Prop :=
  ∀ (m : (ℓ : Loc Cert.DequantUKernelIdeal.nD Cert.DequantUKernelIdeal.τ Cert.DequantUKernelIdeal.sig) → Buf (Elt Ideal) ℓ) (g : Dev Cert.DequantUKernelIdeal.nD → PrngReg), Pre_DequantUKernelIdeal m →
    θ_run (Cert.DequantUKernelIdeal.defs (F := Ideal)) (onTc (τ := Cert.DequantUKernelIdeal.τ) (Cert.DequantUKernelIdeal.main (F := Ideal))) ⟨m, fun _ => 0, g⟩ (fun r => (∀ c : Dev Cert.DequantUKernelIdeal.nD,
      r.2.mem ((c.tc : Thread Cert.DequantUKernelIdeal.nD Cert.DequantUKernelIdeal.τ).loc Cert.DequantUKernelIdeal.main_arg0) = m ((c.tc : Thread Cert.DequantUKernelIdeal.nD Cert.DequantUKernelIdeal.τ).loc Cert.DequantUKernelIdeal.main_arg0)
      ∧ r.2.mem ((c.tc : Thread Cert.DequantUKernelIdeal.nD Cert.DequantUKernelIdeal.τ).loc Cert.DequantUKernelIdeal.main_arg1) = m ((c.tc : Thread Cert.DequantUKernelIdeal.nD Cert.DequantUKernelIdeal.τ).loc Cert.DequantUKernelIdeal.main_arg1)
      ∧ r.2.mem ((c.tc : Thread Cert.DequantUKernelIdeal.nD Cert.DequantUKernelIdeal.τ).loc Cert.DequantUKernelIdeal.main_arg2) = m ((c.tc : Thread Cert.DequantUKernelIdeal.nD Cert.DequantUKernelIdeal.τ).loc Cert.DequantUKernelIdeal.main_arg2)
      ∧ r.2.mem ((c.tc : Thread Cert.DequantUKernelIdeal.nD Cert.DequantUKernelIdeal.τ).loc Cert.DequantUKernelIdeal.main_arg3) = m ((c.tc : Thread Cert.DequantUKernelIdeal.nD Cert.DequantUKernelIdeal.τ).loc Cert.DequantUKernelIdeal.main_arg3)
      ∧ r.2.mem ((c.tc : Thread Cert.DequantUKernelIdeal.nD Cert.DequantUKernelIdeal.τ).loc Cert.DequantUKernelIdeal.main_arg4) = m ((c.tc : Thread Cert.DequantUKernelIdeal.nD Cert.DequantUKernelIdeal.τ).loc Cert.DequantUKernelIdeal.main_arg4))
      ∧ r.2.sem = fun _ => 0)

def quiescent_DequantUReferenceIdeal [hDequantUReferenceIdeal : Cert.DequantUReferenceIdeal.Facts] : Prop :=
  ∀ (m : (ℓ : Loc Cert.DequantUReferenceIdeal.nD Cert.DequantUReferenceIdeal.τ Cert.DequantUReferenceIdeal.sig) → Buf (Elt Ideal) ℓ) (g : Dev Cert.DequantUReferenceIdeal.nD → PrngReg), Pre_DequantUReferenceIdeal m →
    θ_run (Cert.DequantUReferenceIdeal.defs (F := Ideal)) (onTc (τ := Cert.DequantUReferenceIdeal.τ) (Cert.DequantUReferenceIdeal.main (F := Ideal))) ⟨m, fun _ => 0, g⟩ (fun r => (∀ c : Dev Cert.DequantUReferenceIdeal.nD,
      r.2.mem ((c.tc : Thread Cert.DequantUReferenceIdeal.nD Cert.DequantUReferenceIdeal.τ).loc Cert.DequantUReferenceIdeal.main_arg0) = m ((c.tc : Thread Cert.DequantUReferenceIdeal.nD Cert.DequantUReferenceIdeal.τ).loc Cert.DequantUReferenceIdeal.main_arg0)
      ∧ r.2.mem ((c.tc : Thread Cert.DequantUReferenceIdeal.nD Cert.DequantUReferenceIdeal.τ).loc Cert.DequantUReferenceIdeal.main_arg1) = m ((c.tc : Thread Cert.DequantUReferenceIdeal.nD Cert.DequantUReferenceIdeal.τ).loc Cert.DequantUReferenceIdeal.main_arg1)
      ∧ r.2.mem ((c.tc : Thread Cert.DequantUReferenceIdeal.nD Cert.DequantUReferenceIdeal.τ).loc Cert.DequantUReferenceIdeal.main_arg2) = m ((c.tc : Thread Cert.DequantUReferenceIdeal.nD Cert.DequantUReferenceIdeal.τ).loc Cert.DequantUReferenceIdeal.main_arg2)
      ∧ r.2.mem ((c.tc : Thread Cert.DequantUReferenceIdeal.nD Cert.DequantUReferenceIdeal.τ).loc Cert.DequantUReferenceIdeal.main_arg3) = m ((c.tc : Thread Cert.DequantUReferenceIdeal.nD Cert.DequantUReferenceIdeal.τ).loc Cert.DequantUReferenceIdeal.main_arg3)
      ∧ r.2.mem ((c.tc : Thread Cert.DequantUReferenceIdeal.nD Cert.DequantUReferenceIdeal.τ).loc Cert.DequantUReferenceIdeal.main_arg4) = m ((c.tc : Thread Cert.DequantUReferenceIdeal.nD Cert.DequantUReferenceIdeal.τ).loc Cert.DequantUReferenceIdeal.main_arg4))
      ∧ r.2.sem = fun _ => 0)

def preserves_Kernel_KernelIdeal : Prop :=
  True

def algebraic_KernelIdeal_ReferenceIdeal_pre_sizes_partition_rows [hKernelIdeal : Cert.KernelIdeal.Facts] [hReferenceIdeal : Cert.ReferenceIdeal.Facts] [hPre_sizes_partition_rows : Cert.Pre_sizes_partition_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sizes_partition_rows m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23_0) = v0 c
          ∧ r.2.mem ((c.tc : Thread Cert.ReferenceIdeal.nD Cert.ReferenceIdeal.τ).loc Cert.ReferenceIdeal.main_v23_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_QuantKernel_QuantKernelIdeal : Prop :=
  True

def algebraic_QuantKernelIdeal_QuantReferenceIdeal_pre_finite_and_sizes_partition_rows [hQuantKernelIdeal : Cert.QuantKernelIdeal.Facts] [hQuantReferenceIdeal : Cert.QuantReferenceIdeal.Facts] [hPre_finite_and_sizes_partition_rows : Cert.Pre_finite_and_sizes_partition_rows.Facts] : Prop :=
  ∀ (m : (ℓ : Loc Cert.QuantKernelIdeal.nD Cert.QuantKernelIdeal.τ Cert.QuantKernelIdeal.sig) → Buf (Elt Ideal) ℓ) (g : Dev Cert.QuantKernelIdeal.nD → PrngReg)
    (m' : (ℓ : Loc Cert.QuantReferenceIdeal.nD Cert.QuantReferenceIdeal.τ Cert.QuantReferenceIdeal.sig) → Buf (Elt Ideal) ℓ) (g' : Dev Cert.QuantReferenceIdeal.nD → PrngReg), Pre_QuantKernelIdeal_finite_and_sizes_partition_rows m →
    (∀ c : Dev Cert.QuantKernelIdeal.nD,
      m' ((c.tc : Thread Cert.QuantReferenceIdeal.nD Cert.QuantReferenceIdeal.τ).loc Cert.QuantReferenceIdeal.main_arg0) = m ((c.tc : Thread Cert.QuantKernelIdeal.nD Cert.QuantKernelIdeal.τ).loc Cert.QuantKernelIdeal.main_arg0)
      ∧ m' ((c.tc : Thread Cert.QuantReferenceIdeal.nD Cert.QuantReferenceIdeal.τ).loc Cert.QuantReferenceIdeal.main_arg1) = m ((c.tc : Thread Cert.QuantKernelIdeal.nD Cert.QuantKernelIdeal.τ).loc Cert.QuantKernelIdeal.main_arg1)
      ∧ m' ((c.tc : Thread Cert.QuantReferenceIdeal.nD Cert.QuantReferenceIdeal.τ).loc Cert.QuantReferenceIdeal.main_arg2) = m ((c.tc : Thread Cert.QuantKernelIdeal.nD Cert.QuantKernelIdeal.τ).loc Cert.QuantKernelIdeal.main_arg2)
      ∧ m' ((c.tc : Thread Cert.QuantReferenceIdeal.nD Cert.QuantReferenceIdeal.τ).loc Cert.QuantReferenceIdeal.main_arg3) = m ((c.tc : Thread Cert.QuantKernelIdeal.nD Cert.QuantKernelIdeal.τ).loc Cert.QuantKernelIdeal.main_arg3)) →
    ∃ (v0 : (c : Dev Cert.QuantKernelIdeal.nD) → Buf (Elt Ideal) ((c.tc : Thread Cert.QuantKernelIdeal.nD Cert.QuantKernelIdeal.τ).loc Cert.QuantKernelIdeal.main_v1_0)) (v1 : (c : Dev Cert.QuantKernelIdeal.nD) → Buf (Elt Ideal) ((c.tc : Thread Cert.QuantKernelIdeal.nD Cert.QuantKernelIdeal.τ).loc Cert.QuantKernelIdeal.main_v1_1)) (v2 : (c : Dev Cert.QuantKernelIdeal.nD) → Buf (Elt Ideal) ((c.tc : Thread Cert.QuantKernelIdeal.nD Cert.QuantKernelIdeal.τ).loc Cert.QuantKernelIdeal.main_v1_2)),
      θ_run (Cert.QuantKernelIdeal.defs (F := Ideal)) (onTc (τ := Cert.QuantKernelIdeal.τ) (Cert.QuantKernelIdeal.main (F := Ideal))) ⟨m, fun _ => 0, g⟩ (fun r => ∀ c : Dev Cert.QuantKernelIdeal.nD,
          r.2.mem ((c.tc : Thread Cert.QuantKernelIdeal.nD Cert.QuantKernelIdeal.τ).loc Cert.QuantKernelIdeal.main_v1_0) = v0 c
          ∧ r.2.mem ((c.tc : Thread Cert.QuantKernelIdeal.nD Cert.QuantKernelIdeal.τ).loc Cert.QuantKernelIdeal.main_v1_1) = v1 c
          ∧ r.2.mem ((c.tc : Thread Cert.QuantKernelIdeal.nD Cert.QuantKernelIdeal.τ).loc Cert.QuantKernelIdeal.main_v1_2) = v2 c
          ∧ r.2.mem ((c.tc : Thread Cert.QuantKernelIdeal.nD Cert.QuantKernelIdeal.τ).loc Cert.QuantKernelIdeal.main_arg0) = m ((c.tc : Thread Cert.QuantKernelIdeal.nD Cert.QuantKernelIdeal.τ).loc Cert.QuantKernelIdeal.main_arg0)
          ∧ r.2.mem ((c.tc : Thread Cert.QuantKernelIdeal.nD Cert.QuantKernelIdeal.τ).loc Cert.QuantKernelIdeal.main_arg1) = m ((c.tc : Thread Cert.QuantKernelIdeal.nD Cert.QuantKernelIdeal.τ).loc Cert.QuantKernelIdeal.main_arg1)
          ∧ r.2.mem ((c.tc : Thread Cert.QuantKernelIdeal.nD Cert.QuantKernelIdeal.τ).loc Cert.QuantKernelIdeal.main_arg2) = m ((c.tc : Thread Cert.QuantKernelIdeal.nD Cert.QuantKernelIdeal.τ).loc Cert.QuantKernelIdeal.main_arg2)
          ∧ r.2.mem ((c.tc : Thread Cert.QuantKernelIdeal.nD Cert.QuantKernelIdeal.τ).loc Cert.QuantKernelIdeal.main_arg3) = m ((c.tc : Thread Cert.QuantKernelIdeal.nD Cert.QuantKernelIdeal.τ).loc Cert.QuantKernelIdeal.main_arg3))
      ∧ θ_run (Cert.QuantReferenceIdeal.defs (F := Ideal)) (onTc (τ := Cert.QuantReferenceIdeal.τ) (Cert.QuantReferenceIdeal.main (F := Ideal))) ⟨m', fun _ => 0, g'⟩ (fun r => ∀ c : Dev Cert.QuantReferenceIdeal.nD,
          r.2.mem ((c.tc : Thread Cert.QuantReferenceIdeal.nD Cert.QuantReferenceIdeal.τ).loc Cert.QuantReferenceIdeal.main_v47_0) = v0 c
          ∧ r.2.mem ((c.tc : Thread Cert.QuantReferenceIdeal.nD Cert.QuantReferenceIdeal.τ).loc Cert.QuantReferenceIdeal.main_v47_1) = v1 c
          ∧ r.2.mem ((c.tc : Thread Cert.QuantReferenceIdeal.nD Cert.QuantReferenceIdeal.τ).loc Cert.QuantReferenceIdeal.main_v47_2) = v2 c
          ∧ r.2.mem ((c.tc : Thread Cert.QuantReferenceIdeal.nD Cert.QuantReferenceIdeal.τ).loc Cert.QuantReferenceIdeal.main_arg0) = m' ((c.tc : Thread Cert.QuantReferenceIdeal.nD Cert.QuantReferenceIdeal.τ).loc Cert.QuantReferenceIdeal.main_arg0)
          ∧ r.2.mem ((c.tc : Thread Cert.QuantReferenceIdeal.nD Cert.QuantReferenceIdeal.τ).loc Cert.QuantReferenceIdeal.main_arg1) = m' ((c.tc : Thread Cert.QuantReferenceIdeal.nD Cert.QuantReferenceIdeal.τ).loc Cert.QuantReferenceIdeal.main_arg1)
          ∧ r.2.mem ((c.tc : Thread Cert.QuantReferenceIdeal.nD Cert.QuantReferenceIdeal.τ).loc Cert.QuantReferenceIdeal.main_arg2) = m' ((c.tc : Thread Cert.QuantReferenceIdeal.nD Cert.QuantReferenceIdeal.τ).loc Cert.QuantReferenceIdeal.main_arg2)
          ∧ r.2.mem ((c.tc : Thread Cert.QuantReferenceIdeal.nD Cert.QuantReferenceIdeal.τ).loc Cert.QuantReferenceIdeal.main_arg3) = m' ((c.tc : Thread Cert.QuantReferenceIdeal.nD Cert.QuantReferenceIdeal.τ).loc Cert.QuantReferenceIdeal.main_arg3))

def preserves_DequantKernel_DequantKernelIdeal : Prop :=
  True

def algebraic_DequantKernelIdeal_DequantReferenceIdeal [hDequantKernelIdeal : Cert.DequantKernelIdeal.Facts] [hDequantReferenceIdeal : Cert.DequantReferenceIdeal.Facts] : Prop :=
  ∀ (m : (ℓ : Loc Cert.DequantKernelIdeal.nD Cert.DequantKernelIdeal.τ Cert.DequantKernelIdeal.sig) → Buf (Elt Ideal) ℓ) (g : Dev Cert.DequantKernelIdeal.nD → PrngReg)
    (m' : (ℓ : Loc Cert.DequantReferenceIdeal.nD Cert.DequantReferenceIdeal.τ Cert.DequantReferenceIdeal.sig) → Buf (Elt Ideal) ℓ) (g' : Dev Cert.DequantReferenceIdeal.nD → PrngReg), Pre_DequantKernelIdeal m →
    (∀ c : Dev Cert.DequantKernelIdeal.nD,
      m' ((c.tc : Thread Cert.DequantReferenceIdeal.nD Cert.DequantReferenceIdeal.τ).loc Cert.DequantReferenceIdeal.main_arg0) = m ((c.tc : Thread Cert.DequantKernelIdeal.nD Cert.DequantKernelIdeal.τ).loc Cert.DequantKernelIdeal.main_arg0)
      ∧ m' ((c.tc : Thread Cert.DequantReferenceIdeal.nD Cert.DequantReferenceIdeal.τ).loc Cert.DequantReferenceIdeal.main_arg1) = m ((c.tc : Thread Cert.DequantKernelIdeal.nD Cert.DequantKernelIdeal.τ).loc Cert.DequantKernelIdeal.main_arg1)
      ∧ m' ((c.tc : Thread Cert.DequantReferenceIdeal.nD Cert.DequantReferenceIdeal.τ).loc Cert.DequantReferenceIdeal.main_arg2) = m ((c.tc : Thread Cert.DequantKernelIdeal.nD Cert.DequantKernelIdeal.τ).loc Cert.DequantKernelIdeal.main_arg2)
      ∧ m' ((c.tc : Thread Cert.DequantReferenceIdeal.nD Cert.DequantReferenceIdeal.τ).loc Cert.DequantReferenceIdeal.main_arg3) = m ((c.tc : Thread Cert.DequantKernelIdeal.nD Cert.DequantKernelIdeal.τ).loc Cert.DequantKernelIdeal.main_arg3)
      ∧ m' ((c.tc : Thread Cert.DequantReferenceIdeal.nD Cert.DequantReferenceIdeal.τ).loc Cert.DequantReferenceIdeal.main_arg4) = m ((c.tc : Thread Cert.DequantKernelIdeal.nD Cert.DequantKernelIdeal.τ).loc Cert.DequantKernelIdeal.main_arg4)) →
    ∃ (v0 : (c : Dev Cert.DequantKernelIdeal.nD) → Buf (Elt Ideal) ((c.tc : Thread Cert.DequantKernelIdeal.nD Cert.DequantKernelIdeal.τ).loc Cert.DequantKernelIdeal.main_v1)),
      θ_run (Cert.DequantKernelIdeal.defs (F := Ideal)) (onTc (τ := Cert.DequantKernelIdeal.τ) (Cert.DequantKernelIdeal.main (F := Ideal))) ⟨m, fun _ => 0, g⟩ (fun r => ∀ c : Dev Cert.DequantKernelIdeal.nD,
          r.2.mem ((c.tc : Thread Cert.DequantKernelIdeal.nD Cert.DequantKernelIdeal.τ).loc Cert.DequantKernelIdeal.main_v1) = v0 c
          ∧ r.2.mem ((c.tc : Thread Cert.DequantKernelIdeal.nD Cert.DequantKernelIdeal.τ).loc Cert.DequantKernelIdeal.main_arg0) = m ((c.tc : Thread Cert.DequantKernelIdeal.nD Cert.DequantKernelIdeal.τ).loc Cert.DequantKernelIdeal.main_arg0)
          ∧ r.2.mem ((c.tc : Thread Cert.DequantKernelIdeal.nD Cert.DequantKernelIdeal.τ).loc Cert.DequantKernelIdeal.main_arg1) = m ((c.tc : Thread Cert.DequantKernelIdeal.nD Cert.DequantKernelIdeal.τ).loc Cert.DequantKernelIdeal.main_arg1)
          ∧ r.2.mem ((c.tc : Thread Cert.DequantKernelIdeal.nD Cert.DequantKernelIdeal.τ).loc Cert.DequantKernelIdeal.main_arg2) = m ((c.tc : Thread Cert.DequantKernelIdeal.nD Cert.DequantKernelIdeal.τ).loc Cert.DequantKernelIdeal.main_arg2)
          ∧ r.2.mem ((c.tc : Thread Cert.DequantKernelIdeal.nD Cert.DequantKernelIdeal.τ).loc Cert.DequantKernelIdeal.main_arg3) = m ((c.tc : Thread Cert.DequantKernelIdeal.nD Cert.DequantKernelIdeal.τ).loc Cert.DequantKernelIdeal.main_arg3)
          ∧ r.2.mem ((c.tc : Thread Cert.DequantKernelIdeal.nD Cert.DequantKernelIdeal.τ).loc Cert.DequantKernelIdeal.main_arg4) = m ((c.tc : Thread Cert.DequantKernelIdeal.nD Cert.DequantKernelIdeal.τ).loc Cert.DequantKernelIdeal.main_arg4))
      ∧ θ_run (Cert.DequantReferenceIdeal.defs (F := Ideal)) (onTc (τ := Cert.DequantReferenceIdeal.τ) (Cert.DequantReferenceIdeal.main (F := Ideal))) ⟨m', fun _ => 0, g'⟩ (fun r => ∀ c : Dev Cert.DequantReferenceIdeal.nD,
          r.2.mem ((c.tc : Thread Cert.DequantReferenceIdeal.nD Cert.DequantReferenceIdeal.τ).loc Cert.DequantReferenceIdeal.main_v46) = v0 c
          ∧ r.2.mem ((c.tc : Thread Cert.DequantReferenceIdeal.nD Cert.DequantReferenceIdeal.τ).loc Cert.DequantReferenceIdeal.main_arg0) = m' ((c.tc : Thread Cert.DequantReferenceIdeal.nD Cert.DequantReferenceIdeal.τ).loc Cert.DequantReferenceIdeal.main_arg0)
          ∧ r.2.mem ((c.tc : Thread Cert.DequantReferenceIdeal.nD Cert.DequantReferenceIdeal.τ).loc Cert.DequantReferenceIdeal.main_arg1) = m' ((c.tc : Thread Cert.DequantReferenceIdeal.nD Cert.DequantReferenceIdeal.τ).loc Cert.DequantReferenceIdeal.main_arg1)
          ∧ r.2.mem ((c.tc : Thread Cert.DequantReferenceIdeal.nD Cert.DequantReferenceIdeal.τ).loc Cert.DequantReferenceIdeal.main_arg2) = m' ((c.tc : Thread Cert.DequantReferenceIdeal.nD Cert.DequantReferenceIdeal.τ).loc Cert.DequantReferenceIdeal.main_arg2)
          ∧ r.2.mem ((c.tc : Thread Cert.DequantReferenceIdeal.nD Cert.DequantReferenceIdeal.τ).loc Cert.DequantReferenceIdeal.main_arg3) = m' ((c.tc : Thread Cert.DequantReferenceIdeal.nD Cert.DequantReferenceIdeal.τ).loc Cert.DequantReferenceIdeal.main_arg3)
          ∧ r.2.mem ((c.tc : Thread Cert.DequantReferenceIdeal.nD Cert.DequantReferenceIdeal.τ).loc Cert.DequantReferenceIdeal.main_arg4) = m' ((c.tc : Thread Cert.DequantReferenceIdeal.nD Cert.DequantReferenceIdeal.τ).loc Cert.DequantReferenceIdeal.main_arg4))

def preserves_DequantUKernel_DequantUKernelIdeal : Prop :=
  True

def algebraic_DequantUKernelIdeal_DequantUReferenceIdeal [hDequantUKernelIdeal : Cert.DequantUKernelIdeal.Facts] [hDequantUReferenceIdeal : Cert.DequantUReferenceIdeal.Facts] : Prop :=
  ∀ (m : (ℓ : Loc Cert.DequantUKernelIdeal.nD Cert.DequantUKernelIdeal.τ Cert.DequantUKernelIdeal.sig) → Buf (Elt Ideal) ℓ) (g : Dev Cert.DequantUKernelIdeal.nD → PrngReg)
    (m' : (ℓ : Loc Cert.DequantUReferenceIdeal.nD Cert.DequantUReferenceIdeal.τ Cert.DequantUReferenceIdeal.sig) → Buf (Elt Ideal) ℓ) (g' : Dev Cert.DequantUReferenceIdeal.nD → PrngReg), Pre_DequantUKernelIdeal m →
    (∀ c : Dev Cert.DequantUKernelIdeal.nD,
      m' ((c.tc : Thread Cert.DequantUReferenceIdeal.nD Cert.DequantUReferenceIdeal.τ).loc Cert.DequantUReferenceIdeal.main_arg0) = m ((c.tc : Thread Cert.DequantUKernelIdeal.nD Cert.DequantUKernelIdeal.τ).loc Cert.DequantUKernelIdeal.main_arg0)
      ∧ m' ((c.tc : Thread Cert.DequantUReferenceIdeal.nD Cert.DequantUReferenceIdeal.τ).loc Cert.DequantUReferenceIdeal.main_arg1) = m ((c.tc : Thread Cert.DequantUKernelIdeal.nD Cert.DequantUKernelIdeal.τ).loc Cert.DequantUKernelIdeal.main_arg1)
      ∧ m' ((c.tc : Thread Cert.DequantUReferenceIdeal.nD Cert.DequantUReferenceIdeal.τ).loc Cert.DequantUReferenceIdeal.main_arg2) = m ((c.tc : Thread Cert.DequantUKernelIdeal.nD Cert.DequantUKernelIdeal.τ).loc Cert.DequantUKernelIdeal.main_arg2)
      ∧ m' ((c.tc : Thread Cert.DequantUReferenceIdeal.nD Cert.DequantUReferenceIdeal.τ).loc Cert.DequantUReferenceIdeal.main_arg3) = m ((c.tc : Thread Cert.DequantUKernelIdeal.nD Cert.DequantUKernelIdeal.τ).loc Cert.DequantUKernelIdeal.main_arg3)
      ∧ m' ((c.tc : Thread Cert.DequantUReferenceIdeal.nD Cert.DequantUReferenceIdeal.τ).loc Cert.DequantUReferenceIdeal.main_arg4) = m ((c.tc : Thread Cert.DequantUKernelIdeal.nD Cert.DequantUKernelIdeal.τ).loc Cert.DequantUKernelIdeal.main_arg4)) →
    ∃ (v0 : (c : Dev Cert.DequantUKernelIdeal.nD) → Buf (Elt Ideal) ((c.tc : Thread Cert.DequantUKernelIdeal.nD Cert.DequantUKernelIdeal.τ).loc Cert.DequantUKernelIdeal.main_v5)),
      θ_run (Cert.DequantUKernelIdeal.defs (F := Ideal)) (onTc (τ := Cert.DequantUKernelIdeal.τ) (Cert.DequantUKernelIdeal.main (F := Ideal))) ⟨m, fun _ => 0, g⟩ (fun r => ∀ c : Dev Cert.DequantUKernelIdeal.nD,
          r.2.mem ((c.tc : Thread Cert.DequantUKernelIdeal.nD Cert.DequantUKernelIdeal.τ).loc Cert.DequantUKernelIdeal.main_v5) = v0 c
          ∧ r.2.mem ((c.tc : Thread Cert.DequantUKernelIdeal.nD Cert.DequantUKernelIdeal.τ).loc Cert.DequantUKernelIdeal.main_arg0) = m ((c.tc : Thread Cert.DequantUKernelIdeal.nD Cert.DequantUKernelIdeal.τ).loc Cert.DequantUKernelIdeal.main_arg0)
          ∧ r.2.mem ((c.tc : Thread Cert.DequantUKernelIdeal.nD Cert.DequantUKernelIdeal.τ).loc Cert.DequantUKernelIdeal.main_arg1) = m ((c.tc : Thread Cert.DequantUKernelIdeal.nD Cert.DequantUKernelIdeal.τ).loc Cert.DequantUKernelIdeal.main_arg1)
          ∧ r.2.mem ((c.tc : Thread Cert.DequantUKernelIdeal.nD Cert.DequantUKernelIdeal.τ).loc Cert.DequantUKernelIdeal.main_arg2) = m ((c.tc : Thread Cert.DequantUKernelIdeal.nD Cert.DequantUKernelIdeal.τ).loc Cert.DequantUKernelIdeal.main_arg2)
          ∧ r.2.mem ((c.tc : Thread Cert.DequantUKernelIdeal.nD Cert.DequantUKernelIdeal.τ).loc Cert.DequantUKernelIdeal.main_arg3) = m ((c.tc : Thread Cert.DequantUKernelIdeal.nD Cert.DequantUKernelIdeal.τ).loc Cert.DequantUKernelIdeal.main_arg3)
          ∧ r.2.mem ((c.tc : Thread Cert.DequantUKernelIdeal.nD Cert.DequantUKernelIdeal.τ).loc Cert.DequantUKernelIdeal.main_arg4) = m ((c.tc : Thread Cert.DequantUKernelIdeal.nD Cert.DequantUKernelIdeal.τ).loc Cert.DequantUKernelIdeal.main_arg4))
      ∧ θ_run (Cert.DequantUReferenceIdeal.defs (F := Ideal)) (onTc (τ := Cert.DequantUReferenceIdeal.τ) (Cert.DequantUReferenceIdeal.main (F := Ideal))) ⟨m', fun _ => 0, g'⟩ (fun r => ∀ c : Dev Cert.DequantUReferenceIdeal.nD,
          r.2.mem ((c.tc : Thread Cert.DequantUReferenceIdeal.nD Cert.DequantUReferenceIdeal.τ).loc Cert.DequantUReferenceIdeal.main_v47) = v0 c
          ∧ r.2.mem ((c.tc : Thread Cert.DequantUReferenceIdeal.nD Cert.DequantUReferenceIdeal.τ).loc Cert.DequantUReferenceIdeal.main_arg0) = m' ((c.tc : Thread Cert.DequantUReferenceIdeal.nD Cert.DequantUReferenceIdeal.τ).loc Cert.DequantUReferenceIdeal.main_arg0)
          ∧ r.2.mem ((c.tc : Thread Cert.DequantUReferenceIdeal.nD Cert.DequantUReferenceIdeal.τ).loc Cert.DequantUReferenceIdeal.main_arg1) = m' ((c.tc : Thread Cert.DequantUReferenceIdeal.nD Cert.DequantUReferenceIdeal.τ).loc Cert.DequantUReferenceIdeal.main_arg1)
          ∧ r.2.mem ((c.tc : Thread Cert.DequantUReferenceIdeal.nD Cert.DequantUReferenceIdeal.τ).loc Cert.DequantUReferenceIdeal.main_arg2) = m' ((c.tc : Thread Cert.DequantUReferenceIdeal.nD Cert.DequantUReferenceIdeal.τ).loc Cert.DequantUReferenceIdeal.main_arg2)
          ∧ r.2.mem ((c.tc : Thread Cert.DequantUReferenceIdeal.nD Cert.DequantUReferenceIdeal.τ).loc Cert.DequantUReferenceIdeal.main_arg3) = m' ((c.tc : Thread Cert.DequantUReferenceIdeal.nD Cert.DequantUReferenceIdeal.τ).loc Cert.DequantUReferenceIdeal.main_arg3)
          ∧ r.2.mem ((c.tc : Thread Cert.DequantUReferenceIdeal.nD Cert.DequantUReferenceIdeal.τ).loc Cert.DequantUReferenceIdeal.main_arg4) = m' ((c.tc : Thread Cert.DequantUReferenceIdeal.nD Cert.DequantUReferenceIdeal.τ).loc Cert.DequantUReferenceIdeal.main_arg4))

def Claim : Prop :=
  ∃ (hKernel : Cert.Kernel.Facts) (hKernelIdeal : Cert.KernelIdeal.Facts) (hReferenceIdeal : Cert.ReferenceIdeal.Facts) (hQuantKernel : Cert.QuantKernel.Facts) (hQuantKernelIdeal : Cert.QuantKernelIdeal.Facts) (hQuantReferenceIdeal : Cert.QuantReferenceIdeal.Facts) (hDequantKernel : Cert.DequantKernel.Facts) (hDequantKernelIdeal : Cert.DequantKernelIdeal.Facts) (hDequantReferenceIdeal : Cert.DequantReferenceIdeal.Facts) (hDequantUKernel : Cert.DequantUKernel.Facts) (hDequantUKernelIdeal : Cert.DequantUKernelIdeal.Facts) (hDequantUReferenceIdeal : Cert.DequantUReferenceIdeal.Facts) (hPre_sizes_partition_rows : Cert.Pre_sizes_partition_rows.Facts) (hPre_finite_and_sizes_partition_rows : Cert.Pre_finite_and_sizes_partition_rows.Facts),
    quiescent_Kernel (hKernel := hKernel)
    ∧ quiescent_KernelIdeal (hKernelIdeal := hKernelIdeal)
    ∧ quiescent_KernelIdeal_pre_sizes_partition_rows (hKernelIdeal := hKernelIdeal) (hPre_sizes_partition_rows := hPre_sizes_partition_rows)
    ∧ quiescent_ReferenceIdeal (hReferenceIdeal := hReferenceIdeal)
    ∧ quiescent_ReferenceIdeal_pre_sizes_partition_rows (hReferenceIdeal := hReferenceIdeal) (hPre_sizes_partition_rows := hPre_sizes_partition_rows)
    ∧ quiescent_QuantKernel (hQuantKernel := hQuantKernel)
    ∧ quiescent_QuantKernelIdeal (hQuantKernelIdeal := hQuantKernelIdeal)
    ∧ quiescent_QuantKernelIdeal_pre_finite_and_sizes_partition_rows (hQuantKernelIdeal := hQuantKernelIdeal) (hPre_finite_and_sizes_partition_rows := hPre_finite_and_sizes_partition_rows)
    ∧ quiescent_QuantReferenceIdeal (hQuantReferenceIdeal := hQuantReferenceIdeal)
    ∧ quiescent_QuantReferenceIdeal_pre_finite_and_sizes_partition_rows (hQuantReferenceIdeal := hQuantReferenceIdeal) (hPre_finite_and_sizes_partition_rows := hPre_finite_and_sizes_partition_rows)
    ∧ quiescent_DequantKernel (hDequantKernel := hDequantKernel)
    ∧ quiescent_DequantKernelIdeal (hDequantKernelIdeal := hDequantKernelIdeal)
    ∧ quiescent_DequantReferenceIdeal (hDequantReferenceIdeal := hDequantReferenceIdeal)
    ∧ quiescent_DequantUKernel (hDequantUKernel := hDequantUKernel)
    ∧ quiescent_DequantUKernelIdeal (hDequantUKernelIdeal := hDequantUKernelIdeal)
    ∧ quiescent_DequantUReferenceIdeal (hDequantUReferenceIdeal := hDequantUReferenceIdeal)
    ∧ preserves_Kernel_KernelIdeal
    ∧ algebraic_KernelIdeal_ReferenceIdeal_pre_sizes_partition_rows (hKernelIdeal := hKernelIdeal) (hReferenceIdeal := hReferenceIdeal) (hPre_sizes_partition_rows := hPre_sizes_partition_rows)
    ∧ preserves_QuantKernel_QuantKernelIdeal
    ∧ algebraic_QuantKernelIdeal_QuantReferenceIdeal_pre_finite_and_sizes_partition_rows (hQuantKernelIdeal := hQuantKernelIdeal) (hQuantReferenceIdeal := hQuantReferenceIdeal) (hPre_finite_and_sizes_partition_rows := hPre_finite_and_sizes_partition_rows)
    ∧ preserves_DequantKernel_DequantKernelIdeal
    ∧ algebraic_DequantKernelIdeal_DequantReferenceIdeal (hDequantKernelIdeal := hDequantKernelIdeal) (hDequantReferenceIdeal := hDequantReferenceIdeal)
    ∧ preserves_DequantUKernel_DequantUKernelIdeal
    ∧ algebraic_DequantUKernelIdeal_DequantUReferenceIdeal (hDequantUKernelIdeal := hDequantUKernelIdeal) (hDequantUReferenceIdeal := hDequantUReferenceIdeal)
-- ==== Pre_finite_and_sizes_partition_rows.lean ====
abbrev S5 : Shape := ⟨1, ![5]⟩
abbrev S2x2560x3072 : Shape := ⟨3, ![2, 2560, 3072]⟩
abbrev S5x3072x256 : Shape := ⟨3, ![5, 3072, 256]⟩
abbrev S5x256 : Shape := ⟨2, ![5, 256]⟩
abbrev S_ : Shape := ⟨0, ![]⟩

class Facts : Prop where
  bcast_S_S5 : S_.BroadcastsInDim S5 (![] : Fin 0 → Fin S5.rank)
  reducesTo_S5_S_d0 : S5.ReducesTo [0] S_
  h_S_ : 0 < S_.numel
  bitsLt_bf16_f32 : FTy.bits .bf16 < FTy.bits .f32
  bcast_S_S2x2560x3072 : S_.BroadcastsInDim S2x2560x3072 (![] : Fin 0 → Fin S2x2560x3072.rank)
  reducesTo_S2x2560x3072_S_d0_1_2 : S2x2560x3072.ReducesTo [0, 1, 2] S_

variable [Facts]

def fn {F : FTy → Type} [FloatOps F] (main_arg0 : IVec S5 32) (main_arg1 : FVec F S2x2560x3072 .bf16) (main_arg2 : FVec F S5x3072x256 .bf16) (main_arg3 : FVec F S5x256 .f32) : IVec S_ 1 :=
  let main_c : IVec S_ 32 := constantI S_ 32 0#32
  let main_v0 : IVec S5 32 := broadcastInDim S5 ![] bcast_S_S5 main_c
  let main_v1 : IVec S5 1 := cmpi .sge main_arg0 main_v0
  let main_c_0 : IVec S_ 32 := constantI S_ 32 5120#32
  let main_v2 : IVec S5 32 := broadcastInDim S5 ![] bcast_S_S5 main_c_0
  let main_v3 : IVec S5 1 := cmpi .sle main_arg0 main_v2
  let main_v4 : IVec S5 1 := andi main_v1 main_v3
  let main_c_1 : IVec S_ 1 := constantI S_ 1 1#1
  let main_v5 : IVec S_ 1 := (fun x v => Host.reduce IntOp.andi x v reducesTo_S5_S_d0 h_S_) main_v4 main_c_1
  let main_c_2 : IVec S_ 32 := constantI S_ 32 0#32
  let main_v6 : IVec S_ 32 := (fun x v => Host.reduce IntOp.addi x v reducesTo_S5_S_d0 h_S_) main_arg0 main_c_2
  let main_c_3 : IVec S_ 32 := constantI S_ 32 5120#32
  let main_v7 : IVec S_ 1 := cmpi .eq main_v6 main_c_3
  let main_v8 : IVec S_ 1 := andi main_v5 main_v7
  let main_v9 : FVec F S2x2560x3072 .f32 := (extf .f32 · bitsLt_bf16_f32) main_arg1
  let main_v10 : FVec F S2x2560x3072 .f32 := Host.absf main_v9
  let main_cst : FVec F S_ .f32 := constant S_ .f32 0x7F7FC99E#32
  let main_v11 : FVec F S2x2560x3072 .f32 := broadcastInDim S2x2560x3072 ![] bcast_S_S2x2560x3072 main_cst
  let main_v12 : IVec S2x2560x3072 1 := cmpf .ole main_v10 main_v11
  let main_c_4 : IVec S_ 1 := constantI S_ 1 1#1
  let main_v13 : IVec S_ 1 := (fun x v => Host.reduce IntOp.andi x v reducesTo_S2x2560x3072_S_d0_1_2 h_S_) main_v12 main_c_4
  let main_v14 : IVec S_ 1 := andi main_v8 main_v13
  main_v14
-- ==== Pre_sizes_partition_rows.lean ====
abbrev S5 : Shape := ⟨1, ![5]⟩
abbrev S5120x3072 : Shape := ⟨2, ![5120, 3072]⟩
abbrev S3072x8192 : Shape := ⟨2, ![3072, 8192]⟩
abbrev S8192 : Shape := ⟨1, ![8192]⟩
abbrev S5120x1 : Shape := ⟨2, ![5120, 1]⟩
abbrev S5120x256 : Shape := ⟨2, ![5120, 256]⟩
abbrev S5x8192x256 : Shape := ⟨3, ![5, 8192, 256]⟩
abbrev S_ : Shape := ⟨0, ![]⟩

class Facts : Prop where
  bcast_S_S5 : S_.BroadcastsInDim S5 (![] : Fin 0 → Fin S5.rank)
  reducesTo_S5_S_d0 : S5.ReducesTo [0] S_
  h_S_ : 0 < S_.numel

variable [Facts]

def fn {F : FTy → Type} [FloatOps F] (main_arg0 : IVec S5 32) (main_arg1 : FVec F S5120x3072 .fp8e4m3) (main_arg2 : FVec F S3072x8192 .fp8e4m3) (main_arg3 : FVec F S8192 .f32) (main_arg4 : FVec F S5120x1 .f32) (main_arg5 : FVec F S5120x256 .bf16) (main_arg6 : FVec F S5x8192x256 .bf16) : IVec S_ 1 :=
  let main_c : IVec S_ 32 := constantI S_ 32 0#32
  let main_v0 : IVec S5 32 := broadcastInDim S5 ![] bcast_S_S5 main_c
  let main_v1 : IVec S5 1 := cmpi .sge main_arg0 main_v0
  let main_c_0 : IVec S_ 32 := constantI S_ 32 5120#32
  let main_v2 : IVec S5 32 := broadcastInDim S5 ![] bcast_S_S5 main_c_0
  let main_v3 : IVec S5 1 := cmpi .sle main_arg0 main_v2
  let main_v4 : IVec S5 1 := andi main_v1 main_v3
  let main_c_1 : IVec S_ 1 := constantI S_ 1 1#1
  let main_v5 : IVec S_ 1 := (fun x v => Host.reduce IntOp.andi x v reducesTo_S5_S_d0 h_S_) main_v4 main_c_1
  let main_c_2 : IVec S_ 32 := constantI S_ 32 0#32
  let main_v6 : IVec S_ 32 := (fun x v => Host.reduce IntOp.addi x v reducesTo_S5_S_d0 h_S_) main_arg0 main_c_2
  let main_c_3 : IVec S_ 32 := constantI S_ 32 5120#32
  let main_v7 : IVec S_ 1 := cmpi .eq main_v6 main_c_3
  let main_v8 : IVec S_ 1 := andi main_v5 main_v7
  main_v8
-- ==== Kernel.lean ====
abbrev S5 : Shape := ⟨1, ![5]⟩
abbrev S5120x3072 : Shape := ⟨2, ![5120, 3072]⟩
abbrev S3072x8192 : Shape := ⟨2, ![3072, 8192]⟩
abbrev S8192 : Shape := ⟨1, ![8192]⟩
abbrev S5120x1 : Shape := ⟨2, ![5120, 1]⟩
abbrev S5120x256 : Shape := ⟨2, ![5120, 256]⟩
abbrev S5x8192x256 : Shape := ⟨3, ![5, 8192, 256]⟩
abbrev S5120x128 : Shape := ⟨2, ![5120, 128]⟩
abbrev S1x8192 : Shape := ⟨2, ![1, 8192]⟩
abbrev S5120x8192 : Shape := ⟨2, ![5120, 8192]⟩
abbrev S512x3072 : Shape := ⟨2, ![512, 3072]⟩
abbrev S3072x1024 : Shape := ⟨2, ![3072, 1024]⟩
abbrev S1x1024 : Shape := ⟨2, ![1, 1024]⟩
abbrev S512x128 : Shape := ⟨2, ![512, 128]⟩
abbrev S512x256 : Shape := ⟨2, ![512, 256]⟩
abbrev S5x1024x256 : Shape := ⟨3, ![5, 1024, 256]⟩
abbrev S512x1024 : Shape := ⟨2, ![512, 1024]⟩
abbrev S1 : Shape := ⟨1, ![1]⟩
abbrev S1x1024x256 : Shape := ⟨3, ![1, 1024, 256]⟩
abbrev S1024x256 : Shape := ⟨2, ![1024, 256]⟩
abbrev S512x1 : Shape := ⟨2, ![512, 1]⟩
abbrev S1x128 : Shape := ⟨2, ![1, 128]⟩

abbrev nBuf : Space → Nat
  | .hbm => 11
  | .vmem => 16
  | .smem => 1
  | _ => 0

abbrev bufTy : (tb : Table) → Fin (tcTables nBuf tb) → BufTy
  | .hbm, ⟨0, _⟩ => ⟨S5, .i32⟩
  | .hbm, ⟨1, _⟩ => ⟨S5120x3072, .fp8e4m3⟩
  | .hbm, ⟨2, _⟩ => ⟨S3072x8192, .fp8e4m3⟩
  | .hbm, ⟨3, _⟩ => ⟨S8192, .f32⟩
  | .hbm, ⟨4, _⟩ => ⟨S5120x1, .f32⟩
  | .hbm, ⟨5, _⟩ => ⟨S5120x256, .bf16⟩
  | .hbm, ⟨6, _⟩ => ⟨S5x8192x256, .bf16⟩
  | .hbm, ⟨7, _⟩ => ⟨S5120x128, .f32⟩
  | .hbm, ⟨8, _⟩ => ⟨S1x8192, .f32⟩
  | .hbm, ⟨9, _⟩ => ⟨S5120x8192, .bf16⟩
  | .hbm, ⟨10, _⟩ => ⟨S5120x8192, .f32⟩
  | .local _ .vmem, ⟨0, _⟩ => ⟨S512x3072, .fp8e4m3⟩
  | .local _ .vmem, ⟨1, _⟩ => ⟨S512x3072, .fp8e4m3⟩
  | .local _ .vmem, ⟨2, _⟩ => ⟨S3072x1024, .fp8e4m3⟩
  | .local _ .vmem, ⟨3, _⟩ => ⟨S3072x1024, .fp8e4m3⟩
  | .local _ .vmem, ⟨4, _⟩ => ⟨S1x1024, .f32⟩
  | .local _ .vmem, ⟨5, _⟩ => ⟨S1x1024, .f32⟩
  | .local _ .vmem, ⟨6, _⟩ => ⟨S512x128, .f32⟩
  | .local _ .vmem, ⟨7, _⟩ => ⟨S512x128, .f32⟩
  | .local _ .vmem, ⟨8, _⟩ => ⟨S512x256, .bf16⟩
  | .local _ .vmem, ⟨9, _⟩ => ⟨S512x256, .bf16⟩
  | .local _ .vmem, ⟨10, _⟩ => ⟨S5x1024x256, .bf16⟩
  | .local _ .vmem, ⟨11, _⟩ => ⟨S5x1024x256, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | .local _ .vmem, ⟨15, _⟩ => ⟨S512x1024, .f32⟩
  | .local _ .smem, ⟨0, _⟩ => ⟨S5, .i32⟩
  | _, _ => ⟨S5, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 10], ![false, false]⟩

def k0_off1 (i : grid0.Coords) (v1 : BitVec 32) (v11 : BitVec 32) (v21 : BitVec 32) (v31 : BitVec 32) : Fin 3 → Nat :=
  let c0_i32_0 : BitVec 32 := 0#32
  let c0_i32 : BitVec 32 := 0#32
  let v2 : BitVec 32 := Scalar.addi c0_i32 v1
  let arg1 : BitVec 32 := BitVec.ofNat 32 (i 1).val
  let c512_i32 : BitVec 32 := 512#32
  let v0 : BitVec 32 := Scalar.muli arg1 c512_i32
  let v3 : BitVec 1 := Scalar.cmpi .sle v2 v0
  let v4 : BitVec 32 := Scalar.extui v3
  let v5 : BitVec 32 := Scalar.addi c0_i32_0 v4
  let v12 : BitVec 32 := Scalar.addi v2 v11
  let v13 : BitVec 1 := Scalar.cmpi .sle v12 v0
  let v14 : BitVec 32 := Scalar.extui v13
  let v15 : BitVec 32 := Scalar.addi v5 v14
  let v22 : BitVec 32 := Scalar.addi v12 v21
  let v23 : BitVec 1 := Scalar.cmpi .sle v22 v0
  let v24 : BitVec 32 := Scalar.extui v23
  let v25 : BitVec 32 := Scalar.addi v15 v24
  let v32 : BitVec 32 := Scalar.addi v22 v31
  let v33 : BitVec 1 := Scalar.cmpi .sle v32 v0
  let v34 : BitVec 32 := Scalar.extui v33
  let v35 : BitVec 32 := Scalar.addi v25 v34
  let v42 : Index := Scalar.indexCast v35
  let c0_11 : Index := 0#32
  let c0_12 : Index := 0#32
  ![v42.toNat, 0, 0]

@[reducible] def k0_t1_loop (i : grid0.Coords) (v1 : BitVec 32) (v11 : BitVec 32) (v21 : BitVec 32) (v31 : BitVec 32) : Scf.Loop 32 :=
  let c0_i32_0 : BitVec 32 := 0#32
  let c0_i32 : BitVec 32 := 0#32
  let v2 : BitVec 32 := Scalar.addi c0_i32 v1
  let arg1 : BitVec 32 := BitVec.ofNat 32 (i 1).val
  let c512_i32 : BitVec 32 := 512#32
  let v0 : BitVec 32 := Scalar.muli arg1 c512_i32
  let v3 : BitVec 1 := Scalar.cmpi .sle v2 v0
  let v4 : BitVec 32 := Scalar.extui v3
  let v5 : BitVec 32 := Scalar.addi c0_i32_0 v4
  let v12 : BitVec 32 := Scalar.addi v2 v11
  let v13 : BitVec 1 := Scalar.cmpi .sle v12 v0
  let v14 : BitVec 32 := Scalar.extui v13
  let v15 : BitVec 32 := Scalar.addi v5 v14
  let v22 : BitVec 32 := Scalar.addi v12 v21
  let v23 : BitVec 1 := Scalar.cmpi .sle v22 v0
  let v24 : BitVec 32 := Scalar.extui v23
  let v25 : BitVec 32 := Scalar.addi v15 v24
  let v32 : BitVec 32 := Scalar.addi v22 v31
  let v33 : BitVec 1 := Scalar.cmpi .sle v32 v0
  let v34 : BitVec 32 := Scalar.extui v33
  let v35 : BitVec 32 := Scalar.addi v25 v34
  let c1_i32_15 : BitVec 32 := 1#32
  let v47 : BitVec 32 := Scalar.addi v35 c1_i32_15
  let c0_i32_2 : BitVec 32 := 0#32
  let c512_i32_1 : BitVec 32 := 512#32
  let v6 : BitVec 32 := Scalar.addi v0 c512_i32_1
  let c1_i32 : BitVec 32 := 1#32
  let v7 : BitVec 32 := Scalar.subi v6 c1_i32
  let v8 : BitVec 1 := Scalar.cmpi .sle v2 v7
  let v9 : BitVec 32 := Scalar.extui v8
  let v10 : BitVec 32 := Scalar.addi c0_i32_2 v9
  let c512_i32_3 : BitVec 32 := 512#32
  let v16 : BitVec 32 := Scalar.addi v0 c512_i32_3
  let c1_i32_4 : BitVec 32 := 1#32
  let v17 : BitVec 32 := Scalar.subi v16 c1_i32_4
  let v18 : BitVec 1 := Scalar.cmpi .sle v12 v17
  let v19 : BitVec 32 := Scalar.extui v18
  let v20 : BitVec 32 := Scalar.addi v10 v19
  let c512_i32_5 : BitVec 32 := 512#32
  let v26 : BitVec 32 := Scalar.addi v0 c512_i32_5
  let c1_i32_6 : BitVec 32 := 1#32
  let v27 : BitVec 32 := Scalar.subi v26 c1_i32_6
  let v28 : BitVec 1 := Scalar.cmpi .sle v22 v27
  let v29 : BitVec 32 := Scalar.extui v28
  let v30 : BitVec 32 := Scalar.addi v20 v29
  let c512_i32_7 : BitVec 32 := 512#32
  let v36 : BitVec 32 := Scalar.addi v0 c512_i32_7
  let c1_i32_8 : BitVec 32 := 1#32
  let v37 : BitVec 32 := Scalar.subi v36 c1_i32_8
  let v38 : BitVec 1 := Scalar.cmpi .sle v32 v37
  let v39 : BitVec 32 := Scalar.extui v38
  let v40 : BitVec 32 := Scalar.addi v30 v39
  let c1_i32_16 : BitVec 32 := 1#32
  let v48 : BitVec 32 := Scalar.addi v40 c1_i32_16
  let v49 : BitVec 32 := Scalar.subi v48 v47
  let c1_i32_18 : BitVec 32 := 1#32
  let v51 : BitVec 32 := Scalar.divsi v49 c1_i32_18
  let v52 : BitVec 32 := Scalar.muli v51 c1_i32_18
  let v53 : BitVec 32 := Scalar.addi v47 v52
  let c1_i32_19 : BitVec 32 := 1#32
  ⟨v47, v53, c1_i32_19⟩
def k0_off2 (i : grid0.Coords) (v1 : BitVec 32) (v11 : BitVec 32) (v21 : BitVec 32) (v31 : BitVec 32) (k0_t1 : Fin (k0_t1_loop i v1 v11 v21 v31).trips) : Fin 3 → Nat :=
  let c0_i32_0 : BitVec 32 := 0#32
  let c0_i32 : BitVec 32 := 0#32
  let v2 : BitVec 32 := Scalar.addi c0_i32 v1
  let arg1 : BitVec 32 := BitVec.ofNat 32 (i 1).val
  let c512_i32 : BitVec 32 := 512#32
  let v0 : BitVec 32 := Scalar.muli arg1 c512_i32
  let v3 : BitVec 1 := Scalar.cmpi .sle v2 v0
  let v4 : BitVec 32 := Scalar.extui v3
  let v5 : BitVec 32 := Scalar.addi c0_i32_0 v4
  let v12 : BitVec 32 := Scalar.addi v2 v11
  let v13 : BitVec 1 := Scalar.cmpi .sle v12 v0
  let v14 : BitVec 32 := Scalar.extui v13
  let v15 : BitVec 32 := Scalar.addi v5 v14
  let v22 : BitVec 32 := Scalar.addi v12 v21
  let v23 : BitVec 1 := Scalar.cmpi .sle v22 v0
  let v24 : BitVec 32 := Scalar.extui v23
  let v25 : BitVec 32 := Scalar.addi v15 v24
  let v32 : BitVec 32 := Scalar.addi v22 v31
  let v33 : BitVec 1 := Scalar.cmpi .sle v32 v0
  let v34 : BitVec 32 := Scalar.extui v33
  let v35 : BitVec 32 := Scalar.addi v25 v34
  let c1_i32_15 : BitVec 32 := 1#32
  let v47 : BitVec 32 := Scalar.addi v35 c1_i32_15
  let c1_i32_19 : BitVec 32 := 1#32
  let arg11 : BitVec 32 := Scf.iv v47 c1_i32_19 k0_t1
  let v171 : Index := Scalar.indexCast arg11
  let c0_82 : Index := 0#32
  let c0_83 : Index := 0#32
  ![v171.toNat, 0, 0]
@[reducible] def k0_t2_loop (i : grid0.Coords) (v1 : BitVec 32) (v11 : BitVec 32) (v21 : BitVec 32) (v31 : BitVec 32) : Scf.Loop 32 :=
  let c0_i32_0 : BitVec 32 := 0#32
  let c0_i32 : BitVec 32 := 0#32
  let v2 : BitVec 32 := Scalar.addi c0_i32 v1
  let arg1 : BitVec 32 := BitVec.ofNat 32 (i 1).val
  let c512_i32 : BitVec 32 := 512#32
  let v0 : BitVec 32 := Scalar.muli arg1 c512_i32
  let v3 : BitVec 1 := Scalar.cmpi .sle v2 v0
  let v4 : BitVec 32 := Scalar.extui v3
  let v5 : BitVec 32 := Scalar.addi c0_i32_0 v4
  let v12 : BitVec 32 := Scalar.addi v2 v11
  let v13 : BitVec 1 := Scalar.cmpi .sle v12 v0
  let v14 : BitVec 32 := Scalar.extui v13
  let v15 : BitVec 32 := Scalar.addi v5 v14
  let v22 : BitVec 32 := Scalar.addi v12 v21
  let v23 : BitVec 1 := Scalar.cmpi .sle v22 v0
  let v24 : BitVec 32 := Scalar.extui v23
  let v25 : BitVec 32 := Scalar.addi v15 v24
  let v32 : BitVec 32 := Scalar.addi v22 v31
  let v33 : BitVec 1 := Scalar.cmpi .sle v32 v0
  let v34 : BitVec 32 := Scalar.extui v33
  let v35 : BitVec 32 := Scalar.addi v25 v34
  let c1_i32_15 : BitVec 32 := 1#32
  let v47 : BitVec 32 := Scalar.addi v35 c1_i32_15
  let c0_i32_2 : BitVec 32 := 0#32
  let c512_i32_1 : BitVec 32 := 512#32
  let v6 : BitVec 32 := Scalar.addi v0 c512_i32_1
  let c1_i32 : BitVec 32 := 1#32
  let v7 : BitVec 32 := Scalar.subi v6 c1_i32
  let v8 : BitVec 1 := Scalar.cmpi .sle v2 v7
  let v9 : BitVec 32 := Scalar.extui v8
  let v10 : BitVec 32 := Scalar.addi c0_i32_2 v9
  let c512_i32_3 : BitVec 32 := 512#32
  let v16 : BitVec 32 := Scalar.addi v0 c512_i32_3
  let c1_i32_4 : BitVec 32 := 1#32
  let v17 : BitVec 32 := Scalar.subi v16 c1_i32_4
  let v18 : BitVec 1 := Scalar.cmpi .sle v12 v17
  let v19 : BitVec 32 := Scalar.extui v18
  let v20 : BitVec 32 := Scalar.addi v10 v19
  let c512_i32_5 : BitVec 32 := 512#32
  let v26 : BitVec 32 := Scalar.addi v0 c512_i32_5
  let c1_i32_6 : BitVec 32 := 1#32
  let v27 : BitVec 32 := Scalar.subi v26 c1_i32_6
  let v28 : BitVec 1 := Scalar.cmpi .sle v22 v27
  let v29 : BitVec 32 := Scalar.extui v28
  let v30 : BitVec 32 := Scalar.addi v20 v29
  let c512_i32_7 : BitVec 32 := 512#32
  let v36 : BitVec 32 := Scalar.addi v0 c512_i32_7
  let c1_i32_8 : BitVec 32 := 1#32
  let v37 : BitVec 32 := Scalar.subi v36 c1_i32_8
  let v38 : BitVec 1 := Scalar.cmpi .sle v32 v37
  let v39 : BitVec 32 := Scalar.extui v38
  let v40 : BitVec 32 := Scalar.addi v30 v39
  let c1_i32_16 : BitVec 32 := 1#32
  let v48 : BitVec 32 := Scalar.addi v40 c1_i32_16
  let v49 : BitVec 32 := Scalar.subi v48 v47
  let c1_i32_18 : BitVec 32 := 1#32
  let v51 : BitVec 32 := Scalar.divsi v49 c1_i32_18
  let v52 : BitVec 32 := Scalar.muli v51 c1_i32_18
  let v53 : BitVec 32 := Scalar.addi v47 v52
  let v50 : BitVec 32 := Scalar.addi v47 v49
  let c1_i32_20 : BitVec 32 := 1#32
  ⟨v53, v50, c1_i32_20⟩
def k0_off3 (i : grid0.Coords) (v1 : BitVec 32) (v11 : BitVec 32) (v21 : BitVec 32) (v31 : BitVec 32) (k0_t2 : Fin (k0_t2_loop i v1 v11 v21 v31).trips) : Fin 3 → Nat :=
  let c0_i32_0 : BitVec 32 := 0#32
  let c0_i32 : BitVec 32 := 0#32
  let v2 : BitVec 32 := Scalar.addi c0_i32 v1
  let arg1 : BitVec 32 := BitVec.ofNat 32 (i 1).val
  let c512_i32 : BitVec 32 := 512#32
  let v0 : BitVec 32 := Scalar.muli arg1 c512_i32
  let v3 : BitVec 1 := Scalar.cmpi .sle v2 v0
  let v4 : BitVec 32 := Scalar.extui v3
  let v5 : BitVec 32 := Scalar.addi c0_i32_0 v4
  let v12 : BitVec 32 := Scalar.addi v2 v11
  let v13 : BitVec 1 := Scalar.cmpi .sle v12 v0
  let v14 : BitVec 32 := Scalar.extui v13
  let v15 : BitVec 32 := Scalar.addi v5 v14
  let v22 : BitVec 32 := Scalar.addi v12 v21
  let v23 : BitVec 1 := Scalar.cmpi .sle v22 v0
  let v24 : BitVec 32 := Scalar.extui v23
  let v25 : BitVec 32 := Scalar.addi v15 v24
  let v32 : BitVec 32 := Scalar.addi v22 v31
  let v33 : BitVec 1 := Scalar.cmpi .sle v32 v0
  let v34 : BitVec 32 := Scalar.extui v33
  let v35 : BitVec 32 := Scalar.addi v25 v34
  let c1_i32_15 : BitVec 32 := 1#32
  let v47 : BitVec 32 := Scalar.addi v35 c1_i32_15
  let c0_i32_2 : BitVec 32 := 0#32
  let c512_i32_1 : BitVec 32 := 512#32
  let v6 : BitVec 32 := Scalar.addi v0 c512_i32_1
  let c1_i32 : BitVec 32 := 1#32
  let v7 : BitVec 32 := Scalar.subi v6 c1_i32
  let v8 : BitVec 1 := Scalar.cmpi .sle v2 v7
  let v9 : BitVec 32 := Scalar.extui v8
  let v10 : BitVec 32 := Scalar.addi c0_i32_2 v9
  let c512_i32_3 : BitVec 32 := 512#32
  let v16 : BitVec 32 := Scalar.addi v0 c512_i32_3
  let c1_i32_4 : BitVec 32 := 1#32
  let v17 : BitVec 32 := Scalar.subi v16 c1_i32_4
  let v18 : BitVec 1 := Scalar.cmpi .sle v12 v17
  let v19 : BitVec 32 := Scalar.extui v18
  let v20 : BitVec 32 := Scalar.addi v10 v19
  let c512_i32_5 : BitVec 32 := 512#32
  let v26 : BitVec 32 := Scalar.addi v0 c512_i32_5
  let c1_i32_6 : BitVec 32 := 1#32
  let v27 : BitVec 32 := Scalar.subi v26 c1_i32_6
  let v28 : BitVec 1 := Scalar.cmpi .sle v22 v27
  let v29 : BitVec 32 := Scalar.extui v28
  let v30 : BitVec 32 := Scalar.addi v20 v29
  let c512_i32_7 : BitVec 32 := 512#32
  let v36 : BitVec 32 := Scalar.addi v0 c512_i32_7
  let c1_i32_8 : BitVec 32 := 1#32
  let v37 : BitVec 32 := Scalar.subi v36 c1_i32_8
  let v38 : BitVec 1 := Scalar.cmpi .sle v32 v37
  let v39 : BitVec 32 := Scalar.extui v38
  let v40 : BitVec 32 := Scalar.addi v30 v39
  let c1_i32_16 : BitVec 32 := 1#32
  let v48 : BitVec 32 := Scalar.addi v40 c1_i32_16
  let v49 : BitVec 32 := Scalar.subi v48 v47
  let c1_i32_18 : BitVec 32 := 1#32
  let v51 : BitVec 32 := Scalar.divsi v49 c1_i32_18
  let v52 : BitVec 32 := Scalar.muli v51 c1_i32_18
  let v53 : BitVec 32 := Scalar.addi v47 v52
  let c1_i32_20 : BitVec 32 := 1#32
  let arg11 : BitVec 32 := Scf.iv v53 c1_i32_20 k0_t2
  let v171 : Index := Scalar.indexCast arg11
  let c0_82 : Index := 0#32
  let c0_83 : Index := 0#32
  ![v171.toNat, 0, 0]

def k0_chk1 (i : grid0.Coords) (v1 : BitVec 32) (v11 : BitVec 32) (v21 : BitVec 32) (v31 : BitVec 32) : Prop :=
  (∀ a, (k0_off1 i v1 v11 v21 v31) a + S1x1024x256.size a ≤ S5x1024x256.size a) ∧
  ((k0_t1_loop i v1 v11 v21 v31).OK) ∧
  (∀ k0_t1 : Fin (k0_t1_loop i v1 v11 v21 v31).trips, ∀ a, (k0_off2 i v1 v11 v21 v31 k0_t1) a + S1x1024x256.size a ≤ S5x1024x256.size a) ∧
  ((k0_t2_loop i v1 v11 v21 v31).OK) ∧
  (∀ k0_t2 : Fin (k0_t2_loop i v1 v11 v21 v31).trips, ∀ a, (k0_off3 i v1 v11 v21 v31 k0_t2) a + S1x1024x256.size a ≤ S5x1024x256.size a)
theorem k0_off1_inb : ∀ (i : grid0.Coords) (v1 : BitVec 32) (v11 : BitVec 32) (v21 : BitVec 32) (v31 : BitVec 32) (k0_hw1 : k0_chk1 i v1 v11 v21 v31), ∀ a, (k0_off1 i v1 v11 v21 v31) a + S1x1024x256.size a ≤ S5x1024x256.size a := fun i v1 v11 v21 v31 k0_hw1 => k0_hw1.1
theorem k0_t1_ok : ∀ (i : grid0.Coords) (v1 : BitVec 32) (v11 : BitVec 32) (v21 : BitVec 32) (v31 : BitVec 32) (k0_hw1 : k0_chk1 i v1 v11 v21 v31), (k0_t1_loop i v1 v11 v21 v31).OK := fun i v1 v11 v21 v31 k0_hw1 => k0_hw1.2.1
theorem k0_off2_inb : ∀ (i : grid0.Coords) (v1 : BitVec 32) (v11 : BitVec 32) (v21 : BitVec 32) (v31 : BitVec 32) (k0_hw1 : k0_chk1 i v1 v11 v21 v31) (k0_t1 : Fin (k0_t1_loop i v1 v11 v21 v31).trips), ∀ a, (k0_off2 i v1 v11 v21 v31 k0_t1) a + S1x1024x256.size a ≤ S5x1024x256.size a := fun i v1 v11 v21 v31 k0_hw1 k0_t1 => k0_hw1.2.2.1 k0_t1
theorem k0_t2_ok : ∀ (i : grid0.Coords) (v1 : BitVec 32) (v11 : BitVec 32) (v21 : BitVec 32) (v31 : BitVec 32) (k0_hw1 : k0_chk1 i v1 v11 v21 v31), (k0_t2_loop i v1 v11 v21 v31).OK := fun i v1 v11 v21 v31 k0_hw1 => k0_hw1.2.2.2.1
theorem k0_off3_inb : ∀ (i : grid0.Coords) (v1 : BitVec 32) (v11 : BitVec 32) (v21 : BitVec 32) (v31 : BitVec 32) (k0_hw1 : k0_chk1 i v1 v11 v21 v31) (k0_t2 : Fin (k0_t2_loop i v1 v11 v21 v31).trips), ∀ a, (k0_off3 i v1 v11 v21 v31 k0_t2) a + S1x1024x256.size a ≤ S5x1024x256.size a := fun i v1 v11 v21 v31 k0_hw1 k0_t2 => k0_hw1.2.2.2.2 k0_t2

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S5 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x3072 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S3072x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S5x1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S5 : Shape := ⟨1, ![5]⟩
abbrev S5120x3072 : Shape := ⟨2, ![5120, 3072]⟩
abbrev S3072x8192 : Shape := ⟨2, ![3072, 8192]⟩
abbrev S8192 : Shape := ⟨1, ![8192]⟩
abbrev S5120x1 : Shape := ⟨2, ![5120, 1]⟩
abbrev S5120x256 : Shape := ⟨2, ![5120, 256]⟩
abbrev S5x8192x256 : Shape := ⟨3, ![5, 8192, 256]⟩
abbrev S5x1 : Shape := ⟨2, ![5, 1]⟩
abbrev S1x5 : Shape := ⟨2, ![1, 5]⟩
abbrev S5x5 : Shape := ⟨2, ![5, 5]⟩
abbrev S_ : Shape := ⟨0, ![]⟩
abbrev S5120 : Shape := ⟨1, ![5120]⟩
abbrev S5120x5 : Shape := ⟨2, ![5120, 5]⟩
abbrev S1x8192 : Shape := ⟨2, ![1, 8192]⟩
abbrev S5120x8192 : Shape := ⟨2, ![5120, 8192]⟩
abbrev S1x8192x256 : Shape := ⟨3, ![1, 8192, 256]⟩
abbrev S8192x256 : Shape := ⟨2, ![8192, 256]⟩

abbrev nBuf : Space → Nat
  | .hbm => 37
  | .vmem => 9
  | .smem => 0
  | _ => 0

abbrev bufTy : (tb : Table) → Fin (tcTables nBuf tb) → BufTy
  | .hbm, ⟨0, _⟩ => ⟨S5, .i32⟩
  | .hbm, ⟨1, _⟩ => ⟨S5120x3072, .fp8e4m3⟩
  | .hbm, ⟨2, _⟩ => ⟨S3072x8192, .fp8e4m3⟩
  | .hbm, ⟨3, _⟩ => ⟨S8192, .f32⟩
  | .hbm, ⟨4, _⟩ => ⟨S5120x1, .f32⟩
  | .hbm, ⟨5, _⟩ => ⟨S5120x256, .bf16⟩
  | .hbm, ⟨6, _⟩ => ⟨S5x8192x256, .bf16⟩
  | .hbm, ⟨7, _⟩ => ⟨S5, .i32⟩
  | .hbm, ⟨8, _⟩ => ⟨S5x1, .i32⟩
  | .hbm, ⟨9, _⟩ => ⟨S1x5, .i32⟩
  | .hbm, ⟨10, _⟩ => ⟨S5x5, .i32⟩
  | .hbm, ⟨11, _⟩ => ⟨S5x5, .i32⟩
  | .hbm, ⟨12, _⟩ => ⟨S5x5, .i1⟩
  | .hbm, ⟨13, _⟩ => ⟨S1x5, .i32⟩
  | .hbm, ⟨14, _⟩ => ⟨S_, .i32⟩
  | .hbm, ⟨15, _⟩ => ⟨S_, .i32⟩
  | .hbm, ⟨16, _⟩ => ⟨S5x5, .i32⟩
  | .hbm, ⟨17, _⟩ => ⟨S5x5, .i32⟩
  | .hbm, ⟨18, _⟩ => ⟨S5x5, .i32⟩
  | .hbm, ⟨19, _⟩ => ⟨S_, .i32⟩
  | .hbm, ⟨20, _⟩ => ⟨S5, .i32⟩
  | .hbm, ⟨21, _⟩ => ⟨S5120, .i32⟩
  | .hbm, ⟨22, _⟩ => ⟨S5120x1, .i32⟩
  | .hbm, ⟨23, _⟩ => ⟨S1x5, .i32⟩
  | .hbm, ⟨24, _⟩ => ⟨S5120x5, .i32⟩
  | .hbm, ⟨25, _⟩ => ⟨S5120x5, .i32⟩
  | .hbm, ⟨26, _⟩ => ⟨S5120x5, .i1⟩
  | .hbm, ⟨27, _⟩ => ⟨S5, .i32⟩
  | .hbm, ⟨28, _⟩ => ⟨S1x5, .i32⟩
  | .hbm, ⟨29, _⟩ => ⟨S5120x5, .i32⟩
  | .hbm, ⟨30, _⟩ => ⟨S5120x5, .i32⟩
  | .hbm, ⟨31, _⟩ => ⟨S5120x5, .i1⟩
  | .hbm, ⟨32, _⟩ => ⟨S5120x5, .i1⟩
  | .hbm, ⟨33, _⟩ => ⟨S5120x5, .i32⟩
  | .hbm, ⟨34, _⟩ => ⟨S1x8192, .f32⟩
  | .hbm, ⟨35, _⟩ => ⟨S5120x8192, .bf16⟩
  | .hbm, ⟨36, _⟩ => ⟨S5120x8192, .f32⟩
  | .local _ .vmem, ⟨0, _⟩ => ⟨S5120x3072, .fp8e4m3⟩
  | .local _ .vmem, ⟨1, _⟩ => ⟨S3072x8192, .fp8e4m3⟩
  | .local _ .vmem, ⟨2, _⟩ => ⟨S1x8192, .f32⟩
  | .local _ .vmem, ⟨3, _⟩ => ⟨S5120x1, .f32⟩
  | .local _ .vmem, ⟨4, _⟩ => ⟨S5120x5, .i32⟩
  | .local _ .vmem, ⟨5, _⟩ => ⟨S5120x256, .bf16⟩
  | .local _ .vmem, ⟨6, _⟩ => ⟨S5x8192x256, .bf16⟩
  | .local _ .vmem, ⟨7, _⟩ => ⟨S5120x8192, .bf16⟩
  | .local _ .vmem, ⟨8, _⟩ => ⟨S5120x8192, .f32⟩
  | _, _ => ⟨S5, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23_0 : Ref sig .tc := ⟨.hbm, 35, rfl⟩
abbrev main_v23_1 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S5120x3072 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5120x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5120x5 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5120x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S5x8192x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S5120x8192 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S5120x8192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== QuantKernel.lean ====
abbrev S5 : Shape := ⟨1, ![5]⟩
abbrev S2x2560x3072 : Shape := ⟨3, ![2, 2560, 3072]⟩
abbrev S5x3072x256 : Shape := ⟨3, ![5, 3072, 256]⟩
abbrev S5x256 : Shape := ⟨2, ![5, 256]⟩
abbrev S5120x3072 : Shape := ⟨2, ![5120, 3072]⟩
abbrev S5120x128 : Shape := ⟨2, ![5120, 128]⟩
abbrev S5120x256 : Shape := ⟨2, ![5120, 256]⟩
abbrev S512x3072 : Shape := ⟨2, ![512, 3072]⟩
abbrev S512x128 : Shape := ⟨2, ![512, 128]⟩
abbrev S512x256 : Shape := ⟨2, ![512, 256]⟩
abbrev S512 : Shape := ⟨1, ![512]⟩
abbrev S512x1 : Shape := ⟨2, ![512, 1]⟩
abbrev S1x256 : Shape := ⟨2, ![1, 256]⟩
abbrev S1 : Shape := ⟨1, ![1]⟩
abbrev S1x3072x256 : Shape := ⟨3, ![1, 3072, 256]⟩
abbrev S3072x256 : Shape := ⟨2, ![3072, 256]⟩

abbrev nBuf : Space → Nat
  | .hbm => 8
  | .vmem => 10
  | .smem => 1
  | _ => 0

abbrev bufTy : (tb : Table) → Fin (tcTables nBuf tb) → BufTy
  | .hbm, ⟨0, _⟩ => ⟨S5, .i32⟩
  | .hbm, ⟨1, _⟩ => ⟨S2x2560x3072, .bf16⟩
  | .hbm, ⟨2, _⟩ => ⟨S5x3072x256, .bf16⟩
  | .hbm, ⟨3, _⟩ => ⟨S5x256, .f32⟩
  | .hbm, ⟨4, _⟩ => ⟨S5120x3072, .bf16⟩
  | .hbm, ⟨5, _⟩ => ⟨S5120x3072, .fp8e4m3⟩
  | .hbm, ⟨6, _⟩ => ⟨S5120x128, .f32⟩
  | .hbm, ⟨7, _⟩ => ⟨S5120x256, .bf16⟩
  | .local _ .vmem, ⟨0, _⟩ => ⟨S512x3072, .bf16⟩
  | .local _ .vmem, ⟨1, _⟩ => ⟨S512x3072, .bf16⟩
  | .local _ .vmem, ⟨2, _⟩ => ⟨S5x3072x256, .bf16⟩
  | .local _ .vmem, ⟨3, _⟩ => ⟨S5x256, .f32⟩
  | .local _ .vmem, ⟨4, _⟩ => ⟨S512x3072, .fp8e4m3⟩
  | .local _ .vmem, ⟨5, _⟩ => ⟨S512x3072, .fp8e4m3⟩
  | .local _ .vmem, ⟨6, _⟩ => ⟨S512x128, .f32⟩
  | .local _ .vmem, ⟨7, _⟩ => ⟨S512x128, .f32⟩
  | .local _ .vmem, ⟨8, _⟩ => ⟨S512x256, .bf16⟩
  | .local _ .vmem, ⟨9, _⟩ => ⟨S512x256, .bf16⟩
  | .local _ .smem, ⟨0, _⟩ => ⟨S5, .i32⟩
  | _, _ => ⟨S5, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![10], ![false]⟩

@[reducible] def k0_t1_loop (i : grid0.Coords) (v54 : BitVec 32) (v64 : BitVec 32) (v74 : BitVec 32) (v84 : BitVec 32) : Scf.Loop 32 :=
  let c0_i32_17 : BitVec 32 := 0#32
  let c0_i32_16 : BitVec 32 := 0#32
  let v55 : BitVec 32 := Scalar.addi c0_i32_16 v54
  let arg0 : BitVec 32 := BitVec.ofNat 32 (i 0).val
  let c512_i32 : BitVec 32 := 512#32
  let v53 : BitVec 32 := Scalar.muli arg0 c512_i32
  let v56 : BitVec 1 := Scalar.cmpi .sle v55 v53
  let v57 : BitVec 32 := Scalar.extui v56
  let v58 : BitVec 32 := Scalar.addi c0_i32_17 v57
  let v65 : BitVec 32 := Scalar.addi v55 v64
  let v66 : BitVec 1 := Scalar.cmpi .sle v65 v53
  let v67 : BitVec 32 := Scalar.extui v66
  let v68 : BitVec 32 := Scalar.addi v58 v67
  let v75 : BitVec 32 := Scalar.addi v65 v74
  let v76 : BitVec 1 := Scalar.cmpi .sle v75 v53
  let v77 : BitVec 32 := Scalar.extui v76
  let v78 : BitVec 32 := Scalar.addi v68 v77
  let v85 : BitVec 32 := Scalar.addi v75 v84
  let v86 : BitVec 1 := Scalar.cmpi .sle v85 v53
  let v87 : BitVec 32 := Scalar.extui v86
  let v88 : BitVec 32 := Scalar.addi v78 v87
  let c0_i32_20 : BitVec 32 := 0#32
  let c512_i32_18 : BitVec 32 := 512#32
  let v59 : BitVec 32 := Scalar.addi v53 c512_i32_18
  let c1_i32_19 : BitVec 32 := 1#32
  let v60 : BitVec 32 := Scalar.subi v59 c1_i32_19
  let v61 : BitVec 1 := Scalar.cmpi .sle v55 v60
  let v62 : BitVec 32 := Scalar.extui v61
  let v63 : BitVec 32 := Scalar.addi c0_i32_20 v62
  let c512_i32_21 : BitVec 32 := 512#32
  let v69 : BitVec 32 := Scalar.addi v53 c512_i32_21
  let c1_i32_22 : BitVec 32 := 1#32
  let v70 : BitVec 32 := Scalar.subi v69 c1_i32_22
  let v71 : BitVec 1 := Scalar.cmpi .sle v65 v70
  let v72 : BitVec 32 := Scalar.extui v71
  let v73 : BitVec 32 := Scalar.addi v63 v72
  let c512_i32_23 : BitVec 32 := 512#32
  let v79 : BitVec 32 := Scalar.addi v53 c512_i32_23
  let c1_i32_24 : BitVec 32 := 1#32
  let v80 : BitVec 32 := Scalar.subi v79 c1_i32_24
  let v81 : BitVec 1 := Scalar.cmpi .sle v75 v80
  let v82 : BitVec 32 := Scalar.extui v81
  let v83 : BitVec 32 := Scalar.addi v73 v82
  let c512_i32_25 : BitVec 32 := 512#32
  let v89 : BitVec 32 := Scalar.addi v53 c512_i32_25
  let c1_i32_26 : BitVec 32 := 1#32
  let v90 : BitVec 32 := Scalar.subi v89 c1_i32_26
  let v91 : BitVec 1 := Scalar.cmpi .sle v85 v90
  let v92 : BitVec 32 := Scalar.extui v91
  let v93 : BitVec 32 := Scalar.addi v83 v92
  let c1_i32_27 : BitVec 32 := 1#32
  let v97 : BitVec 32 := Scalar.addi v93 c1_i32_27
  let v98 : BitVec 32 := Scalar.subi v97 v88
  let c1_i32_29 : BitVec 32 := 1#32
  let v100 : BitVec 32 := Scalar.divsi v98 c1_i32_29
  let v101 : BitVec 32 := Scalar.muli v100 c1_i32_29
  let v102 : BitVec 32 := Scalar.addi v88 v101
  let c1_i32_30 : BitVec 32 := 1#32
  ⟨v88, v102, c1_i32_30⟩

def k0_off1 (i : grid0.Coords) (v54 : BitVec 32) (v64 : BitVec 32) (v74 : BitVec 32) (v84 : BitVec 32) (k0_t1 : Fin (k0_t1_loop i v54 v64 v74 v84).trips) : Fin 3 → Nat :=
  let c0_i32_17 : BitVec 32 := 0#32
  let c0_i32_16 : BitVec 32 := 0#32
  let v55 : BitVec 32 := Scalar.addi c0_i32_16 v54
  let arg0 : BitVec 32 := BitVec.ofNat 32 (i 0).val
  let c512_i32 : BitVec 32 := 512#32
  let v53 : BitVec 32 := Scalar.muli arg0 c512_i32
  let v56 : BitVec 1 := Scalar.cmpi .sle v55 v53
  let v57 : BitVec 32 := Scalar.extui v56
  let v58 : BitVec 32 := Scalar.addi c0_i32_17 v57
  let v65 : BitVec 32 := Scalar.addi v55 v64
  let v66 : BitVec 1 := Scalar.cmpi .sle v65 v53
  let v67 : BitVec 32 := Scalar.extui v66
  let v68 : BitVec 32 := Scalar.addi v58 v67
  let v75 : BitVec 32 := Scalar.addi v65 v74
  let v76 : BitVec 1 := Scalar.cmpi .sle v75 v53
  let v77 : BitVec 32 := Scalar.extui v76
  let v78 : BitVec 32 := Scalar.addi v68 v77
  let v85 : BitVec 32 := Scalar.addi v75 v84
  let v86 : BitVec 1 := Scalar.cmpi .sle v85 v53
  let v87 : BitVec 32 := Scalar.extui v86
  let v88 : BitVec 32 := Scalar.addi v78 v87
  let c1_i32_30 : BitVec 32 := 1#32
  let arg8 : BitVec 32 := Scf.iv v88 c1_i32_30 k0_t1
  let v105 : Index := Scalar.indexCast arg8
  let c0_32 : Index := 0#32
  let c0_33 : Index := 0#32
  ![v105.toNat, 0, 0]
def k0_off2 (i : grid0.Coords) (v54 : BitVec 32) (v64 : BitVec 32) (v74 : BitVec 32) (v84 : BitVec 32) (k0_t1 : Fin (k0_t1_loop i v54 v64 v74 v84).trips) : Fin 2 → Nat :=
  let c0_i32_17 : BitVec 32 := 0#32
  let c0_i32_16 : BitVec 32 := 0#32
  let v55 : BitVec 32 := Scalar.addi c0_i32_16 v54
  let arg0 : BitVec 32 := BitVec.ofNat 32 (i 0).val
  let c512_i32 : BitVec 32 := 512#32
  let v53 : BitVec 32 := Scalar.muli arg0 c512_i32
  let v56 : BitVec 1 := Scalar.cmpi .sle v55 v53
  let v57 : BitVec 32 := Scalar.extui v56
  let v58 : BitVec 32 := Scalar.addi c0_i32_17 v57
  let v65 : BitVec 32 := Scalar.addi v55 v64
  let v66 : BitVec 1 := Scalar.cmpi .sle v65 v53
  let v67 : BitVec 32 := Scalar.extui v66
  let v68 : BitVec 32 := Scalar.addi v58 v67
  let v75 : BitVec 32 := Scalar.addi v65 v74
  let v76 : BitVec 1 := Scalar.cmpi .sle v75 v53
  let v77 : BitVec 32 := Scalar.extui v76
  let v78 : BitVec 32 := Scalar.addi v68 v77
  let v85 : BitVec 32 := Scalar.addi v75 v84
  let v86 : BitVec 1 := Scalar.cmpi .sle v85 v53
  let v87 : BitVec 32 := Scalar.extui v86
  let v88 : BitVec 32 := Scalar.addi v78 v87
  let c1_i32_30 : BitVec 32 := 1#32
  let arg8 : BitVec 32 := Scf.iv v88 c1_i32_30 k0_t1
  let v111 : Index := Scalar.indexCast arg8
  let c0_35 : Index := 0#32
  ![v111.toNat, 0]
@[reducible] def k0_t2_loop (i : grid0.Coords) (v54 : BitVec 32) (v64 : BitVec 32) (v74 : BitVec 32) (v84 : BitVec 32) : Scf.Loop 32 :=
  let c0_i32_17 : BitVec 32 := 0#32
  let c0_i32_16 : BitVec 32 := 0#32
  let v55 : BitVec 32 := Scalar.addi c0_i32_16 v54
  let arg0 : BitVec 32 := BitVec.ofNat 32 (i 0).val
  let c512_i32 : BitVec 32 := 512#32
  let v53 : BitVec 32 := Scalar.muli arg0 c512_i32
  let v56 : BitVec 1 := Scalar.cmpi .sle v55 v53
  let v57 : BitVec 32 := Scalar.extui v56
  let v58 : BitVec 32 := Scalar.addi c0_i32_17 v57
  let v65 : BitVec 32 := Scalar.addi v55 v64
  let v66 : BitVec 1 := Scalar.cmpi .sle v65 v53
  let v67 : BitVec 32 := Scalar.extui v66
  let v68 : BitVec 32 := Scalar.addi v58 v67
  let v75 : BitVec 32 := Scalar.addi v65 v74
  let v76 : BitVec 1 := Scalar.cmpi .sle v75 v53
  let v77 : BitVec 32 := Scalar.extui v76
  let v78 : BitVec 32 := Scalar.addi v68 v77
  let v85 : BitVec 32 := Scalar.addi v75 v84
  let v86 : BitVec 1 := Scalar.cmpi .sle v85 v53
  let v87 : BitVec 32 := Scalar.extui v86
  let v88 : BitVec 32 := Scalar.addi v78 v87
  let c0_i32_20 : BitVec 32 := 0#32
  let c512_i32_18 : BitVec 32 := 512#32
  let v59 : BitVec 32 := Scalar.addi v53 c512_i32_18
  let c1_i32_19 : BitVec 32 := 1#32
  let v60 : BitVec 32 := Scalar.subi v59 c1_i32_19
  let v61 : BitVec 1 := Scalar.cmpi .sle v55 v60
  let v62 : BitVec 32 := Scalar.extui v61
  let v63 : BitVec 32 := Scalar.addi c0_i32_20 v62
  let c512_i32_21 : BitVec 32 := 512#32
  let v69 : BitVec 32 := Scalar.addi v53 c512_i32_21
  let c1_i32_22 : BitVec 32 := 1#32
  let v70 : BitVec 32 := Scalar.subi v69 c1_i32_22
  let v71 : BitVec 1 := Scalar.cmpi .sle v65 v70
  let v72 : BitVec 32 := Scalar.extui v71
  let v73 : BitVec 32 := Scalar.addi v63 v72
  let c512_i32_23 : BitVec 32 := 512#32
  let v79 : BitVec 32 := Scalar.addi v53 c512_i32_23
  let c1_i32_24 : BitVec 32 := 1#32
  let v80 : BitVec 32 := Scalar.subi v79 c1_i32_24
  let v81 : BitVec 1 := Scalar.cmpi .sle v75 v80
  let v82 : BitVec 32 := Scalar.extui v81
  let v83 : BitVec 32 := Scalar.addi v73 v82
  let c512_i32_25 : BitVec 32 := 512#32
  let v89 : BitVec 32 := Scalar.addi v53 c512_i32_25
  let c1_i32_26 : BitVec 32 := 1#32
  let v90 : BitVec 32 := Scalar.subi v89 c1_i32_26
  let v91 : BitVec 1 := Scalar.cmpi .sle v85 v90
  let v92 : BitVec 32 := Scalar.extui v91
  let v93 : BitVec 32 := Scalar.addi v83 v92
  let c1_i32_27 : BitVec 32 := 1#32
  let v97 : BitVec 32 := Scalar.addi v93 c1_i32_27
  let v98 : BitVec 32 := Scalar.subi v97 v88
  let c1_i32_29 : BitVec 32 := 1#32
  let v100 : BitVec 32 := Scalar.divsi v98 c1_i32_29
  let v101 : BitVec 32 := Scalar.muli v100 c1_i32_29
  let v102 : BitVec 32 := Scalar.addi v88 v101
  let v99 : BitVec 32 := Scalar.addi v88 v98
  let c1_i32_31 : BitVec 32 := 1#32
  ⟨v102, v99, c1_i32_31⟩
def k0_off3 (i : grid0.Coords) (v54 : BitVec 32) (v64 : BitVec 32) (v74 : BitVec 32) (v84 : BitVec 32) (k0_t2 : Fin (k0_t2_loop i v54 v64 v74 v84).trips) : Fin 3 → Nat :=
  let c0_i32_17 : BitVec 32 := 0#32
  let c0_i32_16 : BitVec 32 := 0#32
  let v55 : BitVec 32 := Scalar.addi c0_i32_16 v54
  let arg0 : BitVec 32 := BitVec.ofNat 32 (i 0).val
  let c512_i32 : BitVec 32 := 512#32
  let v53 : BitVec 32 := Scalar.muli arg0 c512_i32
  let v56 : BitVec 1 := Scalar.cmpi .sle v55 v53
  let v57 : BitVec 32 := Scalar.extui v56
  let v58 : BitVec 32 := Scalar.addi c0_i32_17 v57
  let v65 : BitVec 32 := Scalar.addi v55 v64
  let v66 : BitVec 1 := Scalar.cmpi .sle v65 v53
  let v67 : BitVec 32 := Scalar.extui v66
  let v68 : BitVec 32 := Scalar.addi v58 v67
  let v75 : BitVec 32 := Scalar.addi v65 v74
  let v76 : BitVec 1 := Scalar.cmpi .sle v75 v53
  let v77 : BitVec 32 := Scalar.extui v76
  let v78 : BitVec 32 := Scalar.addi v68 v77
  let v85 : BitVec 32 := Scalar.addi v75 v84
  let v86 : BitVec 1 := Scalar.cmpi .sle v85 v53
  let v87 : BitVec 32 := Scalar.extui v86
  let v88 : BitVec 32 := Scalar.addi v78 v87
  let c0_i32_20 : BitVec 32 := 0#32
  let c512_i32_18 : BitVec 32 := 512#32
  let v59 : BitVec 32 := Scalar.addi v53 c512_i32_18
  let c1_i32_19 : BitVec 32 := 1#32
  let v60 : BitVec 32 := Scalar.subi v59 c1_i32_19
  let v61 : BitVec 1 := Scalar.cmpi .sle v55 v60
  let v62 : BitVec 32 := Scalar.extui v61
  let v63 : BitVec 32 := Scalar.addi c0_i32_20 v62
  let c512_i32_21 : BitVec 32 := 512#32
  let v69 : BitVec 32 := Scalar.addi v53 c512_i32_21
  let c1_i32_22 : BitVec 32 := 1#32
  let v70 : BitVec 32 := Scalar.subi v69 c1_i32_22
  let v71 : BitVec 1 := Scalar.cmpi .sle v65 v70
  let v72 : BitVec 32 := Scalar.extui v71
  let v73 : BitVec 32 := Scalar.addi v63 v72
  let c512_i32_23 : BitVec 32 := 512#32
  let v79 : BitVec 32 := Scalar.addi v53 c512_i32_23
  let c1_i32_24 : BitVec 32 := 1#32
  let v80 : BitVec 32 := Scalar.subi v79 c1_i32_24
  let v81 : BitVec 1 := Scalar.cmpi .sle v75 v80
  let v82 : BitVec 32 := Scalar.extui v81
  let v83 : BitVec 32 := Scalar.addi v73 v82
  let c512_i32_25 : BitVec 32 := 512#32
  let v89 : BitVec 32 := Scalar.addi v53 c512_i32_25
  let c1_i32_26 : BitVec 32 := 1#32
  let v90 : BitVec 32 := Scalar.subi v89 c1_i32_26
  let v91 : BitVec 1 := Scalar.cmpi .sle v85 v90
  let v92 : BitVec 32 := Scalar.extui v91
  let v93 : BitVec 32 := Scalar.addi v83 v92
  let c1_i32_27 : BitVec 32 := 1#32
  let v97 : BitVec 32 := Scalar.addi v93 c1_i32_27
  let v98 : BitVec 32 := Scalar.subi v97 v88
  let c1_i32_29 : BitVec 32 := 1#32
  let v100 : BitVec 32 := Scalar.divsi v98 c1_i32_29
  let v101 : BitVec 32 := Scalar.muli v100 c1_i32_29
  let v102 : BitVec 32 := Scalar.addi v88 v101
  let c1_i32_31 : BitVec 32 := 1#32
  let arg8 : BitVec 32 := Scf.iv v102 c1_i32_31 k0_t2
  let v105 : Index := Scalar.indexCast arg8
  let c0_32 : Index := 0#32
  let c0_33 : Index := 0#32
  ![v105.toNat, 0, 0]
def k0_off4 (i : grid0.Coords) (v54 : BitVec 32) (v64 : BitVec 32) (v74 : BitVec 32) (v84 : BitVec 32) (k0_t2 : Fin (k0_t2_loop i v54 v64 v74 v84).trips) : Fin 2 → Nat :=
  let c0_i32_17 : BitVec 32 := 0#32
  let c0_i32_16 : BitVec 32 := 0#32
  let v55 : BitVec 32 := Scalar.addi c0_i32_16 v54
  let arg0 : BitVec 32 := BitVec.ofNat 32 (i 0).val
  let c512_i32 : BitVec 32 := 512#32
  let v53 : BitVec 32 := Scalar.muli arg0 c512_i32
  let v56 : BitVec 1 := Scalar.cmpi .sle v55 v53
  let v57 : BitVec 32 := Scalar.extui v56
  let v58 : BitVec 32 := Scalar.addi c0_i32_17 v57
  let v65 : BitVec 32 := Scalar.addi v55 v64
  let v66 : BitVec 1 := Scalar.cmpi .sle v65 v53
  let v67 : BitVec 32 := Scalar.extui v66
  let v68 : BitVec 32 := Scalar.addi v58 v67
  let v75 : BitVec 32 := Scalar.addi v65 v74
  let v76 : BitVec 1 := Scalar.cmpi .sle v75 v53
  let v77 : BitVec 32 := Scalar.extui v76
  let v78 : BitVec 32 := Scalar.addi v68 v77
  let v85 : BitVec 32 := Scalar.addi v75 v84
  let v86 : BitVec 1 := Scalar.cmpi .sle v85 v53
  let v87 : BitVec 32 := Scalar.extui v86
  let v88 : BitVec 32 := Scalar.addi v78 v87
  let c0_i32_20 : BitVec 32 := 0#32
  let c512_i32_18 : BitVec 32 := 512#32
  let v59 : BitVec 32 := Scalar.addi v53 c512_i32_18
  let c1_i32_19 : BitVec 32 := 1#32
  let v60 : BitVec 32 := Scalar.subi v59 c1_i32_19
  let v61 : BitVec 1 := Scalar.cmpi .sle v55 v60
  let v62 : BitVec 32 := Scalar.extui v61
  let v63 : BitVec 32 := Scalar.addi c0_i32_20 v62
  let c512_i32_21 : BitVec 32 := 512#32
  let v69 : BitVec 32 := Scalar.addi v53 c512_i32_21
  let c1_i32_22 : BitVec 32 := 1#32
  let v70 : BitVec 32 := Scalar.subi v69 c1_i32_22
  let v71 : BitVec 1 := Scalar.cmpi .sle v65 v70
  let v72 : BitVec 32 := Scalar.extui v71
  let v73 : BitVec 32 := Scalar.addi v63 v72
  let c512_i32_23 : BitVec 32 := 512#32
  let v79 : BitVec 32 := Scalar.addi v53 c512_i32_23
  let c1_i32_24 : BitVec 32 := 1#32
  let v80 : BitVec 32 := Scalar.subi v79 c1_i32_24
  let v81 : BitVec 1 := Scalar.cmpi .sle v75 v80
  let v82 : BitVec 32 := Scalar.extui v81
  let v83 : BitVec 32 := Scalar.addi v73 v82
  let c512_i32_25 : BitVec 32 := 512#32
  let v89 : BitVec 32 := Scalar.addi v53 c512_i32_25
  let c1_i32_26 : BitVec 32 := 1#32
  let v90 : BitVec 32 := Scalar.subi v89 c1_i32_26
  let v91 : BitVec 1 := Scalar.cmpi .sle v85 v90
  let v92 : BitVec 32 := Scalar.extui v91
  let v93 : BitVec 32 := Scalar.addi v83 v92
  let c1_i32_27 : BitVec 32 := 1#32
  let v97 : BitVec 32 := Scalar.addi v93 c1_i32_27
  let v98 : BitVec 32 := Scalar.subi v97 v88
  let c1_i32_29 : BitVec 32 := 1#32
  let v100 : BitVec 32 := Scalar.divsi v98 c1_i32_29
  let v101 : BitVec 32 := Scalar.muli v100 c1_i32_29
  let v102 : BitVec 32 := Scalar.addi v88 v101
  let c1_i32_31 : BitVec 32 := 1#32
  let arg8 : BitVec 32 := Scf.iv v102 c1_i32_31 k0_t2
  let v111 : Index := Scalar.indexCast arg8
  let c0_35 : Index := 0#32
  ![v111.toNat, 0]

def k0_chk1 (i : grid0.Coords) (v54 : BitVec 32) (v64 : BitVec 32) (v74 : BitVec 32) (v84 : BitVec 32) : Prop :=
  ((k0_t1_loop i v54 v64 v74 v84).OK) ∧
  (∀ k0_t1 : Fin (k0_t1_loop i v54 v64 v74 v84).trips, ∀ a, (k0_off1 i v54 v64 v74 v84 k0_t1) a + S1x3072x256.size a ≤ S5x3072x256.size a) ∧
  (∀ k0_t1 : Fin (k0_t1_loop i v54 v64 v74 v84).trips, ∀ a, (k0_off2 i v54 v64 v74 v84 k0_t1) a + S1x256.size a ≤ S5x256.size a) ∧
  ((k0_t2_loop i v54 v64 v74 v84).OK) ∧
  (∀ k0_t2 : Fin (k0_t2_loop i v54 v64 v74 v84).trips, ∀ a, (k0_off3 i v54 v64 v74 v84 k0_t2) a + S1x3072x256.size a ≤ S5x3072x256.size a) ∧
  (∀ k0_t2 : Fin (k0_t2_loop i v54 v64 v74 v84).trips, ∀ a, (k0_off4 i v54 v64 v74 v84 k0_t2) a + S1x256.size a ≤ S5x256.size a)
theorem k0_t1_ok : ∀ (i : grid0.Coords) (v54 : BitVec 32) (v64 : BitVec 32) (v74 : BitVec 32) (v84 : BitVec 32) (k0_hw1 : k0_chk1 i v54 v64 v74 v84), (k0_t1_loop i v54 v64 v74 v84).OK := fun i v54 v64 v74 v84 k0_hw1 => k0_hw1.1
theorem k0_off1_inb : ∀ (i : grid0.Coords) (v54 : BitVec 32) (v64 : BitVec 32) (v74 : BitVec 32) (v84 : BitVec 32) (k0_hw1 : k0_chk1 i v54 v64 v74 v84) (k0_t1 : Fin (k0_t1_loop i v54 v64 v74 v84).trips), ∀ a, (k0_off1 i v54 v64 v74 v84 k0_t1) a + S1x3072x256.size a ≤ S5x3072x256.size a := fun i v54 v64 v74 v84 k0_hw1 k0_t1 => k0_hw1.2.1 k0_t1
theorem k0_off2_inb : ∀ (i : grid0.Coords) (v54 : BitVec 32) (v64 : BitVec 32) (v74 : BitVec 32) (v84 : BitVec 32) (k0_hw1 : k0_chk1 i v54 v64 v74 v84) (k0_t1 : Fin (k0_t1_loop i v54 v64 v74 v84).trips), ∀ a, (k0_off2 i v54 v64 v74 v84 k0_t1) a + S1x256.size a ≤ S5x256.size a := fun i v54 v64 v74 v84 k0_hw1 k0_t1 => k0_hw1.2.2.1 k0_t1
theorem k0_t2_ok : ∀ (i : grid0.Coords) (v54 : BitVec 32) (v64 : BitVec 32) (v74 : BitVec 32) (v84 : BitVec 32) (k0_hw1 : k0_chk1 i v54 v64 v74 v84), (k0_t2_loop i v54 v64 v74 v84).OK := fun i v54 v64 v74 v84 k0_hw1 => k0_hw1.2.2.2.1
theorem k0_off3_inb : ∀ (i : grid0.Coords) (v54 : BitVec 32) (v64 : BitVec 32) (v74 : BitVec 32) (v84 : BitVec 32) (k0_hw1 : k0_chk1 i v54 v64 v74 v84) (k0_t2 : Fin (k0_t2_loop i v54 v64 v74 v84).trips), ∀ a, (k0_off3 i v54 v64 v74 v84 k0_t2) a + S1x3072x256.size a ≤ S5x3072x256.size a := fun i v54 v64 v74 v84 k0_hw1 k0_t2 => k0_hw1.2.2.2.2.1 k0_t2
theorem k0_off4_inb : ∀ (i : grid0.Coords) (v54 : BitVec 32) (v64 : BitVec 32) (v74 : BitVec 32) (v84 : BitVec 32) (k0_hw1 : k0_chk1 i v54 v64 v74 v84) (k0_t2 : Fin (k0_t2_loop i v54 v64 v74 v84).trips), ∀ a, (k0_off4 i v54 v64 v74 v84 k0_t2) a + S1x256.size a ≤ S5x256.size a := fun i v54 v64 v74 v84 k0_hw1 k0_t2 => k0_hw1.2.2.2.2.2 k0_t2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S5 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5x3072x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3072 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== QuantReferenceIdeal.lean ====
abbrev S5 : Shape := ⟨1, ![5]⟩
abbrev S2x2560x3072 : Shape := ⟨3, ![2, 2560, 3072]⟩
abbrev S5x3072x256 : Shape := ⟨3, ![5, 3072, 256]⟩
abbrev S5x256 : Shape := ⟨2, ![5, 256]⟩
abbrev S5120x3072 : Shape := ⟨2, ![5120, 3072]⟩
abbrev S_ : Shape := ⟨0, ![]⟩
abbrev S5120 : Shape := ⟨1, ![5120]⟩
abbrev S5120x1 : Shape := ⟨2, ![5120, 1]⟩
abbrev S5x1 : Shape := ⟨2, ![5, 1]⟩
abbrev S1x5 : Shape := ⟨2, ![1, 5]⟩
abbrev S5x5 : Shape := ⟨2, ![5, 5]⟩
abbrev S5120x5 : Shape := ⟨2, ![5120, 5]⟩
abbrev S5120x128 : Shape := ⟨2, ![5120, 128]⟩
abbrev S5120x256 : Shape := ⟨2, ![5120, 256]⟩
abbrev S1x3072x256 : Shape := ⟨3, ![1, 3072, 256]⟩
abbrev S3072x256 : Shape := ⟨2, ![3072, 256]⟩
abbrev S1x256 : Shape := ⟨2, ![1, 256]⟩

abbrev nBuf : Space → Nat
  | .hbm => 76
  | .vmem => 8
  | .smem => 0
  | _ => 0

abbrev bufTy : (tb : Table) → Fin (tcTables nBuf tb) → BufTy
  | .hbm, ⟨0, _⟩ => ⟨S5, .i32⟩
  | .hbm, ⟨1, _⟩ => ⟨S2x2560x3072, .bf16⟩
  | .hbm, ⟨2, _⟩ => ⟨S5x3072x256, .bf16⟩
  | .hbm, ⟨3, _⟩ => ⟨S5x256, .f32⟩
  | .hbm, ⟨4, _⟩ => ⟨S5120x3072, .bf16⟩
  | .hbm, ⟨5, _⟩ => ⟨S5120x3072, .f32⟩
  | .hbm, ⟨6, _⟩ => ⟨S5120x3072, .f32⟩
  | .hbm, ⟨7, _⟩ => ⟨S_, .f32⟩
  | .hbm, ⟨8, _⟩ => ⟨S5120, .f32⟩
  | .hbm, ⟨9, _⟩ => ⟨S5120x1, .f32⟩
  | .hbm, ⟨10, _⟩ => ⟨S_, .f32⟩
  | .hbm, ⟨11, _⟩ => ⟨S5120x1, .f32⟩
  | .hbm, ⟨12, _⟩ => ⟨S5120x1, .f32⟩
  | .hbm, ⟨13, _⟩ => ⟨S_, .f32⟩
  | .hbm, ⟨14, _⟩ => ⟨S5120x1, .f32⟩
  | .hbm, ⟨15, _⟩ => ⟨S5120x1, .i1⟩
  | .hbm, ⟨16, _⟩ => ⟨S5120x1, .f32⟩
  | .hbm, ⟨17, _⟩ => ⟨S_, .f32⟩
  | .hbm, ⟨18, _⟩ => ⟨S_, .f32⟩
  | .hbm, ⟨19, _⟩ => ⟨S5120x1, .f32⟩
  | .hbm, ⟨20, _⟩ => ⟨S5120x1, .f32⟩
  | .hbm, ⟨21, _⟩ => ⟨S5120x1, .f32⟩
  | .hbm, ⟨22, _⟩ => ⟨S_, .f32⟩
  | .hbm, ⟨23, _⟩ => ⟨S5120x1, .f32⟩
  | .hbm, ⟨24, _⟩ => ⟨S5120x1, .f32⟩
  | .hbm, ⟨25, _⟩ => ⟨S_, .f32⟩
  | .hbm, ⟨26, _⟩ => ⟨S_, .f32⟩
  | .hbm, ⟨27, _⟩ => ⟨S5120x1, .f32⟩
  | .hbm, ⟨28, _⟩ => ⟨S5120x1, .f32⟩
  | .hbm, ⟨29, _⟩ => ⟨S_, .f32⟩
  | .hbm, ⟨30, _⟩ => ⟨S5120x1, .f32⟩
  | .hbm, ⟨31, _⟩ => ⟨S5120x1, .f32⟩
  | .hbm, ⟨32, _⟩ => ⟨S5120x1, .f32⟩
  | .hbm, ⟨33, _⟩ => ⟨S_, .f32⟩
  | .hbm, ⟨34, _⟩ => ⟨S5120x1, .f32⟩
  | .hbm, ⟨35, _⟩ => ⟨S5120x1, .f32⟩
  | .hbm, ⟨36, _⟩ => ⟨S5120x3072, .f32⟩
  | .hbm, ⟨37, _⟩ => ⟨S5120x3072, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S5120x3072, .f32⟩
  | .hbm, ⟨42, _⟩ => ⟨S5120x3072, .f32⟩
  | .hbm, ⟨43, _⟩ => ⟨S_, .f32⟩
  | .hbm, ⟨44, _⟩ => ⟨S5120x3072, .f32⟩
  | .hbm, ⟨45, _⟩ => ⟨S5120x3072, .f32⟩
  | .hbm, ⟨46, _⟩ => ⟨S5, .i32⟩
  | .hbm, ⟨47, _⟩ => ⟨S5x1, .i32⟩
  | .hbm, ⟨48, _⟩ => ⟨S1x5, .i32⟩
  | .hbm, ⟨49, _⟩ => ⟨S5x5, .i32⟩
  | .hbm, ⟨50, _⟩ => ⟨S5x5, .i32⟩
  | .hbm, ⟨51, _⟩ => ⟨S5x5, .i1⟩
  | .hbm, ⟨52, _⟩ => ⟨S1x5, .i32⟩
  | .hbm, ⟨53, _⟩ => ⟨S_, .i32⟩
  | .hbm, ⟨54, _⟩ => ⟨S_, .i32⟩
  | .hbm, ⟨55, _⟩ => ⟨S5x5, .i32⟩
  | .hbm, ⟨56, _⟩ => ⟨S5x5, .i32⟩
  | .hbm, ⟨57, _⟩ => ⟨S5x5, .i32⟩
  | .hbm, ⟨58, _⟩ => ⟨S_, .i32⟩
  | .hbm, ⟨59, _⟩ => ⟨S5, .i32⟩
  | .hbm, ⟨60, _⟩ => ⟨S5120, .i32⟩
  | .hbm, ⟨61, _⟩ => ⟨S5120x1, .i32⟩
  | .hbm, ⟨62, _⟩ => ⟨S1x5, .i32⟩
  | .hbm, ⟨63, _⟩ => ⟨S5120x5, .i32⟩
  | .hbm, ⟨64, _⟩ => ⟨S5120x5, .i32⟩
  | .hbm, ⟨65, _⟩ => ⟨S5120x5, .i1⟩
  | .hbm, ⟨66, _⟩ => ⟨S5, .i32⟩
  | .hbm, ⟨67, _⟩ => ⟨S1x5, .i32⟩
  | .hbm, ⟨68, _⟩ => ⟨S5120x5, .i32⟩
  | .hbm, ⟨69, _⟩ => ⟨S5120x5, .i32⟩
  | .hbm, ⟨70, _⟩ => ⟨S5120x5, .i1⟩
  | .hbm, ⟨71, _⟩ => ⟨S5120x5, .i1⟩
  | .hbm, ⟨72, _⟩ => ⟨S5120x5, .i32⟩
  | .hbm, ⟨73, _⟩ => ⟨S5120x3072, .fp8e4m3⟩
  | .hbm, ⟨74, _⟩ => ⟨S5120x128, .f32⟩
  | .hbm, ⟨75, _⟩ => ⟨S5120x256, .bf16⟩
  | .local _ .vmem, ⟨0, _⟩ => ⟨S5120x3072, .f32⟩
  | .local _ .vmem, ⟨1, _⟩ => ⟨S5120x1, .f32⟩
  | .local _ .vmem, ⟨2, _⟩ => ⟨S5120x5, .i32⟩
  | .local _ .vmem, ⟨3, _⟩ => ⟨S5x256, .f32⟩
  | .local _ .vmem, ⟨4, _⟩ => ⟨S5x3072x256, .bf16⟩
  | .local _ .vmem, ⟨5, _⟩ => ⟨S5120x3072, .fp8e4m3⟩
  | .local _ .vmem, ⟨6, _⟩ => ⟨S5120x128, .f32⟩
  | .local _ .vmem, ⟨7, _⟩ => ⟨S5120x256, .bf16⟩
  | _, _ => ⟨S5, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_7 : Ref sig .tc := ⟨.hbm, 38, rfl⟩
abbrev main_cst_8 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_v32 : Ref sig .tc := ⟨.hbm, 57, rfl⟩
abbrev main_c_9 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47_0 : Ref sig .tc := ⟨.hbm, 73, rfl⟩
abbrev main_v47_1 : Ref sig .tc := ⟨.hbm, 74, rfl⟩
abbrev main_v47_2 : Ref sig .tc := ⟨.hbm, 75, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S5120x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x5 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5x3072x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5120x3072 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S5120x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S5120x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== DequantKernel.lean ====
abbrev S5x3072x2 : Shape := ⟨3, ![5, 3072, 2]⟩
abbrev S5x384x3x32 : Shape := ⟨4, ![5, 384, 3, 32]⟩
abbrev S5x768x222 : Shape := ⟨3, ![5, 768, 222]⟩
abbrev S5x24x256 : Shape := ⟨3, ![5, 24, 256]⟩
abbrev S5x3x384x32 : Shape := ⟨4, ![5, 3, 384, 32]⟩
abbrev S5x3072x256 : Shape := ⟨3, ![5, 3072, 256]⟩
abbrev S1x3072x2 : Shape := ⟨3, ![1, 3072, 2]⟩
abbrev S1x3x384x32 : Shape := ⟨4, ![1, 3, 384, 32]⟩
abbrev S1x768x222 : Shape := ⟨3, ![1, 768, 222]⟩
abbrev S1x24x256 : Shape := ⟨3, ![1, 24, 256]⟩
abbrev S1x3072x256 : Shape := ⟨3, ![1, 3072, 256]⟩
abbrev S3072x2 : Shape := ⟨2, ![3072, 2]⟩
abbrev S3x384x32 : Shape := ⟨3, ![3, 384, 32]⟩
abbrev S768x222 : Shape := ⟨2, ![768, 222]⟩
abbrev S1x384x32 : Shape := ⟨3, ![1, 384, 32]⟩
abbrev S384x32 : Shape := ⟨2, ![384, 32]⟩
abbrev S768x32 : Shape := ⟨2, ![768, 32]⟩
abbrev S768x2 : Shape := ⟨2, ![768, 2]⟩
abbrev S768x256 : Shape := ⟨2, ![768, 256]⟩
abbrev S3072x256 : Shape := ⟨2, ![3072, 256]⟩
abbrev S24x128x256 : Shape := ⟨3, ![24, 128, 256]⟩
abbrev S24x256 : Shape := ⟨2, ![24, 256]⟩
abbrev S24x1x256 : Shape := ⟨3, ![24, 1, 256]⟩

abbrev nBuf : Space → Nat
  | .hbm => 7
  | .vmem => 12
  | .smem => 0
  | _ => 0

abbrev bufTy : (tb : Table) → Fin (tcTables nBuf tb) → BufTy
  | .hbm, ⟨0, _⟩ => ⟨S5x3072x2, .i8⟩
  | .hbm, ⟨1, _⟩ => ⟨S5x384x3x32, .i8⟩
  | .hbm, ⟨2, _⟩ => ⟨S5x768x222, .i8⟩
  | .hbm, ⟨3, _⟩ => ⟨S5x24x256, .f32⟩
  | .hbm, ⟨4, _⟩ => ⟨S5x24x256, .i8⟩
  | .hbm, ⟨5, _⟩ => ⟨S5x3x384x32, .i8⟩
  | .hbm, ⟨6, _⟩ => ⟨S5x3072x256, .bf16⟩
  | .local _ .vmem, ⟨0, _⟩ => ⟨S1x3072x2, .i8⟩
  | .local _ .vmem, ⟨1, _⟩ => ⟨S1x3072x2, .i8⟩
  | .local _ .vmem, ⟨2, _⟩ => ⟨S1x3x384x32, .i8⟩
  | .local _ .vmem, ⟨3, _⟩ => ⟨S1x3x384x32, .i8⟩
  | .local _ .vmem, ⟨4, _⟩ => ⟨S1x768x222, .i8⟩
  | .local _ .vmem, ⟨5, _⟩ => ⟨S1x768x222, .i8⟩
  | .local _ .vmem, ⟨6, _⟩ => ⟨S1x24x256, .f32⟩
  | .local _ .vmem, ⟨7, _⟩ => ⟨S1x24x256, .f32⟩
  | .local _ .vmem, ⟨8, _⟩ => ⟨S1x24x256, .i8⟩
  | .local _ .vmem, ⟨9, _⟩ => ⟨S1x24x256, .i8⟩
  | .local _ .vmem, ⟨10, _⟩ => ⟨S1x3072x256, .bf16⟩
  | .local _ .vmem, ⟨11, _⟩ => ⟨S1x3072x256, .bf16⟩
  | _, _ => ⟨S5x3072x2, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![5, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x3072x2 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x384x32 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x768x222 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x24x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x24x256 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x3072x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DequantReferenceIdeal.lean ====
abbrev S5x3072x2 : Shape := ⟨3, ![5, 3072, 2]⟩
abbrev S5x384x3x32 : Shape := ⟨4, ![5, 384, 3, 32]⟩
abbrev S5x768x222 : Shape := ⟨3, ![5, 768, 222]⟩
abbrev S5x24x256 : Shape := ⟨3, ![5, 24, 256]⟩
abbrev S5x384x1x32 : Shape := ⟨4, ![5, 384, 1, 32]⟩
abbrev S5x384x32 : Shape := ⟨3, ![5, 384, 32]⟩
abbrev S_ : Shape := ⟨0, ![]⟩
abbrev S8 : Shape := ⟨1, ![8]⟩
abbrev S1x1x8x1 : Shape := ⟨4, ![1, 1, 8, 1]⟩
abbrev S5x384x8x32 : Shape := ⟨4, ![5, 384, 8, 32]⟩
abbrev S5x768x1x222 : Shape := ⟨4, ![5, 768, 1, 222]⟩
abbrev S4 : Shape := ⟨1, ![4]⟩
abbrev S1x1x4x1 : Shape := ⟨4, ![1, 1, 4, 1]⟩
abbrev S5x768x4x222 : Shape := ⟨4, ![5, 768, 4, 222]⟩
abbrev S5x3072x32 : Shape := ⟨3, ![5, 3072, 32]⟩
abbrev S5x3072x222 : Shape := ⟨3, ![5, 3072, 222]⟩
abbrev S5x3072x256 : Shape := ⟨3, ![5, 3072, 256]⟩
abbrev S5x24x128x256 : Shape := ⟨4, ![5, 24, 128, 256]⟩

abbrev nBuf : Space → Nat
  | .hbm => 58
  | .vmem => 0
  | .smem => 0
  | _ => 0

abbrev bufTy : (tb : Table) → Fin (tcTables nBuf tb) → BufTy
  | .hbm, ⟨0, _⟩ => ⟨S5x3072x2, .i8⟩
  | .hbm, ⟨1, _⟩ => ⟨S5x384x3x32, .i8⟩
  | .hbm, ⟨2, _⟩ => ⟨S5x768x222, .i8⟩
  | .hbm, ⟨3, _⟩ => ⟨S5x24x256, .f32⟩
  | .hbm, ⟨4, _⟩ => ⟨S5x24x256, .i8⟩
  | .hbm, ⟨5, _⟩ => ⟨S5x384x3x32, .i32⟩
  | .hbm, ⟨6, _⟩ => ⟨S5x384x1x32, .i32⟩
  | .hbm, ⟨7, _⟩ => ⟨S5x384x32, .i32⟩
  | .hbm, ⟨8, _⟩ => ⟨S5x384x1x32, .i32⟩
  | .hbm, ⟨9, _⟩ => ⟨S5x384x32, .i32⟩
  | .hbm, ⟨10, _⟩ => ⟨S_, .i32⟩
  | .hbm, ⟨11, _⟩ => ⟨S5x384x32, .i32⟩
  | .hbm, ⟨12, _⟩ => ⟨S5x384x32, .i32⟩
  | .hbm, ⟨13, _⟩ => ⟨S5x384x32, .i32⟩
  | .hbm, ⟨14, _⟩ => ⟨S5x384x1x32, .i32⟩
  | .hbm, ⟨15, _⟩ => ⟨S5x384x32, .i32⟩
  | .hbm, ⟨16, _⟩ => ⟨S_, .i32⟩
  | .hbm, ⟨17, _⟩ => ⟨S5x384x32, .i32⟩
  | .hbm, ⟨18, _⟩ => ⟨S5x384x32, .i32⟩
  | .hbm, ⟨19, _⟩ => ⟨S5x384x32, .i32⟩
  | .hbm, ⟨20, _⟩ => ⟨S5x384x1x32, .i32⟩
  | .hbm, ⟨21, _⟩ => ⟨S8, .i32⟩
  | .hbm, ⟨22, _⟩ => ⟨S_, .i32⟩
  | .hbm, ⟨23, _⟩ => ⟨S8, .i32⟩
  | .hbm, ⟨24, _⟩ => ⟨S8, .i32⟩
  | .hbm, ⟨25, _⟩ => ⟨S1x1x8x1, .i32⟩
  | .hbm, ⟨26, _⟩ => ⟨S5x384x8x32, .i32⟩
  | .hbm, ⟨27, _⟩ => ⟨S5x384x8x32, .i32⟩
  | .hbm, ⟨28, _⟩ => ⟨S5x384x8x32, .i32⟩
  | .hbm, ⟨29, _⟩ => ⟨S_, .i32⟩
  | .hbm, ⟨30, _⟩ => ⟨S5x384x8x32, .i32⟩
  | .hbm, ⟨31, _⟩ => ⟨S5x384x8x32, .i32⟩
  | .hbm, ⟨32, _⟩ => ⟨S5x768x222, .i32⟩
  | .hbm, ⟨33, _⟩ => ⟨S5x768x1x222, .i32⟩
  | .hbm, ⟨34, _⟩ => ⟨S4, .i32⟩
  | .hbm, ⟨35, _⟩ => ⟨S_, .i32⟩
  | .hbm, ⟨36, _⟩ => ⟨S4, .i32⟩
  | .hbm, ⟨37, _⟩ => ⟨S4, .i32⟩
  | .hbm, ⟨38, _⟩ => ⟨S1x1x4x1, .i32⟩
  | .hbm, ⟨39, _⟩ => ⟨S5x768x4x222, .i32⟩
  | .hbm, ⟨40, _⟩ => ⟨S5x768x4x222, .i32⟩
  | .hbm, ⟨41, _⟩ => ⟨S5x768x4x222, .i32⟩
  | .hbm, ⟨42, _⟩ => ⟨S_, .i32⟩
  | .hbm, ⟨43, _⟩ => ⟨S5x768x4x222, .i32⟩
  | .hbm, ⟨44, _⟩ => ⟨S5x768x4x222, .i32⟩
  | .hbm, ⟨45, _⟩ => ⟨S5x3072x2, .i32⟩
  | .hbm, ⟨46, _⟩ => ⟨S5x3072x32, .i32⟩
  | .hbm, ⟨47, _⟩ => ⟨S5x3072x222, .i32⟩
  | .hbm, ⟨48, _⟩ => ⟨S5x3072x256, .i32⟩
  | .hbm, ⟨49, _⟩ => ⟨S5x24x256, .i32⟩
  | .hbm, ⟨50, _⟩ => ⟨S5x24x128x256, .i32⟩
  | .hbm, ⟨51, _⟩ => ⟨S5x3072x256, .i32⟩
  | .hbm, ⟨52, _⟩ => ⟨S5x24x256, .bf16⟩
  | .hbm, ⟨53, _⟩ => ⟨S5x24x128x256, .bf16⟩
  | .hbm, ⟨54, _⟩ => ⟨S5x3072x256, .bf16⟩
  | .hbm, ⟨55, _⟩ => ⟨S5x3072x256, .i32⟩
  | .hbm, ⟨56, _⟩ => ⟨S5x3072x256, .bf16⟩
  | .hbm, ⟨57, _⟩ => ⟨S5x3072x256, .bf16⟩
  | _, _ => ⟨S5x3072x2, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_4 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩

abbrev nD : Nat := 1
abbrev τ : Topo := Topo.v7x

variable {F : FTy → Type} [FloatOps F]
-- ==== DequantUKernel.lean ====
abbrev S5x2x8192 : Shape := ⟨3, ![5, 2, 8192]⟩
abbrev S5x32x1024x3 : Shape := ⟨4, ![5, 32, 1024, 3]⟩
abbrev S5x222x2048 : Shape := ⟨3, ![5, 222, 2048]⟩
abbrev S5x256x64 : Shape := ⟨3, ![5, 256, 64]⟩
abbrev S5x8192x2 : Shape := ⟨3, ![5, 8192, 2]⟩
abbrev S5x3x1024x32 : Shape := ⟨4, ![5, 3, 1024, 32]⟩
abbrev S5x2048x222 : Shape := ⟨3, ![5, 2048, 222]⟩
abbrev S5x64x256 : Shape := ⟨3, ![5, 64, 256]⟩
abbrev S5x8192x256 : Shape := ⟨3, ![5, 8192, 256]⟩
abbrev S1x4096x2 : Shape := ⟨3, ![1, 4096, 2]⟩
abbrev S1x3x512x32 : Shape := ⟨4, ![1, 3, 512, 32]⟩
abbrev S1x1024x222 : Shape := ⟨3, ![1, 1024, 222]⟩
abbrev S1x32x256 : Shape := ⟨3, ![1, 32, 256]⟩
abbrev S1x4096x256 : Shape := ⟨3, ![1, 4096, 256]⟩
abbrev S4096x2 : Shape := ⟨2, ![4096, 2]⟩
abbrev S3x512x32 : Shape := ⟨3, ![3, 512, 32]⟩
abbrev S1024x222 : Shape := ⟨2, ![1024, 222]⟩
abbrev S1x512x32 : Shape := ⟨3, ![1, 512, 32]⟩
abbrev S512x32 : Shape := ⟨2, ![512, 32]⟩
abbrev S1024x32 : Shape := ⟨2, ![1024, 32]⟩
abbrev S1024x2 : Shape := ⟨2, ![1024, 2]⟩
abbrev S1024x256 : Shape := ⟨2, ![1024, 256]⟩
abbrev S4096x256 : Shape := ⟨2, ![4096, 256]⟩
abbrev S32x128x256 : Shape := ⟨3, ![32, 128, 256]⟩
abbrev S32x256 : Shape := ⟨2, ![32, 256]⟩
abbrev S32x1x256 : Shape := ⟨3, ![32, 1, 256]⟩

abbrev nBuf : Space → Nat
  | .hbm => 11
  | .vmem => 12
  | .smem => 0
  | _ => 0

abbrev bufTy : (tb : Table) → Fin (tcTables nBuf tb) → BufTy
  | .hbm, ⟨0, _⟩ => ⟨S5x2x8192, .i8⟩
  | .hbm, ⟨1, _⟩ => ⟨S5x32x1024x3, .i8⟩
  | .hbm, ⟨2, _⟩ => ⟨S5x222x2048, .i8⟩
  | .hbm, ⟨3, _⟩ => ⟨S5x256x64, .f32⟩
  | .hbm, ⟨4, _⟩ => ⟨S5x256x64, .i8⟩
  | .hbm, ⟨5, _⟩ => ⟨S5x8192x2, .i8⟩
  | .hbm, ⟨6, _⟩ => ⟨S5x3x1024x32, .i8⟩
  | .hbm, ⟨7, _⟩ => ⟨S5x2048x222, .i8⟩
  | .hbm, ⟨8, _⟩ => ⟨S5x64x256, .f32⟩
  | .hbm, ⟨9, _⟩ => ⟨S5x64x256, .i8⟩
  | .hbm, ⟨10, _⟩ => ⟨S5x8192x256, .bf16⟩
  | .local _ .vmem, ⟨0, _⟩ => ⟨S1x4096x2, .i8⟩
  | .local _ .vmem, ⟨1, _⟩ => ⟨S1x4096x2, .i8⟩
  | .local _ .vmem, ⟨2, _⟩ => ⟨S1x3x512x32, .i8⟩
  | .local _ .vmem, ⟨3, _⟩ => ⟨S1x3x512x32, .i8⟩
  | .local _ .vmem, ⟨4, _⟩ => ⟨S1x1024x222, .i8⟩
  | .local _ .vmem, ⟨5, _⟩ => ⟨S1x1024x222, .i8⟩
  | .local _ .vmem, ⟨6, _⟩ => ⟨S1x32x256, .f32⟩
  | .local _ .vmem, ⟨7, _⟩ => ⟨S1x32x256, .f32⟩
  | .local _ .vmem, ⟨8, _⟩ => ⟨S1x32x256, .i8⟩
  | .local _ .vmem, ⟨9, _⟩ => ⟨S1x32x256, .i8⟩
  | .local _ .vmem, ⟨10, _⟩ => ⟨S1x4096x256, .bf16⟩
  | .local _ .vmem, ⟨11, _⟩ => ⟨S1x4096x256, .bf16⟩
  | _, _ => ⟨S5x2x8192, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![5, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x2 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x512x32 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x222 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x256 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DequantUReferenceIdeal.lean ====
abbrev S5x2x8192 : Shape := ⟨3, ![5, 2, 8192]⟩
abbrev S5x32x1024x3 : Shape := ⟨4, ![5, 32, 1024, 3]⟩
abbrev S5x222x2048 : Shape := ⟨3, ![5, 222, 2048]⟩
abbrev S5x256x64 : Shape := ⟨3, ![5, 256, 64]⟩
abbrev S5x32x1024x1 : Shape := ⟨4, ![5, 32, 1024, 1]⟩
abbrev S5x32x1024 : Shape := ⟨3, ![5, 32, 1024]⟩
abbrev S_ : Shape := ⟨0, ![]⟩
abbrev S8 : Shape := ⟨1, ![8]⟩
abbrev S1x1x1x8 : Shape := ⟨4, ![1, 1, 1, 8]⟩
abbrev S5x32x1024x8 : Shape := ⟨4, ![5, 32, 1024, 8]⟩
abbrev S5x222x2048x1 : Shape := ⟨4, ![5, 222, 2048, 1]⟩
abbrev S4 : Shape := ⟨1, ![4]⟩
abbrev S1x1x1x4 : Shape := ⟨4, ![1, 1, 1, 4]⟩
abbrev S5x222x2048x4 : Shape := ⟨4, ![5, 222, 2048, 4]⟩
abbrev S5x32x8192 : Shape := ⟨3, ![5, 32, 8192]⟩
abbrev S5x222x8192 : Shape := ⟨3, ![5, 222, 8192]⟩
abbrev S5x256x8192 : Shape := ⟨3, ![5, 256, 8192]⟩
abbrev S5x256x64x128 : Shape := ⟨4, ![5, 256, 64, 128]⟩
abbrev S5x8192x256 : Shape := ⟨3, ![5, 8192, 256]⟩

abbrev nBuf : Space → Nat
  | .hbm => 59
  | .vmem => 0
  | .smem => 0
  | _ => 0

abbrev bufTy : (tb : Table) → Fin (tcTables nBuf tb) → BufTy
  | .hbm, ⟨0, _⟩ => ⟨S5x2x8192, .i8⟩
  | .hbm, ⟨1, _⟩ => ⟨S5x32x1024x3, .i8⟩
  | .hbm, ⟨2, _⟩ => ⟨S5x222x2048, .i8⟩
  | .hbm, ⟨3, _⟩ => ⟨S5x256x64, .f32⟩
  | .hbm, ⟨4, _⟩ => ⟨S5x256x64, .i8⟩
  | .hbm, ⟨5, _⟩ => ⟨S5x32x1024x3, .i32⟩
  | .hbm, ⟨6, _⟩ => ⟨S5x32x1024x1, .i32⟩
  | .hbm, ⟨7, _⟩ => ⟨S5x32x1024, .i32⟩
  | .hbm, ⟨8, _⟩ => ⟨S5x32x1024x1, .i32⟩
  | .hbm, ⟨9, _⟩ => ⟨S5x32x1024, .i32⟩
  | .hbm, ⟨10, _⟩ => ⟨S_, .i32⟩
  | .hbm, ⟨11, _⟩ => ⟨S5x32x1024, .i32⟩
  | .hbm, ⟨12, _⟩ => ⟨S5x32x1024, .i32⟩
  | .hbm, ⟨13, _⟩ => ⟨S5x32x1024, .i32⟩
  | .hbm, ⟨14, _⟩ => ⟨S5x32x1024x1, .i32⟩
  | .hbm, ⟨15, _⟩ => ⟨S5x32x1024, .i32⟩
  | .hbm, ⟨16, _⟩ => ⟨S_, .i32⟩
  | .hbm, ⟨17, _⟩ => ⟨S5x32x1024, .i32⟩
  | .hbm, ⟨18, _⟩ => ⟨S5x32x1024, .i32⟩
  | .hbm, ⟨19, _⟩ => ⟨S5x32x1024, .i32⟩
  | .hbm, ⟨20, _⟩ => ⟨S5x32x1024x1, .i32⟩
  | .hbm, ⟨21, _⟩ => ⟨S8, .i32⟩
  | .hbm, ⟨22, _⟩ => ⟨S_, .i32⟩
  | .hbm, ⟨23, _⟩ => ⟨S8, .i32⟩
  | .hbm, ⟨24, _⟩ => ⟨S8, .i32⟩
  | .hbm, ⟨25, _⟩ => ⟨S1x1x1x8, .i32⟩
  | .hbm, ⟨26, _⟩ => ⟨S5x32x1024x8, .i32⟩
  | .hbm, ⟨27, _⟩ => ⟨S5x32x1024x8, .i32⟩
  | .hbm, ⟨28, _⟩ => ⟨S5x32x1024x8, .i32⟩
  | .hbm, ⟨29, _⟩ => ⟨S_, .i32⟩
  | .hbm, ⟨30, _⟩ => ⟨S5x32x1024x8, .i32⟩
  | .hbm, ⟨31, _⟩ => ⟨S5x32x1024x8, .i32⟩
  | .hbm, ⟨32, _⟩ => ⟨S5x222x2048, .i32⟩
  | .hbm, ⟨33, _⟩ => ⟨S5x222x2048x1, .i32⟩
  | .hbm, ⟨34, _⟩ => ⟨S4, .i32⟩
  | .hbm, ⟨35, _⟩ => ⟨S_, .i32⟩
  | .hbm, ⟨36, _⟩ => ⟨S4, .i32⟩
  | .hbm, ⟨37, _⟩ => ⟨S4, .i32⟩
  | .hbm, ⟨38, _⟩ => ⟨S1x1x1x4, .i32⟩
  | .hbm, ⟨39, _⟩ => ⟨S5x222x2048x4, .i32⟩
  | .hbm, ⟨40, _⟩ => ⟨S5x222x2048x4, .i32⟩
  | .hbm, ⟨41, _⟩ => ⟨S5x222x2048x4, .i32⟩
  | .hbm, ⟨42, _⟩ => ⟨S_, .i32⟩
  | .hbm, ⟨43, _⟩ => ⟨S5x222x2048x4, .i32⟩
  | .hbm, ⟨44, _⟩ => ⟨S5x222x2048x4, .i32⟩
  | .hbm, ⟨45, _⟩ => ⟨S5x2x8192, .i32⟩
  | .hbm, ⟨46, _⟩ => ⟨S5x32x8192, .i32⟩
  | .hbm, ⟨47, _⟩ => ⟨S5x222x8192, .i32⟩
  | .hbm, ⟨48, _⟩ => ⟨S5x256x8192, .i32⟩
  | .hbm, ⟨49, _⟩ => ⟨S5x256x64, .i32⟩
  | .hbm, ⟨50, _⟩ => ⟨S5x256x64x128, .i32⟩
  | .hbm, ⟨51, _⟩ => ⟨S5x256x8192, .i32⟩
  | .hbm, ⟨52, _⟩ => ⟨S5x256x64, .bf16⟩
  | .hbm, ⟨53, _⟩ => ⟨S5x256x64x128, .bf16⟩
  | .hbm, ⟨54, _⟩ => ⟨S5x256x8192, .bf16⟩
  | .hbm, ⟨55, _⟩ => ⟨S5x256x8192, .i32⟩
  | .hbm, ⟨56, _⟩ => ⟨S5x256x8192, .bf16⟩
  | .hbm, ⟨57, _⟩ => ⟨S5x256x8192, .bf16⟩
  | .hbm, ⟨58, _⟩ => ⟨S5x8192x256, .bf16⟩
  | _, _ => ⟨S5x2x8192, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_4 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩

abbrev nD : Nat := 1
abbrev τ : Topo := Topo.v7x

variable {F : FTy → Type} [FloatOps F]
-- ==== Proof.Words.lean ====
/-
  The integer side of the main product's kernel, as plain words and with no reference to a program.  A row block asks
  how many of the first four tenants end at or before its first row (`first`) and at or before its last row (`last`);
  both counts lie between 0 and 4.  The kernel's two counted loops over tenants `first + 1 … last` are the two `scf.for`s
  of an unrolled-by-one loop: the second one never runs.
-/
module

public import Idealize.ShloMosaic.Lib.Scf
public import Idealize.ShloMosaic.Lib.Tactic

@[expose] public section

noncomputable section

namespace Cert.Words

open Idealize.ShloMosaic

/-- One tenant's contribution to a count: 1 if its last row lies at or before `r`. -/
abbrev endsBy (e r : BitVec 32) : BitVec 32 := Scalar.extui (Scalar.cmpi .sle e r)

/-- How many of the four running totals of the sizes are at most `r`. -/
abbrev count (s0 s1 s2 s3 r : BitVec 32) : BitVec 32 :=
  Scalar.addi (Scalar.addi (Scalar.addi (Scalar.addi 0#32
    (endsBy (Scalar.addi 0#32 s0) r))
    (endsBy (Scalar.addi (Scalar.addi 0#32 s0) s1) r))
    (endsBy (Scalar.addi (Scalar.addi (Scalar.addi 0#32 s0) s1) s2) r))
    (endsBy (Scalar.addi (Scalar.addi (Scalar.addi (Scalar.addi 0#32 s0) s1) s2) s3) r)

/-- The bounds of the first loop. -/
@[reducible] def loop1 (f l : BitVec 32) : Scf.Loop 32 :=
  ⟨Scalar.addi f 1#32, Scalar.addi (Scalar.addi f 1#32)
    (Scalar.muli (Scalar.divsi (Scalar.subi (Scalar.addi l 1#32) (Scalar.addi f 1#32)) 1#32) 1#32), 1#32⟩

/-- The bounds of the second loop. -/
@[reducible] def loop2 (f l : BitVec 32) : Scf.Loop 32 :=
  ⟨Scalar.addi (Scalar.addi f 1#32)
    (Scalar.muli (Scalar.divsi (Scalar.subi (Scalar.addi l 1#32) (Scalar.addi f 1#32)) 1#32) 1#32),
   Scalar.addi (Scalar.addi f 1#32) (Scalar.subi (Scalar.addi l 1#32) (Scalar.addi f 1#32)), 1#32⟩

theorem endsBy_le (b : BitVec 1) : ((Scalar.extui b : BitVec 32)).toNat = b.toNat := by revert b; decide +kernel

/-- A count is the number of totals at most `r`, as a natural number. -/
theorem count_toNat (s0 s1 s2 s3 r : BitVec 32) : (count s0 s1 s2 s3 r).toNat
    = (Scalar.cmpi .sle (0#32 + s0) r).toNat + (Scalar.cmpi .sle (0#32 + s0 + s1) r).toNat
      + (Scalar.cmpi .sle (0#32 + s0 + s1 + s2) r).toNat + (Scalar.cmpi .sle (0#32 + s0 + s1 + s2 + s3) r).toNat := by
  have key : ∀ a b c d : BitVec 1, (Scalar.addi (Scalar.addi (Scalar.addi (Scalar.addi 0#32 (Scalar.extui a)) (Scalar.extui b))
      (Scalar.extui c)) (Scalar.extui d) : BitVec 32).toNat = a.toNat + b.toNat + c.toNat + d.toNat := by decide +kernel
  exact key _ _ _ _

theorem count_le (s0 s1 s2 s3 r : BitVec 32) : (count s0 s1 s2 s3 r).toNat ≤ 4 := by
  rw [count_toNat]
  have h : ∀ b : BitVec 1, b.toNat ≤ 1 := by decide
  have := h (Scalar.cmpi .sle (0#32 + s0) r); have := h (Scalar.cmpi .sle (0#32 + s0 + s1) r)
  have := h (Scalar.cmpi .sle (0#32 + s0 + s1 + s2) r); have := h (Scalar.cmpi .sle (0#32 + s0 + s1 + s2 + s3) r)
  omega

/-- What the two loops need and what their trips are, for counts between 0 and 4. -/
theorem loops_fin : ∀ f l : Fin 5,
    (loop1 (BitVec.ofNat 32 f) (BitVec.ofNat 32 l)).OK ∧ (loop2 (BitVec.ofNat 32 f) (BitVec.ofNat 32 l)).OK
    ∧ (loop1 (BitVec.ofNat 32 f) (BitVec.ofNat 32 l)).trips = l.val - f.val
    ∧ (loop2 (BitVec.ofNat 32 f) (BitVec.ofNat 32 l)).trips = 0
    ∧ ∀ k : Fin 5, k.val < l.val - f.val →
        (Scf.iv (Scalar.addi (BitVec.ofNat 32 f) 1#32) 1#32 k.val).toNat = f.val + 1 + k.val := by decide +kernel

theorem loops (f l : BitVec 32) (hf : f.toNat ≤ 4) (hl : l.toNat ≤ 4) :
    (loop1 f l).OK ∧ (loop2 f l).OK ∧ (loop1 f l).trips = l.toNat - f.toNat ∧ (loop2 f l).trips = 0
    ∧ ∀ k : ℕ, k < l.toNat - f.toNat → (Scf.iv (Scalar.addi f 1#32) 1#32 k).toNat = f.toNat + 1 + k := by
  have h := loops_fin ⟨f.toNat, by omega⟩ ⟨l.toNat, by omega⟩
  simp only [BitVec.ofNat_toNat, BitVec.setWidth_eq] at h
  exact ⟨h.1, h.2.1, h.2.2.1, h.2.2.2.1, fun k hk => h.2.2.2.2 ⟨k, by omega⟩ hk⟩

/-- The bounds of the quantiser's first loop, which starts at tenant `first` itself. -/
@[reducible] def loopA (f l : BitVec 32) : Scf.Loop 32 :=
  ⟨f, Scalar.addi f (Scalar.muli (Scalar.divsi (Scalar.subi (Scalar.addi l 1#32) f) 1#32) 1#32), 1#32⟩

/-- The bounds of its second loop. -/
@[reducible] def loopB (f l : BitVec 32) : Scf.Loop 32 :=
  ⟨Scalar.addi f (Scalar.muli (Scalar.divsi (Scalar.subi (Scalar.addi l 1#32) f) 1#32) 1#32),
   Scalar.addi f (Scalar.subi (Scalar.addi l 1#32) f), 1#32⟩

theorem loopsAB_fin : ∀ f l : Fin 5,
    (loopA (BitVec.ofNat 32 f) (BitVec.ofNat 32 l)).OK ∧ (loopB (BitVec.ofNat 32 f) (BitVec.ofNat 32 l)).OK
    ∧ (loopA (BitVec.ofNat 32 f) (BitVec.ofNat 32 l)).trips = l.val + 1 - f.val
    ∧ (loopB (BitVec.ofNat 32 f) (BitVec.ofNat 32 l)).trips = 0
    ∧ ∀ k : Fin 5, k.val < l.val + 1 - f.val → (Scf.iv (BitVec.ofNat 32 f) 1#32 k.val).toNat = f.val + k.val := by decide +kernel

/-- What these two loops need and what their trips are, for counts between 0 and 4. -/
theorem loopsAB (f l : BitVec 32) (hf : f.toNat ≤ 4) (hl : l.toNat ≤ 4) :
    (loopA f l).OK ∧ (loopB f l).OK ∧ (loopA f l).trips = l.toNat + 1 - f.toNat ∧ (loopB f l).trips = 0
    ∧ ∀ k : ℕ, k < l.toNat + 1 - f.toNat → (Scf.iv f 1#32 k).toNat = f.toNat + k := by
  have h := loopsAB_fin ⟨f.toNat, by omega⟩ ⟨l.toNat, by omega⟩
  simp only [BitVec.ofNat_toNat, BitVec.setWidth_eq] at h
  exact ⟨h.1, h.2.1, h.2.2.1, h.2.2.2.1, fun k hk => h.2.2.2.2 ⟨k, by omega⟩ hk⟩

end Cert.Words

end
-- ==== Proof.HypsKernel.lean ====
/-
  The main product's kernel reads two words off the tenants' sizes — the first and the last tenant meeting a row block — and
  uses them as loop bounds and as tenant indices.  Whatever the sizes are, these words keep every index in range and the
  loops well-formed, so the side conditions of a run hold at every point of the grid.
-/
module

public import proofs.«01_k».proof.Proof.Words
public import proofs.«01_k».proof.Proof.Gen.Kernel.Frame.Runs

@[expose] public section

noncomputable section

namespace Cert.Kernel.Main

open Idealize.ShloMosaic Idealize.ShloMosaic.TcCoe Idealize.SL.Sem
open Cert.Kernel Cert.Kernel.Gen

/-- The first row of the block at grid point `i`, and its last row. -/
abbrev row0 (i : grid0.Coords) : BitVec 32 := Scalar.muli (BitVec.ofNat 32 (i 1).val) 512#32
abbrev rowL (i : grid0.Coords) : BitVec 32 := Scalar.subi (Scalar.addi (row0 i) 512#32) 1#32

/-- The first tenant meeting the block, and the last. -/
abbrev first (i : grid0.Coords) (s0 s1 s2 s3 : BitVec 32) : BitVec 32 := Words.count s0 s1 s2 s3 (row0 i)
abbrev last (i : grid0.Coords) (s0 s1 s2 s3 : BitVec 32) : BitVec 32 := Words.count s0 s1 s2 s3 (rowL i)

theorem loop1_eq (i : grid0.Coords) (s0 s1 s2 s3 : BitVec 32) :
    k0_t1_loop i s0 s1 s2 s3 = Words.loop1 (first i s0 s1 s2 s3) (last i s0 s1 s2 s3) := rfl
theorem loop2_eq (i : grid0.Coords) (s0 s1 s2 s3 : BitVec 32) :
    k0_t2_loop i s0 s1 s2 s3 = Words.loop2 (first i s0 s1 s2 s3) (last i s0 s1 s2 s3) := rfl
theorem off1_eq (i : grid0.Coords) (s0 s1 s2 s3 : BitVec 32) :
    k0_off1 i s0 s1 s2 s3 = ![(first i s0 s1 s2 s3).toNat, 0, 0] := rfl
theorem off2_eq (i : grid0.Coords) (s0 s1 s2 s3 : BitVec 32) (k : Fin (k0_t1_loop i s0 s1 s2 s3).trips) :
    k0_off2 i s0 s1 s2 s3 k = ![(Scf.iv (Scalar.addi (first i s0 s1 s2 s3) 1#32) 1#32 k.val).toNat, 0, 0] := rfl

theorem trips1 (i : grid0.Coords) (s0 s1 s2 s3 : BitVec 32) : (k0_t1_loop i s0 s1 s2 s3).trips
    = (last i s0 s1 s2 s3).toNat - (first i s0 s1 s2 s3).toNat :=
  (Words.loops _ _ (Words.count_le ..) (Words.count_le ..)).2.2.1
theorem trips2 (i : grid0.Coords) (s0 s1 s2 s3 : BitVec 32) : (k0_t2_loop i s0 s1 s2 s3).trips = 0 :=
  (Words.loops _ _ (Words.count_le ..) (Words.count_le ..)).2.2.2.1
theorem iv1 (i : grid0.Coords) (s0 s1 s2 s3 : BitVec 32) (k : ℕ)
    (hk : k < (last i s0 s1 s2 s3).toNat - (first i s0 s1 s2 s3).toNat) :
    (Scf.iv (Scalar.addi (first i s0 s1 s2 s3) 1#32) 1#32 k).toNat = (first i s0 s1 s2 s3).toNat + 1 + k :=
  (Words.loops _ _ (Words.count_le ..) (Words.count_le ..)).2.2.2.2 k hk

theorem inb_of (n : ℕ) (h : n ≤ 4) : ∀ a, (![n, 0, 0] : Fin 3 → ℕ) a + S1x1024x256.size a ≤ S5x1024x256.size a := by
  intro a
  fin_cases a
  · show n + 1 ≤ 5; omega
  · show 0 + 1024 ≤ 1024; omega
  · show 0 + 256 ≤ 256; omega

/-- The kernel's side condition holds for every four words. -/
theorem chk (i : grid0.Coords) (s0 s1 s2 s3 : BitVec 32) : k0_chk1 i s0 s1 s2 s3 := by
  have hf : (first i s0 s1 s2 s3).toNat ≤ 4 := Words.count_le ..
  have hl : (last i s0 s1 s2 s3).toNat ≤ 4 := Words.count_le ..
  have h := Words.loops _ _ hf hl
  refine ⟨?_, h.1, fun k => ?_, h.2.1, fun k => ?_⟩
  · rw [off1_eq]; exact inb_of _ hf
  · have hk : k.val < (last i s0 s1 s2 s3).toNat - (first i s0 s1 s2 s3).toNat := lt_of_lt_of_eq k.isLt (trips1 i s0 s1 s2 s3)
    rw [off2_eq, iv1 i s0 s1 s2 s3 k.val hk]
    exact inb_of _ (by omega)
  · exact absurd (lt_of_lt_of_eq k.isLt (trips2 i s0 s1 s2 s3)) (Nat.not_lt_zero _)

variable {F : FTy → Type} [FloatOps F]

/-- So the side conditions of a run hold, whatever the arguments are. -/
theorem hyps (m : (ℓ : Loc nD τ sig) → Buf (Elt F) ℓ) : Hyps m := fun _ _ => chk ..

end Cert.Kernel.Main

end
-- ==== Proof.HypsIdeal.lean ====
/-
  The main product's kernel reads two words off the tenants' sizes — the first and the last tenant meeting a row block — and
  uses them as loop bounds and as tenant indices.  Whatever the sizes are, these words keep every index in range and the
  loops well-formed, so the side conditions of a run hold at every point of the grid.
-/
module

public import proofs.«01_k».proof.Proof.Words
public import proofs.«01_k».proof.Proof.Gen.KernelIdeal.Frame.Runs

@[expose] public section

noncomputable section

namespace Cert.KernelIdeal.Main

open Idealize.ShloMosaic Idealize.ShloMosaic.TcCoe Idealize.SL.Sem
open Cert.KernelIdeal Cert.KernelIdeal.Gen

/-- The first row of the block at grid point `i`, and its last row. -/
abbrev row0 (i : grid0.Coords) : BitVec 32 := Scalar.muli (BitVec.ofNat 32 (i 1).val) 512#32
abbrev rowL (i : grid0.Coords) : BitVec 32 := Scalar.subi (Scalar.addi (row0 i) 512#32) 1#32

/-- The first tenant meeting the block, and the last. -/
abbrev first (i : grid0.Coords) (s0 s1 s2 s3 : BitVec 32) : BitVec 32 := Words.count s0 s1 s2 s3 (row0 i)
abbrev last (i : grid0.Coords) (s0 s1 s2 s3 : BitVec 32) : BitVec 32 := Words.count s0 s1 s2 s3 (rowL i)

theorem loop1_eq (i : grid0.Coords) (s0 s1 s2 s3 : BitVec 32) :
    k0_t1_loop i s0 s1 s2 s3 = Words.loop1 (first i s0 s1 s2 s3) (last i s0 s1 s2 s3) := rfl
theorem loop2_eq (i : grid0.Coords) (s0 s1 s2 s3 : BitVec 32) :
    k0_t2_loop i s0 s1 s2 s3 = Words.loop2 (first i s0 s1 s2 s3) (last i s0 s1 s2 s3) := rfl
theorem off1_eq (i : grid0.Coords) (s0 s1 s2 s3 : BitVec 32) :
    k0_off1 i s0 s1 s2 s3 = ![(first i s0 s1 s2 s3).toNat, 0, 0] := rfl
theorem off2_eq (i : grid0.Coords) (s0 s1 s2 s3 : BitVec 32) (k : Fin (k0_t1_loop i s0 s1 s2 s3).trips) :
    k0_off2 i s0 s1 s2 s3 k = ![(Scf.iv (Scalar.addi (first i s0 s1 s2 s3) 1#32) 1#32 k.val).toNat, 0, 0] := rfl

theorem trips1 (i : grid0.Coords) (s0 s1 s2 s3 : BitVec 32) : (k0_t1_loop i s0 s1 s2 s3).trips
    = (last i s0 s1 s2 s3).toNat - (first i s0 s1 s2 s3).toNat :=
  (Words.loops _ _ (Words.count_le ..) (Words.count_le ..)).2.2.1
theorem trips2 (i : grid0.Coords) (s0 s1 s2 s3 : BitVec 32) : (k0_t2_loop i s0 s1 s2 s3).trips = 0 :=
  (Words.loops _ _ (Words.count_le ..) (Words.count_le ..)).2.2.2.1
theorem iv1 (i : grid0.Coords) (s0 s1 s2 s3 : BitVec 32) (k : ℕ)
    (hk : k < (last i s0 s1 s2 s3).toNat - (first i s0 s1 s2 s3).toNat) :
    (Scf.iv (Scalar.addi (first i s0 s1 s2 s3) 1#32) 1#32 k).toNat = (first i s0 s1 s2 s3).toNat + 1 + k :=
  (Words.loops _ _ (Words.count_le ..) (Words.count_le ..)).2.2.2.2 k hk

theorem inb_of (n : ℕ) (h : n ≤ 4) : ∀ a, (![n, 0, 0] : Fin 3 → ℕ) a + S1x1024x256.size a ≤ S5x1024x256.size a := by
  intro a
  fin_cases a
  · show n + 1 ≤ 5; omega
  · show 0 + 1024 ≤ 1024; omega
  · show 0 + 256 ≤ 256; omega

/-- The kernel's side condition holds for every four words. -/
theorem chk (i : grid0.Coords) (s0 s1 s2 s3 : BitVec 32) : k0_chk1 i s0 s1 s2 s3 := by
  have hf : (first i s0 s1 s2 s3).toNat ≤ 4 := Words.count_le ..
  have hl : (last i s0 s1 s2 s3).toNat ≤ 4 := Words.count_le ..
  have h := Words.loops _ _ hf hl
  refine ⟨?_, h.1, fun k => ?_, h.2.1, fun k => ?_⟩
  · rw [off1_eq]; exact inb_of _ hf
  · have hk : k.val < (last i s0 s1 s2 s3).toNat - (first i s0 s1 s2 s3).toNat := lt_of_lt_of_eq k.isLt (trips1 i s0 s1 s2 s3)
    rw [off2_eq, iv1 i s0 s1 s2 s3 k.val hk]
    exact inb_of _ (by omega)
  · exact absurd (lt_of_lt_of_eq k.isLt (trips2 i s0 s1 s2 s3)) (Nat.not_lt_zero _)

variable {F : FTy → Type} [FloatOps F]

/-- So the side conditions of a run hold, whatever the arguments are. -/
theorem hyps (m : (ℓ : Loc nD τ sig) → Buf (Elt F) ℓ) : Hyps m := fun _ _ => chk ..

end Cert.KernelIdeal.Main

end
-- ==== Proof.MainDelta.lean ====
/-
  The adapter's product in the main kernel: the loop over the tenants meeting a row block leaves, row by row, the product
  of the last tenant whose start the row has reached.  Here the loop's effect on the block is brought to a closed form.
-/
module

public import proofs.«01_k».proof.Proof.HypsIdeal
public import proofs.«01_k».proof.Proof.Gen.KernelIdeal.Value
public import Idealize.ShloMosaic.Lib.Tactic
public import Idealize.ShloMosaic.Lib.VecWindow
public import Idealize.ShloMosaic.Lib.Pointwise

@[expose] public section

noncomputable section

namespace Cert.KernelIdeal.Main

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- The block of tenant `n`'s factor, of the block of all five. -/
abbrev factor (x6 : Vec F S5x1024x256 .bf16) (off : Fin 3 → ℕ) (h : ∀ a, off a + S1x1024x256.size a ≤ S5x1024x256.size a) :
    Vec F S1x1024x256 .bf16 := View.ld x6 (Rect.unit (s := S5x1024x256) off S1x1024x256.size h)

/-- The adapter's product as the loop leaves it before trip `k`: the first tenant's product everywhere, then each later
    tenant's over the rows from its start. -/
def delta (i : grid0.Coords) (s0 s1 s2 s3 : BitVec 32) (x5 : Vec F S512x256 .bf16) (x6 : Vec F S5x1024x256 .bf16) :
    ℕ → Vec F S512x1024 .f32
  | 0 => k0_pay2 x5 (factor x6 (k0_off1 i s0 s1 s2 s3) (k0_off1_inb i s0 s1 s2 s3 (chk i s0 s1 s2 s3)))
  | k + 1 => if h : k < (k0_t1_loop i s0 s1 s2 s3).trips then
      k0_pay3 (F := F) i (row0 i) s0 s1 s2 s3 (first i s0 s1 s2 s3) ⟨k, h⟩ s0 s1 s2 s3 x5
        (factor x6 (k0_off2 i s0 s1 s2 s3 ⟨k, h⟩) (k0_off2_inb i s0 s1 s2 s3 (chk i s0 s1 s2 s3) ⟨k, h⟩))
        (delta i s0 s1 s2 s3 x5 x6 k)
      else delta i s0 s1 s2 s3 x5 x6 k

section Trips

variable (𝒱 : Variants) (c : Dev nD) (bd : Option 𝒱.V) (i : grid0.Coords) (arg2 : Memref sig .tc .smem S5 .i32) (harg2 : arg2.IsWhole) (arg3 : Memref sig .tc .vmem S512x3072 .fp8e4m3) (harg3 : arg3.IsWhole) (arg4 : Memref sig .tc .vmem S3072x1024 .fp8e4m3) (harg4 : arg4.IsWhole) (arg5 : Memref sig .tc .vmem S1x1024 .f32) (harg5 : arg5.IsWhole) (arg6 : Memref sig .tc .vmem S512x128 .f32) (harg6 : arg6.IsWhole) (arg7 : Memref sig .tc .vmem S512x256 .bf16) (harg7 : arg7.IsWhole) (arg8 : Memref sig .tc .vmem S5x1024x256 .bf16) (harg8 : arg8.IsWhole) (arg9 : Memref sig .tc .vmem S512x1024 .bf16) (harg9 : arg9.IsWhole) (arg10 : Memref sig .tc .vmem S512x1024 .f32) (harg10 : arg10.IsWhole)

/-- The word of `arg2` at position `n`. -/
abbrev word (arg2 : Memref sig .tc .smem S5 .i32) (X : BufTy.Contents (Elt F) arg2.view.ty) (n : ℕ) (h : ∀ a, (![n] : Fin 1 → ℕ) a + S1.size a ≤ S5.size a) :
    BitVec 32 :=
  arg2.view.readAt (Elt F) (Rect.unit (s := S5) ![n] S1.size h).toLoadRect X (Shape.Idx.first (numel1_S1.symm ▸ Nat.one_pos))

/-- One trip of the first loop writes the whole block once. -/
theorem tripL_eq (v0 : BitVec 32) (v1 v11 v21 v31 : Elt F .i32) (hw : k0_chk1 i v1 v11 v21 v31) (v35 v40 : BitVec 32)
    (X2 : BufTy.Contents (Elt F) arg2.view.ty) (X7 : BufTy.Contents (Elt F) arg7.view.ty) (X8 : BufTy.Contents (Elt F) arg8.view.ty)
    (k : Fin (k0_t1_loop i v1 v11 v21 v31).trips) (a : BitVec 32) (f : BufTy.Contents (Elt F) arg10.view.ty) :
    tripL_k0_t1 (F := F) 𝒱 c bd i arg2 harg2 arg3 harg3 arg4 harg4 arg5 harg5 arg6 harg6 arg7 harg7 arg8 harg8 arg9 harg9 arg10 harg10
      v0 v1 v11 v21 v31 hw v35 v40 X2 X7 X8 k a f
    = [⟨Rect.unit (s := S512x1024) ![0, 0] S512x1024.size inb_S512x1024_S512x1024_0_0,
        k0_pay3 i v0 v1 v11 v21 v31 v35 k (word arg2 X2 0 inb_S5_S1_0) (word arg2 X2 1 inb_S5_S1_1) (word arg2 X2 2 inb_S5_S1_2) (word arg2 X2 3 inb_S5_S1_3)
          (arg7.view.readAt (Elt F) (Rect.unit (s := S512x256) ![0, 0] S512x256.size inb_S512x256_S512x256_0_0).toLoadRect X7)
          (arg8.view.readAt (Elt F) (Rect.unit (s := S5x1024x256) (k0_off2 i v1 v11 v21 v31 k) S1x1024x256.size (k0_off2_inb i v1 v11 v21 v31 hw k)).toLoadRect X8)
          (arg10.view.readAt (Elt F) (Rect.unit (s := S512x1024) ![0, 0] S512x1024.size inb_S512x1024_S512x1024_0_0).toLoadRect f)⟩] := by
  unfold tripL_k0_t1 trip_k0_t1
  rfl

/-- Reading a word of a buffer that holds `x`. -/
theorem word_unread (x : Vec F S5 .i32) (n : ℕ) (hn : n < 5) (h) : word arg2 (harg2.unread x) n h = x (ix1 ⟨n, hn⟩) := by
  show arg2.view.readAt (Elt F) _ _ _ = _
  rw [View.readAt_eq_ld, harg2.read_unread]
  show x _ = x _
  congr 1
  funext a
  fin_cases a
  exact Fin.ext (by show n + 1 * 0 = n; omega)

/-- The loop's contents before trip `k`, from contents that read as `delta 0`. -/
theorem read_loop1 (s0 s1 s2 s3 : BitVec 32) (hw : k0_chk1 i s0 s1 s2 s3) (v40 init : BitVec 32)
    (X2 : BufTy.Contents (Elt F) arg2.view.ty) (x5 : Vec F S512x256 .bf16) (x6 : Vec F S5x1024x256 .bf16)
    (G : BufTy.Contents (Elt F) arg10.view.ty)
    (h0 : word arg2 X2 0 inb_S5_S1_0 = s0) (h1 : word arg2 X2 1 inb_S5_S1_1 = s1) (h2 : word arg2 X2 2 inb_S5_S1_2 = s2) (h3 : word arg2 X2 3 inb_S5_S1_3 = s3)
    (hG : arg10.view.read (Elt F) G = delta i s0 s1 s2 s3 x5 x6 0) :
    ∀ k : ℕ, k ≤ (k0_t1_loop i s0 s1 s2 s3).trips →
      arg10.view.read (Elt F) (arg10.view.writes (Elt F) G (st_k0_t1 (F := F) 𝒱 c bd i arg2 harg2 arg3 harg3 arg4 harg4 arg5 harg5 arg6 harg6 arg7 harg7 arg8 harg8 arg9 harg9 arg10 harg10
        (row0 i) s0 s1 s2 s3 hw (first i s0 s1 s2 s3) v40 X2 (harg7.unread x5) (harg8.unread x6) G init k).2) = delta i s0 s1 s2 s3 x5 x6 k
  | 0, _ => hG
  | k + 1, hk => by
    have ih := read_loop1 s0 s1 s2 s3 hw v40 init X2 x5 x6 G h0 h1 h2 h3 hG k (by omega)
    have e := st_k0_t1_succ (F := F) 𝒱 c bd i arg2 harg2 arg3 harg3 arg4 harg4 arg5 harg5 arg6 harg6 arg7 harg7 arg8 harg8 arg9 harg9 arg10 harg10
        (row0 i) s0 s1 s2 s3 hw (first i s0 s1 s2 s3) v40 X2 (harg7.unread x5) (harg8.unread x6) G init ⟨k, hk⟩
    dsimp only at e
    rw [e, tripL_eq, h0, h1, h2, h3]
    show arg10.view.read (Elt F) (arg10.view.writes (Elt F) _ (_ :: _)) = _
    rw [View.read_writes_full, View.readAt_eq_ld, View.readAt_eq_ld, View.readAt_eq_ld, harg7.read_unread, harg8.read_unread, ih,
      View.ld_unit_zero (S := S512x256) hz, View.ld_unit_zero (S := S512x1024) hz]
    conv_rhs => rw [delta, dif_pos (show k < (k0_t1_loop i s0 s1 s2 s3).trips from hk)]

/-- What the kernel leaves in the block of `y_delta` is the loop's last contents; every element is written. -/
theorem L8_read (x0 : Vec F S5 .i32) (x1 : Vec F S512x3072 .fp8e4m3) (x2 : Vec F S3072x1024 .fp8e4m3) (x3 : Vec F S1x1024 .f32) (x4 : Vec F S512x128 .f32) (x5 : Vec F S512x256 .bf16) (x6 : Vec F S5x1024x256 .bf16) (hw)
    (f : BufTy.Contents (Elt F) arg10.view.ty) :
    arg10.view.read (Elt F) (arg10.view.writes (Elt F) f (kernelRun0_A (F := F) c i arg2 harg2 arg3 harg3 arg4 harg4 arg5 harg5 arg6 harg6 arg7 harg7 arg8 harg8 arg9 harg9 arg10 harg10 x0 x1 x2 x3 x4 x5 x6 hw).2.1)
      = delta i (x0 (ix1 0)) (x0 (ix1 1)) (x0 (ix1 2)) (x0 (ix1 3)) x5 x6
          (k0_t1_loop i (x0 (ix1 0)) (x0 (ix1 1)) (x0 (ix1 2)) (x0 (ix1 3))).trips := by
  have e0 := word_unread arg2 harg2 x0 0 (by omega) inb_S5_S1_0
  have e1 := word_unread arg2 harg2 x0 1 (by omega) inb_S5_S1_1
  have e2 := word_unread arg2 harg2 x0 2 (by omega) inb_S5_S1_2
  have e3 := word_unread arg2 harg2 x0 3 (by omega) inb_S5_S1_3
  show arg10.view.read (Elt F) (arg10.view.writes (Elt F) f ((st_k0_t2 (F := F) Variants.none c none i arg2 harg2 arg3 harg3 arg4 harg4 arg5 harg5 arg6 harg6 arg7 harg7 arg8 harg8 arg9 harg9 arg10 harg10
      (row0 i) (word arg2 (harg2.unread x0) 0 inb_S5_S1_0) (word arg2 (harg2.unread x0) 1 inb_S5_S1_1) (word arg2 (harg2.unread x0) 2 inb_S5_S1_2) (word arg2 (harg2.unread x0) 3 inb_S5_S1_3)
      hw (first i (word arg2 (harg2.unread x0) 0 inb_S5_S1_0) (word arg2 (harg2.unread x0) 1 inb_S5_S1_1) (word arg2 (harg2.unread x0) 2 inb_S5_S1_2) (word arg2 (harg2.unread x0) 3 inb_S5_S1_3))
      (last i (word arg2 (harg2.unread x0) 0 inb_S5_S1_0) (word arg2 (harg2.unread x0) 1 inb_S5_S1_1) (word arg2 (harg2.unread x0) 2 inb_S5_S1_2) (word arg2 (harg2.unread x0) 3 inb_S5_S1_3))
      (harg2.unread x0) (harg7.unread x5) (harg8.unread x6) _ _
      (k0_t2_loop i (word arg2 (harg2.unread x0) 0 inb_S5_S1_0) (word arg2 (harg2.unread x0) 1 inb_S5_S1_1) (word arg2 (harg2.unread x0) 2 inb_S5_S1_2) (word arg2 (harg2.unread x0) 3 inb_S5_S1_3)).trips).2
    ++ ((st_k0_t1 (F := F) Variants.none c none i arg2 harg2 arg3 harg3 arg4 harg4 arg5 harg5 arg6 harg6 arg7 harg7 arg8 harg8 arg9 harg9 arg10 harg10
      (row0 i) (word arg2 (harg2.unread x0) 0 inb_S5_S1_0) (word arg2 (harg2.unread x0) 1 inb_S5_S1_1) (word arg2 (harg2.unread x0) 2 inb_S5_S1_2) (word arg2 (harg2.unread x0) 3 inb_S5_S1_3)
      hw (first i (word arg2 (harg2.unread x0) 0 inb_S5_S1_0) (word arg2 (harg2.unread x0) 1 inb_S5_S1_1) (word arg2 (harg2.unread x0) 2 inb_S5_S1_2) (word arg2 (harg2.unread x0) 3 inb_S5_S1_3))
      (last i (word arg2 (harg2.unread x0) 0 inb_S5_S1_0) (word arg2 (harg2.unread x0) 1 inb_S5_S1_1) (word arg2 (harg2.unread x0) 2 inb_S5_S1_2) (word arg2 (harg2.unread x0) 3 inb_S5_S1_3))
      (harg2.unread x0) (harg7.unread x5) (harg8.unread x6) (arg10.view.writes (Elt F) arg10.view.junk (kernelRun0_A.sl.H8_1 c i arg2 harg2 arg7 harg7 arg8 harg8 x0 x5 x6 hw)) 0#32
      (k0_t1_loop i (word arg2 (harg2.unread x0) 0 inb_S5_S1_0) (word arg2 (harg2.unread x0) 1 inb_S5_S1_1) (word arg2 (harg2.unread x0) 2 inb_S5_S1_2) (word arg2 (harg2.unread x0) 3 inb_S5_S1_3)).trips).2
      ++ kernelRun0_A.sl.H8_1 c i arg2 harg2 arg7 harg7 arg8 harg8 x0 x5 x6 hw))) = _
  rw [trips2]
  show arg10.view.read (Elt F) (arg10.view.writes (Elt F) f ([] ++ _)) = _
  rw [List.nil_append, View.read_writes_of_cover arg10.view f arg10.view arg10.view.junk _ ?cov, View.writes_append]
  case cov =>
    intro y
    exact ⟨_, List.mem_append_right _ (List.mem_singleton_self _), View.mem_set_unit_zero hz inb_S512x1024_S512x1024_0_0 y⟩
  have hG : arg10.view.read (Elt F) (arg10.view.writes (Elt F) arg10.view.junk (kernelRun0_A.sl.H8_1 c i arg2 harg2 arg7 harg7 arg8 harg8 x0 x5 x6 hw))
      = delta i (word arg2 (harg2.unread x0) 0 inb_S5_S1_0) (word arg2 (harg2.unread x0) 1 inb_S5_S1_1) (word arg2 (harg2.unread x0) 2 inb_S5_S1_2) (word arg2 (harg2.unread x0) 3 inb_S5_S1_3) x5 x6 0 := by
    show arg10.view.read (Elt F) (arg10.view.writes (Elt F) _ [⟨Rect.unit (s := S512x1024) ![0, 0] S512x1024.size inb_S512x1024_S512x1024_0_0,
      k0_pay2 (arg7.view.readAt (Elt F) (Rect.unit (s := S512x256) ![0, 0] S512x256.size inb_S512x256_S512x256_0_0).toLoadRect (harg7.unread x5))
        (arg8.view.readAt (Elt F) (Rect.unit (s := S5x1024x256) (k0_off1 i _ _ _ _) S1x1024x256.size _).toLoadRect (harg8.unread x6))⟩]) = _
    rw [View.read_writes_full, View.readAt_eq_ld, View.readAt_eq_ld, harg7.read_unread, harg8.read_unread, View.ld_unit_zero (S := S512x256) hz]
    rfl
  rw [read_loop1 (F := F) Variants.none c none i arg2 harg2 arg3 harg3 arg4 harg4 arg5 harg5 arg6 harg6 arg7 harg7 arg8 harg8 arg9 harg9 arg10 harg10 _ _ _ _ hw _ _ _ x5 x6 _ rfl rfl rfl rfl hG _ le_rfl]
  unfold word at e0 e1 e2 e3
  rw [e0, e1, e2, e3]
  rfl

end Trips

end Cert.KernelIdeal.Main

end
-- ==== Proof.MainBase.lean ====
/-
  The first result in the main kernel: the base product, written in slices of 128 columns, each scaled by the row's and the
  column's scale and added to the adapter's product. The slices together are one function of the block's inputs.
-/
module

public import proofs.«01_k».proof.Proof.MainDelta

@[expose] public section

noncomputable section

namespace Cert.KernelIdeal.Main

open Idealize.ShloMosaic Idealize.ShloMosaic.TcCoe Idealize.SL.Sem
open Cert.KernelIdeal Cert.KernelIdeal.Gen

section Pieces

variable {F : FTy → Type} [FloatOps F]

/-- The eight stores of `y`'s block, each a slice of 128 columns, over a block `D` of `y_delta`. -/
def slices (x1 : Vec F S512x3072 .fp8e4m3) (x2 : Vec F S3072x1024 .fp8e4m3) (x3 : Vec F S1x1024 .f32) (x4 : Vec F S512x128 .f32)
    (D : Vec F S512x1024 .f32) : List (View.Piece (Elt F) S512x1024 .bf16) :=
     [⟨Rect.unit (s := S512x1024) ![0, 896] S512x128.size inb_S512x1024_S512x128_0_896, k0_pay1 (k0_pay17 (k0_pay5 x1 x2) (k0_pay6 x4) (View.ld x3 (Rect.unit (s := S1x1024) ![0, 896] S1x128.size inb_S1x1024_S1x128_0_896)) (View.ld D (Rect.unit (s := S512x1024) ![0, 896] S512x128.size inb_S512x1024_S512x128_0_896)))⟩,
      ⟨Rect.unit (s := S512x1024) ![0, 768] S512x128.size inb_S512x1024_S512x128_0_768, k0_pay16 (k0_pay5 x1 x2) (k0_pay6 x4) (View.ld x3 (Rect.unit (s := S1x1024) ![0, 768] S1x128.size inb_S1x1024_S1x128_0_768)) (View.ld D (Rect.unit (s := S512x1024) ![0, 768] S512x128.size inb_S512x1024_S512x128_0_768))⟩,
      ⟨Rect.unit (s := S512x1024) ![0, 640] S512x128.size inb_S512x1024_S512x128_0_640, k0_pay15 (k0_pay5 x1 x2) (k0_pay6 x4) (View.ld x3 (Rect.unit (s := S1x1024) ![0, 640] S1x128.size inb_S1x1024_S1x128_0_640)) (View.ld D (Rect.unit (s := S512x1024) ![0, 640] S512x128.size inb_S512x1024_S512x128_0_640))⟩,
      ⟨Rect.unit (s := S512x1024) ![0, 512] S512x128.size inb_S512x1024_S512x128_0_512, k0_pay14 (k0_pay12 (k0_pay5 x1 x2) (k0_pay6 x4)) (k0_pay13 (View.ld x3 (Rect.unit (s := S1x1024) ![0, 512] S1x128.size inb_S1x1024_S1x128_0_512))) (View.ld D (Rect.unit (s := S512x1024) ![0, 512] S512x128.size inb_S512x1024_S512x128_0_512))⟩,
      ⟨Rect.unit (s := S512x1024) ![0, 384] S512x128.size inb_S512x1024_S512x128_0_384, k0_pay11 (k0_pay5 x1 x2) (k0_pay6 x4) (View.ld x3 (Rect.unit (s := S1x1024) ![0, 384] S1x128.size inb_S1x1024_S1x128_0_384)) (View.ld D (Rect.unit (s := S512x1024) ![0, 384] S512x128.size inb_S512x1024_S512x128_0_384))⟩,
      ⟨Rect.unit (s := S512x1024) ![0, 256] S512x128.size inb_S512x1024_S512x128_0_256, k0_pay10 (k0_pay5 x1 x2) (k0_pay6 x4) (View.ld x3 (Rect.unit (s := S1x1024) ![0, 256] S1x128.size inb_S1x1024_S1x128_0_256)) (View.ld D (Rect.unit (s := S512x1024) ![0, 256] S512x128.size inb_S512x1024_S512x128_0_256))⟩,
      ⟨Rect.unit (s := S512x1024) ![0, 128] S512x128.size inb_S512x1024_S512x128_0_128, k0_pay9 (k0_pay6 x4) (k0_pay8 x1 x2) (View.ld x3 (Rect.unit (s := S1x1024) ![0, 128] S1x128.size inb_S1x1024_S1x128_0_128)) (View.ld D (Rect.unit (s := S512x1024) ![0, 128] S512x128.size inb_S512x1024_S512x128_0_128))⟩,
      ⟨Rect.unit (s := S512x1024) ![0, 0] S512x128.size inb_S512x1024_S512x128_0_0, k0_pay7 x1 x2 x4 (View.ld x3 (Rect.unit (s := S1x1024) ![0, 0] S1x128.size inb_S1x1024_S1x128_0_0)) (View.ld D (Rect.unit (s := S512x1024) ![0, 0] S512x128.size inb_S512x1024_S512x128_0_0))⟩]

theorem L7_eq (c : Dev nD) (i : grid0.Coords) (arg2 : Memref sig .tc .smem S5 .i32) (harg2 : arg2.IsWhole) (arg3 : Memref sig .tc .vmem S512x3072 .fp8e4m3) (harg3 : arg3.IsWhole) (arg4 : Memref sig .tc .vmem S3072x1024 .fp8e4m3) (harg4 : arg4.IsWhole) (arg5 : Memref sig .tc .vmem S1x1024 .f32) (harg5 : arg5.IsWhole) (arg6 : Memref sig .tc .vmem S512x128 .f32) (harg6 : arg6.IsWhole) (arg7 : Memref sig .tc .vmem S512x256 .bf16) (harg7 : arg7.IsWhole) (arg8 : Memref sig .tc .vmem S5x1024x256 .bf16) (harg8 : arg8.IsWhole) (arg9 : Memref sig .tc .vmem S512x1024 .bf16) (harg9 : arg9.IsWhole) (arg10 : Memref sig .tc .vmem S512x1024 .f32) (harg10 : arg10.IsWhole)
    (x0 : Vec F S5 .i32) (x1 : Vec F S512x3072 .fp8e4m3) (x2 : Vec F S3072x1024 .fp8e4m3) (x3 : Vec F S1x1024 .f32) (x4 : Vec F S512x128 .f32) (x5 : Vec F S512x256 .bf16) (x6 : Vec F S5x1024x256 .bf16) (hw) :
    (kernelRun0_A (F := F) c i arg2 harg2 arg3 harg3 arg4 harg4 arg5 harg5 arg6 harg6 arg7 harg7 arg8 harg8 arg9 harg9 arg10 harg10 x0 x1 x2 x3 x4 x5 x6 hw).1
      = slices x1 x2 x3 x4 (delta i (x0 (ix1 0)) (x0 (ix1 1)) (x0 (ix1 2)) (x0 (ix1 3)) x5 x6
          (k0_t1_loop i (x0 (ix1 0)) (x0 (ix1 1)) (x0 (ix1 2)) (x0 (ix1 3))).trips) := by
  have e1 : (arg3.view.readAt (Elt F) (Rect.unit (s := S512x3072) ![0, 0] S512x3072.size inb_S512x3072_S512x3072_0_0).toLoadRect (harg3.unread x1)) = x1 := by rw [View.readAt_eq_ld, harg3.read_unread, View.ld_unit_zero (S := S512x3072) hz]
  have e2 : (arg4.view.readAt (Elt F) (Rect.unit (s := S3072x1024) ![0, 0] S3072x1024.size inb_S3072x1024_S3072x1024_0_0).toLoadRect (harg4.unread x2)) = x2 := by rw [View.readAt_eq_ld, harg4.read_unread, View.ld_unit_zero (S := S3072x1024) hz]
  have e4 : (arg6.view.readAt (Elt F) (Rect.unit (s := S512x128) ![0, 0] S512x128.size inb_S512x128_S512x128_0_0).toLoadRect (harg6.unread x4)) = x4 := by rw [View.readAt_eq_ld, harg6.read_unread, View.ld_unit_zero (S := S512x128) hz]
  have hD := L8_read (F := F) c i arg2 harg2 arg3 harg3 arg4 harg4 arg5 harg5 arg6 harg6 arg7 harg7 arg8 harg8 arg9 harg9 arg10 harg10 x0 x1 x2 x3 x4 x5 x6 hw arg10.view.junk
  show ([⟨Rect.unit (s := S512x1024) ![0, 896] S512x128.size inb_S512x1024_S512x128_0_896, k0_pay1 (k0_pay17 (k0_pay5 (arg3.view.readAt (Elt F) (Rect.unit (s := S512x3072) ![0, 0] S512x3072.size inb_S512x3072_S512x3072_0_0).toLoadRect (harg3.unread x1)) (arg4.view.readAt (Elt F) (Rect.unit (s := S3072x1024) ![0, 0] S3072x1024.size inb_S3072x1024_S3072x1024_0_0).toLoadRect (harg4.unread x2))) (k0_pay6 (arg6.view.readAt (Elt F) (Rect.unit (s := S512x128) ![0, 0] S512x128.size inb_S512x128_S512x128_0_0).toLoadRect (harg6.unread x4))) (arg5.view.readAt (Elt F) (Rect.unit (s := S1x1024) ![0, 896] S1x128.size inb_S1x1024_S1x128_0_896).toLoadRect (harg5.unread x3)) (arg10.view.readAt (Elt F) (Rect.unit (s := S512x1024) ![0, 896] S512x128.size inb_S512x1024_S512x128_0_896).toLoadRect (arg10.view.writes (Elt F) arg10.view.junk (kernelRun0_A (F := F) c i arg2 harg2 arg3 harg3 arg4 harg4 arg5 harg5 arg6 harg6 arg7 harg7 arg8 harg8 arg9 harg9 arg10 harg10 x0 x1 x2 x3 x4 x5 x6 hw).2.1)))⟩,
      ⟨Rect.unit (s := S512x1024) ![0, 768] S512x128.size inb_S512x1024_S512x128_0_768, k0_pay16 (k0_pay5 (arg3.view.readAt (Elt F) (Rect.unit (s := S512x3072) ![0, 0] S512x3072.size inb_S512x3072_S512x3072_0_0).toLoadRect (harg3.unread x1)) (arg4.view.readAt (Elt F) (Rect.unit (s := S3072x1024) ![0, 0] S3072x1024.size inb_S3072x1024_S3072x1024_0_0).toLoadRect (harg4.unread x2))) (k0_pay6 (arg6.view.readAt (Elt F) (Rect.unit (s := S512x128) ![0, 0] S512x128.size inb_S512x128_S512x128_0_0).toLoadRect (harg6.unread x4))) (arg5.view.readAt (Elt F) (Rect.unit (s := S1x1024) ![0, 768] S1x128.size inb_S1x1024_S1x128_0_768).toLoadRect (harg5.unread x3)) (arg10.view.readAt (Elt F) (Rect.unit (s := S512x1024) ![0, 768] S512x128.size inb_S512x1024_S512x128_0_768).toLoadRect (arg10.view.writes (Elt F) arg10.view.junk (kernelRun0_A (F := F) c i arg2 harg2 arg3 harg3 arg4 harg4 arg5 harg5 arg6 harg6 arg7 harg7 arg8 harg8 arg9 harg9 arg10 harg10 x0 x1 x2 x3 x4 x5 x6 hw).2.1))⟩,
      ⟨Rect.unit (s := S512x1024) ![0, 640] S512x128.size inb_S512x1024_S512x128_0_640, k0_pay15 (k0_pay5 (arg3.view.readAt (Elt F) (Rect.unit (s := S512x3072) ![0, 0] S512x3072.size inb_S512x3072_S512x3072_0_0).toLoadRect (harg3.unread x1)) (arg4.view.readAt (Elt F) (Rect.unit (s := S3072x1024) ![0, 0] S3072x1024.size inb_S3072x1024_S3072x1024_0_0).toLoadRect (harg4.unread x2))) (k0_pay6 (arg6.view.readAt (Elt F) (Rect.unit (s := S512x128) ![0, 0] S512x128.size inb_S512x128_S512x128_0_0).toLoadRect (harg6.unread x4))) (arg5.view.readAt (Elt F) (Rect.unit (s := S1x1024) ![0, 640] S1x128.size inb_S1x1024_S1x128_0_640).toLoadRect (harg5.unread x3)) (arg10.view.readAt (Elt F) (Rect.unit (s := S512x1024) ![0, 640] S512x128.size inb_S512x1024_S512x128_0_640).toLoadRect (arg10.view.writes (Elt F) arg10.view.junk (kernelRun0_A (F := F) c i arg2 harg2 arg3 harg3 arg4 harg4 arg5 harg5 arg6 harg6 arg7 harg7 arg8 harg8 arg9 harg9 arg10 harg10 x0 x1 x2 x3 x4 x5 x6 hw).2.1))⟩,
      ⟨Rect.unit (s := S512x1024) ![0, 512] S512x128.size inb_S512x1024_S512x128_0_512, k0_pay14 (k0_pay12 (k0_pay5 (arg3.view.readAt (Elt F) (Rect.unit (s := S512x3072) ![0, 0] S512x3072.size inb_S512x3072_S512x3072_0_0).toLoadRect (harg3.unread x1)) (arg4.view.readAt (Elt F) (Rect.unit (s := S3072x1024) ![0, 0] S3072x1024.size inb_S3072x1024_S3072x1024_0_0).toLoadRect (harg4.unread x2))) (k0_pay6 (arg6.view.readAt (Elt F) (Rect.unit (s := S512x128) ![0, 0] S512x128.size inb_S512x128_S512x128_0_0).toLoadRect (harg6.unread x4)))) (k0_pay13 (arg5.view.readAt (Elt F) (Rect.unit (s := S1x1024) ![0, 512] S1x128.size inb_S1x1024_S1x128_0_512).toLoadRect (harg5.unread x3))) (arg10.view.readAt (Elt F) (Rect.unit (s := S512x1024) ![0, 512] S512x128.size inb_S512x1024_S512x128_0_512).toLoadRect (arg10.view.writes (Elt F) arg10.view.junk (kernelRun0_A (F := F) c i arg2 harg2 arg3 harg3 arg4 harg4 arg5 harg5 arg6 harg6 arg7 harg7 arg8 harg8 arg9 harg9 arg10 harg10 x0 x1 x2 x3 x4 x5 x6 hw).2.1))⟩,
      ⟨Rect.unit (s := S512x1024) ![0, 384] S512x128.size inb_S512x1024_S512x128_0_384, k0_pay11 (k0_pay5 (arg3.view.readAt (Elt F) (Rect.unit (s := S512x3072) ![0, 0] S512x3072.size inb_S512x3072_S512x3072_0_0).toLoadRect (harg3.unread x1)) (arg4.view.readAt (Elt F) (Rect.unit (s := S3072x1024) ![0, 0] S3072x1024.size inb_S3072x1024_S3072x1024_0_0).toLoadRect (harg4.unread x2))) (k0_pay6 (arg6.view.readAt (Elt F) (Rect.unit (s := S512x128) ![0, 0] S512x128.size inb_S512x128_S512x128_0_0).toLoadRect (harg6.unread x4))) (arg5.view.readAt (Elt F) (Rect.unit (s := S1x1024) ![0, 384] S1x128.size inb_S1x1024_S1x128_0_384).toLoadRect (harg5.unread x3)) (arg10.view.readAt (Elt F) (Rect.unit (s := S512x1024) ![0, 384] S512x128.size inb_S512x1024_S512x128_0_384).toLoadRect (arg10.view.writes (Elt F) arg10.view.junk (kernelRun0_A (F := F) c i arg2 harg2 arg3 harg3 arg4 harg4 arg5 harg5 arg6 harg6 arg7 harg7 arg8 harg8 arg9 harg9 arg10 harg10 x0 x1 x2 x3 x4 x5 x6 hw).2.1))⟩,
      ⟨Rect.unit (s := S512x1024) ![0, 256] S512x128.size inb_S512x1024_S512x128_0_256, k0_pay10 (k0_pay5 (arg3.view.readAt (Elt F) (Rect.unit (s := S512x3072) ![0, 0] S512x3072.size inb_S512x3072_S512x3072_0_0).toLoadRect (harg3.unread x1)) (arg4.view.readAt (Elt F) (Rect.unit (s := S3072x1024) ![0, 0] S3072x1024.size inb_S3072x1024_S3072x1024_0_0).toLoadRect (harg4.unread x2))) (k0_pay6 (arg6.view.readAt (Elt F) (Rect.unit (s := S512x128) ![0, 0] S512x128.size inb_S512x128_S512x128_0_0).toLoadRect (harg6.unread x4))) (arg5.view.readAt (Elt F) (Rect.unit (s := S1x1024) ![0, 256] S1x128.size inb_S1x1024_S1x128_0_256).toLoadRect (harg5.unread x3)) (arg10.view.readAt (Elt F) (Rect.unit (s := S512x1024) ![0, 256] S512x128.size inb_S512x1024_S512x128_0_256).toLoadRect (arg10.view.writes (Elt F) arg10.view.junk (kernelRun0_A (F := F) c i arg2 harg2 arg3 harg3 arg4 harg4 arg5 harg5 arg6 harg6 arg7 harg7 arg8 harg8 arg9 harg9 arg10 harg10 x0 x1 x2 x3 x4 x5 x6 hw).2.1))⟩,
      ⟨Rect.unit (s := S512x1024) ![0, 128] S512x128.size inb_S512x1024_S512x128_0_128, k0_pay9 (k0_pay6 (arg6.view.readAt (Elt F) (Rect.unit (s := S512x128) ![0, 0] S512x128.size inb_S512x128_S512x128_0_0).toLoadRect (harg6.unread x4))) (k0_pay8 (arg3.view.readAt (Elt F) (Rect.unit (s := S512x3072) ![0, 0] S512x3072.size inb_S512x3072_S512x3072_0_0).toLoadRect (harg3.unread x1)) (arg4.view.readAt (Elt F) (Rect.unit (s := S3072x1024) ![0, 0] S3072x1024.size inb_S3072x1024_S3072x1024_0_0).toLoadRect (harg4.unread x2))) (arg5.view.readAt (Elt F) (Rect.unit (s := S1x1024) ![0, 128] S1x128.size inb_S1x1024_S1x128_0_128).toLoadRect (harg5.unread x3)) (arg10.view.readAt (Elt F) (Rect.unit (s := S512x1024) ![0, 128] S512x128.size inb_S512x1024_S512x128_0_128).toLoadRect (arg10.view.writes (Elt F) arg10.view.junk (kernelRun0_A (F := F) c i arg2 harg2 arg3 harg3 arg4 harg4 arg5 harg5 arg6 harg6 arg7 harg7 arg8 harg8 arg9 harg9 arg10 harg10 x0 x1 x2 x3 x4 x5 x6 hw).2.1))⟩,
      ⟨Rect.unit (s := S512x1024) ![0, 0] S512x128.size inb_S512x1024_S512x128_0_0, k0_pay7 (arg3.view.readAt (Elt F) (Rect.unit (s := S512x3072) ![0, 0] S512x3072.size inb_S512x3072_S512x3072_0_0).toLoadRect (harg3.unread x1)) (arg4.view.readAt (Elt F) (Rect.unit (s := S3072x1024) ![0, 0] S3072x1024.size inb_S3072x1024_S3072x1024_0_0).toLoadRect (harg4.unread x2)) (arg6.view.readAt (Elt F) (Rect.unit (s := S512x128) ![0, 0] S512x128.size inb_S512x128_S512x128_0_0).toLoadRect (harg6.unread x4)) (arg5.view.readAt (Elt F) (Rect.unit (s := S1x1024) ![0, 0] S1x128.size inb_S1x1024_S1x128_0_0).toLoadRect (harg5.unread x3)) (arg10.view.readAt (Elt F) (Rect.unit (s := S512x1024) ![0, 0] S512x128.size inb_S512x1024_S512x128_0_0).toLoadRect (arg10.view.writes (Elt F) arg10.view.junk (kernelRun0_A (F := F) c i arg2 harg2 arg3 harg3 arg4 harg4 arg5 harg5 arg6 harg6 arg7 harg7 arg8 harg8 arg9 harg9 arg10 harg10 x0 x1 x2 x3 x4 x5 x6 hw).2.1))⟩] : List (View.Piece (Elt F) S512x1024 .bf16)) = _
  rw [e1, e2, e4]
  simp only [View.readAt_eq_ld, harg5.read_unread, hD]
  rfl

end Pieces

/-- The scaled base product of one element, plus the adapter's part. -/
def yAt (x1 : Vec Ideal S512x3072 .fp8e4m3) (x2 : Vec Ideal S3072x1024 .fp8e4m3) (x3 : Vec Ideal S1x1024 .f32)
    (x4 : Vec Ideal S512x128 .f32) (D : Vec Ideal S512x1024 .f32) (r : Fin 512) (o : Fin 1024) : EReal :=
  (∑ k : Fin 3072, x1 (ix2 r k) * x2 (ix2 k o)) * x4 (ix2 r ⟨o.val % 128, Nat.mod_lt _ (by norm_num)⟩) * x3 (ix2 0 o) + D (ix2 r o)

theorem emb_eq (o : ℕ) (ho : o + 128 ≤ 1024) (inb) (r : Fin 512) (c : Fin 128) :
    (Rect.unit (s := S512x1024) ![0, o] S512x128.size inb).emb (ix2 r c) = ix2 r ⟨o + c.val, by omega⟩ := by
  funext a
  fin_cases a
  · exact Fin.ext (by show 0 + 1 * r.val = r.val; omega)
  · exact Fin.ext (by show o + 1 * c.val = o + c.val; omega)

/-- One slice's store is right if its payload is, index by index. -/
theorem piece_val (G : S512x1024.Idx → EReal) (o : ℕ) (ho : o + 128 ≤ 1024) (inb) (w : S512x128.Idx → EReal)
    (h : ∀ (r : Fin 512) (c : Fin 128), w (ix2 r c) = G (ix2 r ⟨o + c.val, by omega⟩)) :
    ∀ x : (⟨Rect.unit (s := S512x1024) ![0, o] S512x128.size inb, w⟩ : View.Piece (Elt Ideal) S512x1024 .bf16).1.shape.Idx,
      (⟨Rect.unit (s := S512x1024) ![0, o] S512x128.size inb, w⟩ : View.Piece (Elt Ideal) S512x1024 .bf16).2 x
        = G ((⟨Rect.unit (s := S512x1024) ![0, o] S512x128.size inb, w⟩ : View.Piece (Elt Ideal) S512x1024 .bf16).1.emb x) := by
  intro (x : S512x128.Idx)
  idx_vars x
  show w (ix2 x0 x1) = G ((Rect.unit (s := S512x1024) ![0, o] S512x128.size inb).emb (ix2 x0 x1))
  rw [emb_eq o ho inb]
  exact h x0 x1

set_option maxRecDepth 16384 in
theorem slices_val (x1 : Vec Ideal S512x3072 .fp8e4m3) (x2 : Vec Ideal S3072x1024 .fp8e4m3) (x3 : Vec Ideal S1x1024 .f32)
    (x4 : Vec Ideal S512x128 .f32) (D : Vec Ideal S512x1024 .f32) :
    ∀ p ∈ slices x1 x2 x3 x4 D, ∀ x : p.1.shape.Idx, p.2 x = (fun y : S512x1024.Idx => yAt x1 x2 x3 x4 D (y 0) (y 1)) (p.1.emb x) := by
  unfold slices
  refine List.forall_mem_cons.2 ⟨piece_val (fun y : S512x1024.Idx => yAt x1 x2 x3 x4 D (y 0) (y 1)) 896 (by norm_num) inb_S512x1024_S512x128_0_896 _ fun r c => ?_, ?_⟩
  rotate_left
  refine List.forall_mem_cons.2 ⟨piece_val (fun y : S512x1024.Idx => yAt x1 x2 x3 x4 D (y 0) (y 1)) 768 (by norm_num) inb_S512x1024_S512x128_0_768 _ fun r c => ?_, ?_⟩
  rotate_left
  refine List.forall_mem_cons.2 ⟨piece_val (fun y : S512x1024.Idx => yAt x1 x2 x3 x4 D (y 0) (y 1)) 640 (by norm_num) inb_S512x1024_S512x128_0_640 _ fun r c => ?_, ?_⟩
  rotate_left
  refine List.forall_mem_cons.2 ⟨piece_val (fun y : S512x1024.Idx => yAt x1 x2 x3 x4 D (y 0) (y 1)) 512 (by norm_num) inb_S512x1024_S512x128_0_512 _ fun r c => ?_, ?_⟩
  rotate_left
  refine List.forall_mem_cons.2 ⟨piece_val (fun y : S512x1024.Idx => yAt x1 x2 x3 x4 D (y 0) (y 1)) 384 (by norm_num) inb_S512x1024_S512x128_0_384 _ fun r c => ?_, ?_⟩
  rotate_left
  refine List.forall_mem_cons.2 ⟨piece_val (fun y : S512x1024.Idx => yAt x1 x2 x3 x4 D (y 0) (y 1)) 256 (by norm_num) inb_S512x1024_S512x128_0_256 _ fun r c => ?_, ?_⟩
  rotate_left
  refine List.forall_mem_cons.2 ⟨piece_val (fun y : S512x1024.Idx => yAt x1 x2 x3 x4 D (y 0) (y 1)) 128 (by norm_num) inb_S512x1024_S512x128_0_128 _ fun r c => ?_, ?_⟩
  rotate_left
  refine List.forall_mem_cons.2 ⟨piece_val (fun y : S512x1024.Idx => yAt x1 x2 x3 x4 D (y 0) (y 1)) 0 (by norm_num) inb_S512x1024_S512x128_0_0 _ fun r c => ?_, ?_⟩
  rotate_left
  · exact fun p hp => absurd hp List.not_mem_nil
  all_goals
    unfold_payloads
    pointwise [yAt]
  all_goals
    refine congrArg (fun j : Fin 128 => _ * x4 (ix2 r j) * _ + _) (Fin.ext ?_)
    simp only []
    omega

/-- What the kernel's run leaves in its first result's block. -/
theorem L7_read (c : Dev nD) (i : grid0.Coords) (arg2 : Memref sig .tc .smem S5 .i32) (harg2 : arg2.IsWhole) (arg3 : Memref sig .tc .vmem S512x3072 .fp8e4m3) (harg3 : arg3.IsWhole) (arg4 : Memref sig .tc .vmem S3072x1024 .fp8e4m3) (harg4 : arg4.IsWhole) (arg5 : Memref sig .tc .vmem S1x1024 .f32) (harg5 : arg5.IsWhole) (arg6 : Memref sig .tc .vmem S512x128 .f32) (harg6 : arg6.IsWhole) (arg7 : Memref sig .tc .vmem S512x256 .bf16) (harg7 : arg7.IsWhole) (arg8 : Memref sig .tc .vmem S5x1024x256 .bf16) (harg8 : arg8.IsWhole) (arg9 : Memref sig .tc .vmem S512x1024 .bf16) (harg9 : arg9.IsWhole) (arg10 : Memref sig .tc .vmem S512x1024 .f32) (harg10 : arg10.IsWhole)
    (x0 : Vec Ideal S5 .i32) (x1 : Vec Ideal S512x3072 .fp8e4m3) (x2 : Vec Ideal S3072x1024 .fp8e4m3) (x3 : Vec Ideal S1x1024 .f32) (x4 : Vec Ideal S512x128 .f32) (x5 : Vec Ideal S512x256 .bf16) (x6 : Vec Ideal S5x1024x256 .bf16) (hw)
    (v : View sig .tc .vmem S512x1024 .bf16) (f : v.ty.Contents (Elt Ideal)) (r : Fin 512) (o : Fin 1024) :
    v.read (Elt Ideal) (v.writes (Elt Ideal) f (kernelRun0_A (F := Ideal) c i arg2 harg2 arg3 harg3 arg4 harg4 arg5 harg5 arg6 harg6 arg7 harg7 arg8 harg8 arg9 harg9 arg10 harg10 x0 x1 x2 x3 x4 x5 x6 hw).1) (ix2 r o)
      = yAt x1 x2 x3 x4 (delta i (x0 (ix1 0)) (x0 (ix1 1)) (x0 (ix1 2)) (x0 (ix1 3)) x5 x6
          (k0_t1_loop i (x0 (ix1 0)) (x0 (ix1 1)) (x0 (ix1 2)) (x0 (ix1 3))).trips) r o := by
  rw [L7_eq]
  refine View.read_writes_apply_of_pieces v f (fun y : S512x1024.Idx => yAt x1 x2 x3 x4 _ (y 0) (y 1)) _ (slices_val x1 x2 x3 x4 _) (ix2 r o) ?_
  have hc : ∀ q : ℕ, ∀ h : (∀ a, (![0, q] : Fin 2 → ℕ) a + S512x128.size a ≤ S512x1024.size a), q ≤ o.val → o.val < q + 128 →
      (ix2 r o : S512x1024.Idx) ∈ (Rect.unit (s := S512x1024) ![0, q] S512x128.size h).set := by
    intro q h h1 h2
    refine Rect.mem_set_unit.2 fun a => ?_
    fin_cases a
    · exact ⟨Nat.zero_le _, by show r.val < 0 + 512; omega⟩
    · exact ⟨h1, h2⟩
  have ho := o.isLt
  unfold slices
  by_cases h896 : 896 ≤ o.val
  · exact ⟨_, List.mem_cons_self, hc 896 inb_S512x1024_S512x128_0_896 h896 (by omega)⟩
  by_cases h768 : 768 ≤ o.val
  · exact ⟨_, List.mem_cons_of_mem _ (List.mem_cons_self), hc 768 inb_S512x1024_S512x128_0_768 h768 (by omega)⟩
  by_cases h640 : 640 ≤ o.val
  · exact ⟨_, List.mem_cons_of_mem _ (List.mem_cons_of_mem _ (List.mem_cons_self)), hc 640 inb_S512x1024_S512x128_0_640 h640 (by omega)⟩
  by_cases h512 : 512 ≤ o.val
  · exact ⟨_, List.mem_cons_of_mem _ (List.mem_cons_of_mem _ (List.mem_cons_of_mem _ (List.mem_cons_self))), hc 512 inb_S512x1024_S512x128_0_512 h512 (by omega)⟩
  by_cases h384 : 384 ≤ o.val
  · exact ⟨_, List.mem_cons_of_mem _ (List.mem_cons_of_mem _ (List.mem_cons_of_mem _ (List.mem_cons_of_mem _ (List.mem_cons_self)))), hc 384 inb_S512x1024_S512x128_0_384 h384 (by omega)⟩
  by_cases h256 : 256 ≤ o.val
  · exact ⟨_, List.mem_cons_of_mem _ (List.mem_cons_of_mem _ (List.mem_cons_of_mem _ (List.mem_cons_of_mem _ (List.mem_cons_of_mem _ (List.mem_cons_self))))), hc 256 inb_S512x1024_S512x128_0_256 h256 (by omega)⟩
  by_cases h128 : 128 ≤ o.val
  · exact ⟨_, List.mem_cons_of_mem _ (List.mem_cons_of_mem _ (List.mem_cons_of_mem _ (List.mem_cons_of_mem _ (List.mem_cons_of_mem _ (List.mem_cons_of_mem _ (List.mem_cons_self)))))), hc 128 inb_S512x1024_S512x128_0_128 h128 (by omega)⟩
  have h0 : 0 ≤ o.val := Nat.zero_le _
  exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), hc 0 inb_S512x1024_S512x128_0_0 h0 (by omega)⟩

end Cert.KernelIdeal.Main

end
-- ==== Proof.Tenants.lean ====
/-
  Which tenant a row belongs to, in natural numbers.  Row `R` of the concatenated rows belongs to tenant
  `tenant a0 a1 a2 a3 R`: the number of the first four tenants that end at or before it.  The kernel's counts and starts,
  computed in 32-bit words, are these natural numbers as long as no size exceeds the number of rows.
-/
module

public import proofs.«01_k».proof.Proof.Words
public import Mathlib.Tactic.IntervalCases

@[expose] public section

noncomputable section

namespace Cert.Words

open Idealize.ShloMosaic

/-- The tenant of row `R`. -/
def tenant (a0 a1 a2 a3 R : ℕ) : ℕ :=
  (if a0 ≤ R then 1 else 0) + (if a0 + a1 ≤ R then 1 else 0) + (if a0 + a1 + a2 ≤ R then 1 else 0)
    + (if a0 + a1 + a2 + a3 ≤ R then 1 else 0)

theorem tenant_le (a0 a1 a2 a3 R : ℕ) : tenant a0 a1 a2 a3 R ≤ 4 := by unfold tenant; split_ifs <;> omega

theorem tenant_mono (a0 a1 a2 a3 R R' : ℕ) (h : R ≤ R') : tenant a0 a1 a2 a3 R ≤ tenant a0 a1 a2 a3 R' := by
  unfold tenant; split_ifs <;> omega

/-- The first row of tenant `n`. -/
def start (a0 a1 a2 a3 : ℕ) : ℕ → ℕ
  | 0 => 0
  | 1 => a0
  | 2 => a0 + a1
  | 3 => a0 + a1 + a2
  | _ => a0 + a1 + a2 + a3

theorem start_le_iff (a0 a1 a2 a3 R n : ℕ) (hn : n ≤ 4) : start a0 a1 a2 a3 n ≤ R ↔ n ≤ tenant a0 a1 a2 a3 R := by
  unfold tenant
  interval_cases n <;> simp only [start] <;> split_ifs <;> omega

/-- The word comparison of two small words is the comparison of their naturals. -/
theorem sle_small (x y : BitVec 32) (hx : x.toNat < 2 ^ 31) (hy : y.toNat < 2 ^ 31) :
    Scalar.cmpi .sle x y = BitVec.ofBool (decide (x.toNat ≤ y.toNat)) := by
  show BitVec.ofBool (x.sle y) = _
  congr 1
  rw [BitVec.sle_eq_decide, BitVec.toInt_eq_toNat_of_lt (by omega), BitVec.toInt_eq_toNat_of_lt (by omega)]
  simp

theorem sge_small (x y : BitVec 32) (hx : x.toNat < 2 ^ 31) (hy : y.toNat < 2 ^ 31) :
    Scalar.cmpi .sge x y = BitVec.ofBool (decide (y.toNat ≤ x.toNat)) := sle_small y x hy hx

theorem toNat_sle_small (x y : BitVec 32) (hx : x.toNat < 2 ^ 31) (hy : y.toNat < 2 ^ 31) :
    (Scalar.cmpi .sle x y).toNat = if x.toNat ≤ y.toNat then 1 else 0 := by
  rw [sle_small x y hx hy]
  split_ifs with h <;> simp [h]

/-- No size exceeds the number of rows. -/
structure Small (s0 s1 s2 s3 : BitVec 32) : Prop where
  h0 : s0.toNat ≤ 5120
  h1 : s1.toNat ≤ 5120
  h2 : s2.toNat ≤ 5120
  h3 : s3.toNat ≤ 5120

theorem add_small (x y : BitVec 32) (h : x.toNat + y.toNat < 2 ^ 32) : (x + y).toNat = x.toNat + y.toNat := by
  rw [BitVec.toNat_add]; omega

variable {s0 s1 s2 s3 : BitVec 32} (h : Small s0 s1 s2 s3)
include h

theorem count_eq (r : BitVec 32) (hr : r.toNat < 2 ^ 31) :
    (count s0 s1 s2 s3 r).toNat = tenant s0.toNat s1.toNat s2.toNat s3.toNat r.toNat := by
  obtain ⟨h0, h1, h2, h3⟩ := h
  have z : (0#32 : BitVec 32).toNat = 0 := rfl
  have e0 : (0#32 + s0).toNat = s0.toNat := by rw [add_small _ _ (by omega)]; omega
  have e1 : (0#32 + s0 + s1).toNat = s0.toNat + s1.toNat := by rw [add_small _ _ (by omega), e0]
  have e2 : (0#32 + s0 + s1 + s2).toNat = s0.toNat + s1.toNat + s2.toNat := by rw [add_small _ _ (by omega), e1]
  have e3 : (0#32 + s0 + s1 + s2 + s3).toNat = s0.toNat + s1.toNat + s2.toNat + s3.toNat := by rw [add_small _ _ (by omega), e2]
  rw [count_toNat, toNat_sle_small _ _ (by omega) hr, toNat_sle_small _ _ (by omega) hr, toNat_sle_small _ _ (by omega) hr,
    toNat_sle_small _ _ (by omega) hr, e0, e1, e2, e3]
  rfl

omit h in
/-- The start of tenant `t`, as the kernel adds it up. -/
abbrev startW (t s0 s1 s2 s3 : BitVec 32) : BitVec 32 :=
  Scalar.addi (Scalar.addi (Scalar.addi (Scalar.addi 0#32 (Scalar.select (Scalar.cmpi .sgt t 0#32) s0 0#32))
    (Scalar.select (Scalar.cmpi .sgt t 1#32) s1 0#32)) (Scalar.select (Scalar.cmpi .sgt t 2#32) s2 0#32))
    (Scalar.select (Scalar.cmpi .sgt t 3#32) s3 0#32)

theorem startW_eq (n : ℕ) (hn : n ≤ 4) :
    (startW (BitVec.ofNat 32 n) s0 s1 s2 s3).toNat = start s0.toNat s1.toNat s2.toNat s3.toNat n := by
  obtain ⟨h0, h1, h2, h3⟩ := h
  have z : (0#32 : BitVec 32).toNat = 0 := rfl
  have key : ∀ a b c d : BitVec 32, a.toNat ≤ 5120 → b.toNat ≤ 5120 → c.toNat ≤ 5120 → d.toNat ≤ 5120 →
      (0#32 + a + b + c + d).toNat = a.toNat + b.toNat + c.toNat + d.toNat := by
    intro a b c d _ _ _ _
    simp only [BitVec.toNat_add]
    omega
  interval_cases n
  · exact (key 0#32 0#32 0#32 0#32 (by omega) (by omega) (by omega) (by omega)).trans rfl
  · exact (key s0 0#32 0#32 0#32 (by omega) (by omega) (by omega) (by omega)).trans rfl
  · exact (key s0 s1 0#32 0#32 (by omega) (by omega) (by omega) (by omega)).trans rfl
  · exact (key s0 s1 s2 0#32 (by omega) (by omega) (by omega) (by omega)).trans rfl
  · exact (key s0 s1 s2 s3 (by omega) (by omega) (by omega) (by omega)).trans rfl

/-- Whether tenant `t` has started at row `r`. -/
theorem started (t r : BitVec 32) (ht : t.toNat ≤ 4) (hr : r.toNat < 2 ^ 31) :
    Scalar.cmpi .sge r (startW t s0 s1 s2 s3)
      = BitVec.ofBool (decide (t.toNat ≤ tenant s0.toNat s1.toNat s2.toNat s3.toNat r.toNat)) := by
  have e := startW_eq h t.toNat ht
  rw [BitVec.ofNat_toNat, BitVec.setWidth_eq] at e
  have hb : start s0.toNat s1.toNat s2.toNat s3.toNat t.toNat < 2 ^ 31 := by
    obtain ⟨h0, h1, h2, h3⟩ := h
    generalize t.toNat = n at ht
    interval_cases n <;> simp only [start] <;> omega
  rw [sge_small _ _ hr (by omega), e]
  congr 1
  exact decide_eq_decide.2 (start_le_iff _ _ _ _ _ _ ht)

end Cert.Words

end
-- ==== Proof.MainSel.lean ====
/-
  The adapter's product of the main kernel, at the ideal instance: after the loop over tenants, entry `(r, o)` of a
  block is row `r` of the block's `g` against row `o` of the factor of the tenant that row belongs to.
-/
module

public import proofs.«01_k».proof.Proof.MainDelta
public import proofs.«01_k».proof.Proof.Tenants

@[expose] public section

noncomputable section

namespace Cert.KernelIdeal.Main

open Idealize.ShloMosaic Idealize.ShloMosaic.TcCoe Idealize.SL.Sem
open Cert.KernelIdeal Cert.KernelIdeal.Gen

/-- The product before the loop. -/
theorem pay2_val (x5 : Vec Ideal S512x256 .bf16) (v : Vec Ideal S1x1024x256 .bf16) (r : Fin 512) (o : Fin 1024) :
    k0_pay2 x5 v (ix2 r o) = ∑ j : Fin 256, x5 (ix2 r j) * v (ix3 0 o j) := by
  unfold_payloads
  pointwise

/-- One trip's store, by the word `w` where the trip's tenant starts. -/
def keep (v0 w : BitVec 32) (x5 : Vec Ideal S512x256 .bf16) (v : Vec Ideal S1x1024x256 .bf16) (D : Vec Ideal S512x1024 .f32) : Vec Ideal S512x1024 .f32 :=
  select (broadcastTo S512x1024 (shapeCast S512x1 (cmpi .sge (addi (broadcast S512x1 v0) (iota .tc S512x1 32 [0] iota_S512x1_d0_w32)) (broadcast S512x1 w)) shapeCasts_S512x1_S512x1) broadcasts_S512x1_S512x1024)
    (k0_pay2 x5 v) (shapeCast S512x1024 D shapeCasts_S512x1024_S512x1024)

theorem pay3_eq (i : grid0.Coords) (v0 s0 s1 s2 s3 f : BitVec 32) (k : Fin (k0_t1_loop i s0 s1 s2 s3).trips)
    (x5 : Vec Ideal S512x256 .bf16) (v : Vec Ideal S1x1024x256 .bf16) (D : Vec Ideal S512x1024 .f32) :
    k0_pay3 (F := Ideal) i v0 s0 s1 s2 s3 f k s0 s1 s2 s3 x5 v D
      = keep v0 (Words.startW (Scf.iv (Scalar.addi f 1#32) 1#32 k.val) s0 s1 s2 s3) x5 v D := rfl

theorem keep_val (v0 w : BitVec 32) (x5 : Vec Ideal S512x256 .bf16) (v : Vec Ideal S1x1024x256 .bf16) (D : Vec Ideal S512x1024 .f32) (r : Fin 512) (o : Fin 1024) :
    keep v0 w x5 v D (ix2 r o) = Scalar.select (Scalar.cmpi .sge (Scalar.addi v0 (BitVec.ofNat 32 r.val)) w) (k0_pay2 x5 v (ix2 r o)) (D (ix2 r o)) := by
  unfold keep
  generalize k0_pay2 x5 v = q
  pointwise
  rfl

/-- Entry `(o, j)` of tenant `n`'s factor. -/
theorem factor_val (x6 : Vec Ideal S5x1024x256 .bf16) (off : Fin 3 → ℕ) (h) (n : ℕ) (hn : n < 5) (e : off = ![n, 0, 0])
    (o : Fin 1024) (j : Fin 256) : factor x6 off h (ix3 0 o j) = x6 (ix3 ⟨n, hn⟩ o j) := by
  subst e
  show x6 _ = x6 _
  congr 1
  funext a
  fin_cases a
  · exact Fin.ext (by show n + 1 * 0 = n; omega)
  · exact Fin.ext (by show 0 + 1 * o.val = o.val; omega)
  · exact Fin.ext (by show 0 + 1 * j.val = j.val; omega)

/-- Row `r` of the block at `i`, among all rows. -/
abbrev rowOf (i : grid0.Coords) (r : Fin 512) : ℕ := 512 * (i 1).val + r.val

theorem row0_toNat (i : grid0.Coords) : (row0 i).toNat = 512 * (i 1).val := by
  have h : (i 1).val < 10 := (i 1).isLt
  show (BitVec.ofNat 32 (i 1).val * 512#32).toNat = _
  rw [BitVec.toNat_mul, BitVec.toNat_ofNat]
  show (i 1).val % 2 ^ 32 * 512 % 2 ^ 32 = _
  omega

theorem rowL_toNat (i : grid0.Coords) : (rowL i).toNat = 512 * (i 1).val + 511 := by
  have h : (i 1).val < 10 := (i 1).isLt
  show (row0 i + 512#32 - 1#32).toNat = _
  rw [BitVec.toNat_sub, BitVec.toNat_add, row0_toNat]
  show (2 ^ 32 - 1 + (512 * (i 1).val + 512) % 2 ^ 32) % 2 ^ 32 = _
  omega

theorem row_toNat (i : grid0.Coords) (r : Fin 512) : (Scalar.addi (row0 i) (BitVec.ofNat 32 r.val)).toNat = rowOf i r := by
  have h : (i 1).val < 10 := (i 1).isLt
  show (row0 i + BitVec.ofNat 32 r.val).toNat = _
  rw [BitVec.toNat_add, row0_toNat, BitVec.toNat_ofNat]
  have hr := r.isLt
  show (512 * (i 1).val + r.val % 2 ^ 32) % 2 ^ 32 = 512 * (i 1).val + r.val
  omega

variable (i : grid0.Coords) (s0 s1 s2 s3 : BitVec 32) (hs : Words.Small s0 s1 s2 s3)
  (x5 : Vec Ideal S512x256 .bf16) (x6 : Vec Ideal S5x1024x256 .bf16) (r : Fin 512) (o : Fin 1024)

/-- The tenant of row `r` of the block. -/
abbrev ten : ℕ := Words.tenant s0.toNat s1.toNat s2.toNat s3.toNat (rowOf i r)

include hs in
theorem delta_trip : ∀ k : ℕ, k ≤ (k0_t1_loop i s0 s1 s2 s3).trips →
    delta i s0 s1 s2 s3 x5 x6 k (ix2 r o) = ∑ j : Fin 256, x5 (ix2 r j)
      * x6 (ix3 ⟨min (ten i s0 s1 s2 s3 r) ((first i s0 s1 s2 s3).toNat + k), lt_of_le_of_lt (min_le_left _ _) (Nat.lt_succ_of_le (Words.tenant_le ..))⟩ o j)
  | 0, _ => by
    have hi : (i 1).val < 10 := (i 1).isLt
    have hf : (first i s0 s1 s2 s3).toNat ≤ ten i s0 s1 s2 s3 r := by
      rw [Words.count_eq hs _ (by rw [row0_toNat]; omega), row0_toNat]
      exact Words.tenant_mono _ _ _ _ _ _ (Nat.le_add_right _ _)
    show k0_pay2 _ _ _ = _
    rw [pay2_val]
    refine Finset.sum_congr rfl fun j _ => ?_
    rw [factor_val x6 _ _ _ (Nat.lt_succ_of_le (Words.count_le ..)) (off1_eq i s0 s1 s2 s3)]
    refine congrArg (fun t => x5 (ix2 r j) * x6 (ix3 t o j)) (Fin.ext ?_)
    show (first i s0 s1 s2 s3).toNat = min (ten i s0 s1 s2 s3 r) ((first i s0 s1 s2 s3).toNat + 0)
    omega
  | k + 1, hk => by
    have hi : (i 1).val < 10 := (i 1).isLt
    have ih := delta_trip k (by omega)
    have hk' : k < (last i s0 s1 s2 s3).toNat - (first i s0 s1 s2 s3).toNat := by rw [← trips1]; omega
    have hl : (last i s0 s1 s2 s3).toNat ≤ 4 := Words.count_le ..
    have ei := iv1 i s0 s1 s2 s3 k hk'
    have er := row_toNat i r
    have hr : rowOf i r < 2 ^ 31 := by have := r.isLt; show 512 * (i 1).val + r.val < _; omega
    have ht : ten i s0 s1 s2 s3 r ≤ 4 := Words.tenant_le ..
    rw [delta, dif_pos (show k < _ from hk), pay3_eq, keep_val, Words.started hs _ _ (by rw [ei]; omega) (by rw [er]; exact hr), ei, er]
    by_cases hc : (first i s0 s1 s2 s3).toNat + 1 + k ≤ ten i s0 s1 s2 s3 r
    · rw [decide_eq_true hc]
      show k0_pay2 _ _ _ = _
      rw [pay2_val]
      refine Finset.sum_congr rfl fun j _ => ?_
      rw [factor_val x6 _ _ ((first i s0 s1 s2 s3).toNat + 1 + k) (by omega) ((off2_eq i s0 s1 s2 s3 ⟨k, hk⟩).trans (by rw [ei]))]
      refine congrArg (fun t => x5 (ix2 r j) * x6 (ix3 t o j)) (Fin.ext ?_)
      show (first i s0 s1 s2 s3).toNat + 1 + k = min (ten i s0 s1 s2 s3 r) ((first i s0 s1 s2 s3).toNat + (k + 1))
      omega
    · rw [decide_eq_false hc]
      show delta i s0 s1 s2 s3 x5 x6 k (ix2 r o) = _
      rw [ih]
      refine Finset.sum_congr rfl fun j _ => ?_
      refine congrArg (fun t => x5 (ix2 r j) * x6 (ix3 t o j)) (Fin.ext ?_)
      show min (ten i s0 s1 s2 s3 r) ((first i s0 s1 s2 s3).toNat + k) = min (ten i s0 s1 s2 s3 r) ((first i s0 s1 s2 s3).toNat + (k + 1))
      omega

include hs in
/-- After the loop. -/
theorem delta_val : delta i s0 s1 s2 s3 x5 x6 (k0_t1_loop i s0 s1 s2 s3).trips (ix2 r o)
    = ∑ j : Fin 256, x5 (ix2 r j) * x6 (ix3 ⟨ten i s0 s1 s2 s3 r, Nat.lt_succ_of_le (Words.tenant_le ..)⟩ o j) := by
  have hi : (i 1).val < 10 := (i 1).isLt
  rw [delta_trip i s0 s1 s2 s3 hs x5 x6 r o _ le_rfl]
  refine Finset.sum_congr rfl fun j _ => ?_
  refine congrArg (fun t => x5 (ix2 r j) * x6 (ix3 t o j)) (Fin.ext ?_)
  show min (ten i s0 s1 s2 s3 r) ((first i s0 s1 s2 s3).toNat + (k0_t1_loop i s0 s1 s2 s3).trips) = ten i s0 s1 s2 s3 r
  rw [trips1]
  have hl : ten i s0 s1 s2 s3 r ≤ (last i s0 s1 s2 s3).toNat := by
    rw [Words.count_eq hs _ (by rw [rowL_toNat]; omega), rowL_toNat]
    exact Words.tenant_mono _ _ _ _ _ _ (by have := r.isLt; show 512 * (i 1).val + r.val ≤ 512 * (i 1).val + 511; omega)
  omega

end Cert.KernelIdeal.Main

end
-- ==== Proof.Spec.lean ====
/-
  What the main product computes, over the extended reals and with no reference to a program: row `R` of the activations'
  codes against column `O` of the base weights, scaled by the row's and the column's scale, plus row `R` of `g` against
  row `O` of the factor of the tenant the row belongs to.
-/
module

public import proofs.«01_k».proof.Proof.Tenants
public import Idealize.ShloMosaic.PureOps.Reduce
public import Mathlib.Data.EReal.Operations

@[expose] public section

noncomputable section

namespace Cert.Spec

open Idealize.ShloMosaic

/-- The tenant of row `R`, of the sizes' words. -/
def tenant (sz : Fin 5 → BitVec 32) (R : Fin 5120) : Fin 5 :=
  ⟨Words.tenant (sz 0).toNat (sz 1).toNat (sz 2).toNat (sz 3).toNat R.val, Nat.lt_succ_of_le (Words.tenant_le ..)⟩

/-- The adapter's product. -/
def yd (sz : Fin 5 → BitVec 32) (g : Fin 5120 → Fin 256 → EReal) (u : Fin 5 → Fin 8192 → Fin 256 → EReal)
    (R : Fin 5120) (O : Fin 8192) : EReal := ∑ j : Fin 256, g R j * u (tenant sz R) O j

/-- The base product, scaled, plus the adapter's product `d`. -/
def y (x : Fin 5120 → Fin 3072 → EReal) (w : Fin 3072 → Fin 8192 → EReal) (xs : Fin 5120 → EReal) (bs : Fin 8192 → EReal)
    (d : Fin 5120 → Fin 8192 → EReal) (R : Fin 5120) (O : Fin 8192) : EReal :=
  (∑ k : Fin 3072, x R k * w k O) * xs R * bs O + d R O

/-- The sizes lie between 0 and the number of rows and add up to it. -/
structure Partition (sz : Fin 5 → BitVec 32) : Prop where
  le : ∀ n, (sz n).toNat ≤ 5120
  sum : (sz 0).toNat + (sz 1).toNat + (sz 2).toNat + (sz 3).toNat + (sz 4).toNat = 5120

theorem Partition.small {sz : Fin 5 → BitVec 32} (h : Partition sz) : Words.Small (sz 0) (sz 1) (sz 2) (sz 3) :=
  ⟨h.le 0, h.le 1, h.le 2, h.le 3⟩

/-- The start of tenant `n` as a sum over all five sizes of those before it. -/
abbrev startSum (sz : Fin 5 → BitVec 32) (n : Fin 5) : BitVec 32 :=
  Finset.fold IntOp.addi (0#32) (fun x : Fin 5 => Scalar.select (IntOp.cmpi .sgt (BitVec.ofNat 32 n.val) (BitVec.ofNat 32 x.val)) (sz x) 0#32) Finset.univ

theorem fold_five (f : Fin 5 → BitVec 32) : Finset.fold IntOp.addi (0#32) f Finset.univ = f 0 + (f 1 + (f 2 + (f 3 + (f 4 + 0#32)))) := rfl

variable {sz : Fin 5 → BitVec 32} (h : Partition sz)
include h

theorem startSum_toNat (n : Fin 5) :
    (startSum sz n).toNat = Words.start (sz 0).toNat (sz 1).toNat (sz 2).toNat (sz 3).toNat n.val := by
  have h0 := h.le 0; have h1 := h.le 1; have h2 := h.le 2; have h3 := h.le 3
  have key : ∀ a b c d : BitVec 32, a.toNat ≤ 5120 → b.toNat ≤ 5120 → c.toNat ≤ 5120 → d.toNat ≤ 5120 →
      (a + (b + (c + (d + (0#32 + 0#32))))).toNat = a.toNat + b.toNat + c.toNat + d.toNat := by
    intro a b c d _ _ _ _
    have z : (0#32 : BitVec 32).toNat = 0 := rfl
    simp only [BitVec.toNat_add]
    omega
  have z : (0#32 : BitVec 32).toNat = 0 := rfl
  unfold startSum
  rw [fold_five]
  match n with
  | 0 => exact (key 0#32 0#32 0#32 0#32 (by omega) (by omega) (by omega) (by omega)).trans rfl
  | 1 => exact (key (sz 0) 0#32 0#32 0#32 (by omega) (by omega) (by omega) (by omega)).trans rfl
  | 2 => exact (key (sz 0) (sz 1) 0#32 0#32 (by omega) (by omega) (by omega) (by omega)).trans rfl
  | 3 => exact (key (sz 0) (sz 1) (sz 2) 0#32 (by omega) (by omega) (by omega) (by omega)).trans rfl
  | 4 => exact (key (sz 0) (sz 1) (sz 2) (sz 3) (by omega) (by omega) (by omega) (by omega)).trans rfl

theorem inside_iff (R : Fin 5120) (n : Fin 5) :
    (Words.start (sz 0).toNat (sz 1).toNat (sz 2).toNat (sz 3).toNat n.val ≤ R.val
      ∧ R.val < Words.start (sz 0).toNat (sz 1).toNat (sz 2).toNat (sz 3).toNat n.val + (sz n).toNat) ↔ tenant sz R = n := by
  have hs := h.sum
  have hR := R.isLt
  have ht : tenant sz R = n ↔ Words.tenant (sz 0).toNat (sz 1).toNat (sz 2).toNat (sz 3).toNat R.val = n.val := Fin.ext_iff
  rw [ht]
  unfold Words.tenant
  match n with
  | 0 => simp only [Words.start]; split_ifs <;> simp <;> omega
  | 1 => simp only [Words.start, Fin.val_one]; split_ifs <;> simp <;> omega
  | 2 => simp only [Words.start, Fin.val_two]; split_ifs <;> simp <;> omega
  | 3 => show (Words.start _ _ _ _ 3 ≤ _ ∧ _ < Words.start _ _ _ _ 3 + _) ↔ _ = 3
         simp only [Words.start]; split_ifs <;> simp <;> omega
  | 4 => show (Words.start _ _ _ _ 4 ≤ _ ∧ _ < Words.start _ _ _ _ 4 + _) ↔ _ = 4
         simp only [Words.start]; split_ifs <;> simp <;> omega

/-- The mask of tenant `n` at row `R`, as words. -/
theorem mask_eq (R : Fin 5120) (n : Fin 5) :
    BitVec.setWidth 32 (IntOp.andi (IntOp.cmpi .sle (startSum sz n) (BitVec.ofNat 32 R.val))
      (IntOp.cmpi .slt (BitVec.ofNat 32 R.val) (IntOp.addi (startSum sz n) (sz n))))
      = if tenant sz R = n then 1#32 else 0#32 := by
  have e := startSum_toNat h n
  have hb : Words.start (sz 0).toNat (sz 1).toNat (sz 2).toNat (sz 3).toNat n.val ≤ 5120 := by
    have := h.sum
    match n with
    | 0 => exact Nat.zero_le _
    | 1 => show (sz 0).toNat ≤ _; omega
    | 2 => show (sz 0).toNat + (sz 1).toNat ≤ _; omega
    | 3 => show (sz 0).toNat + (sz 1).toNat + (sz 2).toNat ≤ _; omega
    | 4 => show (sz 0).toNat + (sz 1).toNat + (sz 2).toNat + (sz 3).toNat ≤ _; omega
  have hn := h.le n
  have hR := R.isLt
  have eR : (BitVec.ofNat 32 R.val).toNat = R.val := by rw [BitVec.toNat_ofNat]; omega
  have ea : (startSum sz n + sz n).toNat = (startSum sz n).toNat + (sz n).toNat := Words.add_small _ _ (by omega)
  have e1 : IntOp.cmpi .sle (startSum sz n) (BitVec.ofNat 32 R.val)
      = BitVec.ofBool (decide ((startSum sz n).toNat ≤ R.val)) := by
    have := Words.sle_small (startSum sz n) (BitVec.ofNat 32 R.val) (by omega) (by omega)
    rw [eR] at this
    exact this
  have e2 : IntOp.cmpi .slt (BitVec.ofNat 32 R.val) (IntOp.addi (startSum sz n) (sz n))
      = BitVec.ofBool (decide (R.val < (startSum sz n).toNat + (sz n).toNat)) := by
    show BitVec.ofBool (BitVec.slt _ (startSum sz n + sz n)) = _
    congr 1
    rw [BitVec.slt_eq_decide, BitVec.toInt_eq_toNat_of_lt (by omega), BitVec.toInt_eq_toNat_of_lt (by omega), eR, ea]
    simp only [decide_eq_decide]
    omega
  have key : ∀ a b : Bool, BitVec.setWidth 32 (IntOp.andi (BitVec.ofBool a) (BitVec.ofBool b)) = if a = true ∧ b = true then 1#32 else 0#32 := by decide
  rw [e1, e2, key, e]
  simp only [decide_eq_true_eq]
  exact if_congr (inside_iff h R n) rfl rfl

end Cert.Spec

end
-- ==== Proof.MainArrays.lean ====
/-
  The main kernel's two result arrays at the ideal instance, element by element, in terms of its seven argument arrays.
-/
module

public import proofs.«01_k».proof.Proof.MainBase
public import proofs.«01_k».proof.Proof.MainSel
public import proofs.«01_k».proof.Proof.Spec
public import Idealize.ShloMosaic.Lib.StableHlo.ReadAt

@[expose] public section

noncomputable section

namespace Cert.KernelIdeal.Main

open Idealize.ShloMosaic Idealize.ShloMosaic.TcCoe Idealize.SL.Sem
open Cert.KernelIdeal Cert.KernelIdeal.Gen

variable (m : (ℓ : Loc nD τ sig) → Buf (Elt Ideal) ℓ) (c : Dev nD)

/-! ## Where the blocks sit -/

theorem idx1 : ∀ t : Fin grid0.N, win0_1.index t 0 = (grid0.coords t 1).val ∧ win0_1.index t 1 = 0 := by decide +kernel
theorem idx2 : ∀ t : Fin grid0.N, win0_2.index t 0 = 0 ∧ win0_2.index t 1 = (grid0.coords t 0).val := by decide +kernel
theorem idx3 : ∀ t : Fin grid0.N, win0_3.index t 0 = 0 ∧ win0_3.index t 1 = (grid0.coords t 0).val := by decide +kernel
theorem idx4 : ∀ t : Fin grid0.N, win0_4.index t 0 = (grid0.coords t 1).val ∧ win0_4.index t 1 = 0 := by decide +kernel
theorem idx5 : ∀ t : Fin grid0.N, win0_5.index t 0 = (grid0.coords t 1).val ∧ win0_5.index t 1 = 0 := by decide +kernel
theorem idx6 : ∀ t : Fin grid0.N, win0_6.index t 0 = 0 ∧ win0_6.index t 1 = (grid0.coords t 0).val ∧ win0_6.index t 2 = 0 := by decide +kernel
theorem idx7 : ∀ t : Fin grid0.N, win0_7.index t 0 = (grid0.coords t 1).val ∧ win0_7.index t 1 = (grid0.coords t 0).val := by decide +kernel
theorem idx8 : ∀ t : Fin grid0.N, win0_8.index t 0 = (grid0.coords t 1).val ∧ win0_8.index t 1 = (grid0.coords t 0).val := by decide +kernel

theorem coord0_lt (t : Fin grid0.N) : (grid0.coords t 0).val < 8 := (grid0.coords t 0).isLt
theorem coord1_lt (t : Fin grid0.N) : (grid0.coords t 1).val < 10 := (grid0.coords t 1).isLt

/-- Row `r` of the block at point `t`, and column `o` of it, among all. -/
abbrev row (t : Fin grid0.N) (r : Fin 512) : Fin 5120 := ⟨512 * (grid0.coords t 1).val + r.val, by have := coord1_lt t; omega⟩
abbrev col (t : Fin grid0.N) (o : Fin 1024) : Fin 8192 := ⟨1024 * (grid0.coords t 0).val + o.val, by have := coord0_lt t; omega⟩

theorem blk1 (t : Fin grid0.N) (r : Fin 512) (k : Fin 3072) :
    iblk m c 1 t (ix2 r k) = m ((c : Thread nD τ).loc main_arg1) (ix2 (row t r) k) := by
  have h := idx1 t
  show V m c main_arg1 ((win0_1.rect t).emb (ix2 r k)) = _
  rw [V_main_arg1]
  congr 1
  funext a
  refine Fin.ext ?_
  rw [Pipeline.Window.rect_emb_val win0_1]
  fin_cases a
  · show win0_1.index t 0 * 512 + r.val = 512 * (grid0.coords t 1).val + r.val; omega
  · show win0_1.index t 1 * 3072 + k.val = k.val; omega

theorem blk2 (t : Fin grid0.N) (k : Fin 3072) (o : Fin 1024) :
    iblk m c 2 t (ix2 k o) = m ((c : Thread nD τ).loc main_arg2) (ix2 k (col t o)) := by
  have h := idx2 t
  show V m c main_arg2 ((win0_2.rect t).emb (ix2 k o)) = _
  rw [V_main_arg2]
  congr 1
  funext a
  refine Fin.ext ?_
  rw [Pipeline.Window.rect_emb_val win0_2]
  fin_cases a
  · show win0_2.index t 0 * 3072 + k.val = k.val; omega
  · show win0_2.index t 1 * 1024 + o.val = 1024 * (grid0.coords t 0).val + o.val; omega

theorem V_bs (o : Fin 8192) : V m c main_v1 (ix2 0 o) = m ((c : Thread nD τ).loc main_arg3) (ix1 o) := by
  unfold V
  after_reads_at

theorem V_xs (r : Fin 5120) (l : Fin 128) : V m c main_v0 (ix2 r l) = m ((c : Thread nD τ).loc main_arg4) (ix2 r 0) := by
  unfold V
  after_reads_at

theorem blk3 (t : Fin grid0.N) (o : Fin 1024) :
    iblk m c 3 t (ix2 0 o) = m ((c : Thread nD τ).loc main_arg3) (ix1 (col t o)) := by
  have h := idx3 t
  show V m c main_v1 ((win0_3.rect t).emb (ix2 0 o)) = _
  rw [← V_bs m c]
  congr 1
  funext a
  refine Fin.ext ?_
  rw [Pipeline.Window.rect_emb_val win0_3]
  fin_cases a
  · show win0_3.index t 0 * 1 + 0 = 0; omega
  · show win0_3.index t 1 * 1024 + o.val = 1024 * (grid0.coords t 0).val + o.val; omega

theorem blk4 (t : Fin grid0.N) (r : Fin 512) (l : Fin 128) :
    iblk m c 4 t (ix2 r l) = m ((c : Thread nD τ).loc main_arg4) (ix2 (row t r) 0) := by
  have h := idx4 t
  show V m c main_v0 ((win0_4.rect t).emb (ix2 r l)) = _
  rw [← V_xs m c _ l]
  congr 1
  funext a
  refine Fin.ext ?_
  rw [Pipeline.Window.rect_emb_val win0_4]
  fin_cases a
  · show win0_4.index t 0 * 512 + r.val = 512 * (grid0.coords t 1).val + r.val; omega
  · show win0_4.index t 1 * 128 + l.val = l.val; omega

theorem blk5 (t : Fin grid0.N) (r : Fin 512) (j : Fin 256) :
    iblk m c 5 t (ix2 r j) = m ((c : Thread nD τ).loc main_arg5) (ix2 (row t r) j) := by
  have h := idx5 t
  show V m c main_arg5 ((win0_5.rect t).emb (ix2 r j)) = _
  rw [V_main_arg5]
  congr 1
  funext a
  refine Fin.ext ?_
  rw [Pipeline.Window.rect_emb_val win0_5]
  fin_cases a
  · show win0_5.index t 0 * 512 + r.val = 512 * (grid0.coords t 1).val + r.val; omega
  · show win0_5.index t 1 * 256 + j.val = j.val; omega

theorem blk6 (t : Fin grid0.N) (n : Fin 5) (o : Fin 1024) (j : Fin 256) :
    iblk m c 6 t (ix3 n o j) = m ((c : Thread nD τ).loc main_arg6) (ix3 n (col t o) j) := by
  have h := idx6 t
  show V m c main_arg6 ((win0_6.rect t).emb (ix3 n o j)) = _
  rw [V_main_arg6]
  congr 1
  funext a
  refine Fin.ext ?_
  rw [Pipeline.Window.rect_emb_val win0_6]
  fin_cases a
  · show win0_6.index t 0 * 5 + n.val = n.val; omega
  · show win0_6.index t 1 * 1024 + o.val = 1024 * (grid0.coords t 0).val + o.val; omega
  · show win0_6.index t 2 * 256 + j.val = j.val; omega

theorem blk0 (t : Fin grid0.N) (n : Fin 5) : iblk m c 0 t (ix1 n) = m ((c : Thread nD τ).loc main_arg0) (ix1 n) := by
  show V m c main_arg0 ((win0_0.rect t).emb (ix1 n)) = _
  rw [V_main_arg0]
  congr 1
  funext a
  refine Fin.ext ?_
  rw [Pipeline.Window.rect_emb_val win0_0]
  fin_cases a
  show win0_0.index t 0 * 5 + n.val = n.val
  have : ∀ t : Fin grid0.N, win0_0.index t 0 = 0 := by decide +kernel
  rw [this t]
  omega

/-! ## The two results -/

/-- The seven arguments by their coordinates. -/
abbrev aS (n : Fin 5) : BitVec 32 := m ((c : Thread nD τ).loc main_arg0) (ix1 n)
abbrev aX (R : Fin 5120) (k : Fin 3072) : EReal := m ((c : Thread nD τ).loc main_arg1) (ix2 R k)
abbrev aW (k : Fin 3072) (O : Fin 8192) : EReal := m ((c : Thread nD τ).loc main_arg2) (ix2 k O)
abbrev aBs (O : Fin 8192) : EReal := m ((c : Thread nD τ).loc main_arg3) (ix1 O)
abbrev aXs (R : Fin 5120) : EReal := m ((c : Thread nD τ).loc main_arg4) (ix2 R 0)
abbrev aG (R : Fin 5120) (j : Fin 256) : EReal := m ((c : Thread nD τ).loc main_arg5) (ix2 R j)
abbrev aU (n : Fin 5) (O : Fin 8192) (j : Fin 256) : EReal := m ((c : Thread nD τ).loc main_arg6) (ix3 n O j)

/-- The two results by their coordinates. -/
abbrev ydAt : Fin 5120 → Fin 8192 → EReal := Spec.yd (aS m c) (aG m c) (aU m c)
abbrev yFull : Fin 5120 → Fin 8192 → EReal := Spec.y (aX m c) (aW m c) (aXs m c) (aBs m c) (ydAt m c)

variable (hs : Words.Small (aS m c 0) (aS m c 1) (aS m c 2) (aS m c 3))

include hs in
theorem delta_blk (t : Fin grid0.N) (r : Fin 512) (o : Fin 1024) :
    delta (grid0.coords t) (iblk m c 0 t (ix1 0)) (iblk m c 0 t (ix1 1)) (iblk m c 0 t (ix1 2)) (iblk m c 0 t (ix1 3)) (iblk m c 5 t) (iblk m c 6 t)
      (k0_t1_loop (grid0.coords t) (iblk m c 0 t (ix1 0)) (iblk m c 0 t (ix1 1)) (iblk m c 0 t (ix1 2)) (iblk m c 0 t (ix1 3))).trips (ix2 r o)
      = ydAt m c (row t r) (col t o) := by
  rw [blk0, blk0, blk0, blk0]
  rw [delta_val _ _ _ _ _ hs]
  refine Finset.sum_congr rfl fun j _ => ?_
  rw [blk5, blk6]
  rfl

include hs in
theorem flushed8_val (t : Fin cfg0.N) (r : Fin 512) (o : Fin 1024) :
    (dats m (hyps m) 0 c).flushed 8 t (ix2 r o) = ydAt m c (row t r) (col t o) := by
  rw [Value.flushed8_A]
  show out0_A_8 c (grid0.coords t) _ _ _ _ _ _ _ _ _ _ _ _ _ _ _ _ _ _ _ _ _ _ _ _ _ _ (ix2 r o) = _
  unfold out0_A_8
  rw [← delta_blk m c hs]
  rw [View.read_writes_of_cover VO0_8 VO0_8.junk (ms0_8 t).view (ms0_8 t).view.junk _ (cover0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) (iblk m c 6 t) (Hyps.c0 (hyps m) c t))]
  exact congrFun (L8_read (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) (iblk m c 6 t) (Hyps.c0 (hyps m) c t) (ms0_8 t).view.junk) (ix2 r o)

include hs in
theorem flushed7_val (t : Fin cfg0.N) (r : Fin 512) (o : Fin 1024) :
    (dats m (hyps m) 0 c).flushed 7 t (ix2 r o) = yFull m c (row t r) (col t o) := by
  rw [Value.flushed7_A]
  show out0_A_7 c (grid0.coords t) _ _ _ _ _ _ _ _ _ _ _ _ _ _ _ _ _ _ _ _ _ _ _ _ _ _ (ix2 r o) = _
  unfold out0_A_7
  refine (L7_read c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) (iblk m c 6 t) (Hyps.c0 (hyps m) c t) VO0_7 VO0_7.junk r o).trans ?_
  unfold yAt
  rw [delta_blk m c hs, blk3, blk4]
  refine congrArg (fun q : EReal => q * _ * _ + _) (Finset.sum_congr rfl fun k _ => ?_)
  rw [blk1, blk2]

/-- Every index lies in some point's block. -/
theorem point (R : Fin 5120) (O : Fin 8192) : ∃ t : Fin grid0.N, (grid0.coords t 1).val = R.val / 512 ∧ (grid0.coords t 0).val = O.val / 1024 := by
  have h : ∀ a : Fin 10, ∀ b : Fin 8, ∃ t : Fin grid0.N, (grid0.coords t 1).val = a.val ∧ (grid0.coords t 0).val = b.val := by decide +kernel
  exact h ⟨R.val / 512, by omega⟩ ⟨O.val / 1024, by omega⟩

include hs in
/-- The second result: the adapter's product. -/
theorem arr8 (R : Fin 5120) (O : Fin 8192) : (dats m (hyps m) 0 c).arrAt 8 cfg0.N (ix2 R O) = ydAt m c R O := by
  obtain ⟨t, h1, h0⟩ := point R O
  have h := idx8 t
  have hf : ∀ t : Fin cfg0.N, (cfg0.win 8).flush t = true := by decide +kernel
  have e := (dats m (hyps m) 0 c).arrAt_emb_eq_flushed 8 Value.disjoint8 t (hf t) (ix2 (⟨R.val % 512, by omega⟩ : Fin 512) (⟨O.val % 1024, by omega⟩ : Fin 1024))
  have e' : ((cfg0.win 8).blk t).view.emb (ix2 (⟨R.val % 512, by omega⟩ : Fin 512) (⟨O.val % 1024, by omega⟩ : Fin 1024)) = ix2 R O := by
    show (win0_8.rect t).emb _ = _
    funext a
    refine Fin.ext ?_
    rw [Pipeline.Window.rect_emb_val win0_8]
    fin_cases a
    · show win0_8.index t 0 * 512 + R.val % 512 = R.val; omega
    · show win0_8.index t 1 * 1024 + O.val % 1024 = O.val; omega
  rw [e'] at e
  refine e.trans ((flushed8_val m c hs t _ _).trans ?_)
  congr 1
  · exact Fin.ext (by show 512 * (grid0.coords t 1).val + R.val % 512 = R.val; omega)
  · exact Fin.ext (by show 1024 * (grid0.coords t 0).val + O.val % 1024 = O.val; omega)

include hs in
/-- The first result. -/
theorem arr7 (R : Fin 5120) (O : Fin 8192) : (dats m (hyps m) 0 c).arrAt 7 cfg0.N (ix2 R O) = yFull m c R O := by
  obtain ⟨t, h1, h0⟩ := point R O
  have h := idx7 t
  have hf : ∀ t : Fin cfg0.N, (cfg0.win 7).flush t = true := by decide +kernel
  have e := (dats m (hyps m) 0 c).arrAt_emb_eq_flushed 7 Value.disjoint7 t (hf t) (ix2 (⟨R.val % 512, by omega⟩ : Fin 512) (⟨O.val % 1024, by omega⟩ : Fin 1024))
  have e' : ((cfg0.win 7).blk t).view.emb (ix2 (⟨R.val % 512, by omega⟩ : Fin 512) (⟨O.val % 1024, by omega⟩ : Fin 1024)) = ix2 R O := by
    show (win0_7.rect t).emb _ = _
    funext a
    refine Fin.ext ?_
    rw [Pipeline.Window.rect_emb_val win0_7]
    fin_cases a
    · show win0_7.index t 0 * 512 + R.val % 512 = R.val; omega
    · show win0_7.index t 1 * 1024 + O.val % 1024 = O.val; omega
  rw [e'] at e
  refine e.trans ((flushed7_val m c hs t _ _).trans ?_)
  congr 1
  · exact Fin.ext (by show 512 * (grid0.coords t 1).val + R.val % 512 = R.val; omega)
  · exact Fin.ext (by show 1024 * (grid0.coords t 0).val + O.val % 1024 = O.val; omega)

end Cert.KernelIdeal.Main

end
-- ==== Proof.Reference.lean ====
/-
  The reference's two result arrays at the ideal instance, element by element, in terms of its seven argument arrays.
-/
module

public import proofs.«01_k».proof.Proof.Spec
public import proofs.«01_k».proof.Proof.Gen.ReferenceIdeal.Value
public import Idealize.ShloMosaic.Lib.Tactic
public import Idealize.ShloMosaic.Lib.VecWindow
public import Idealize.ShloMosaic.Lib.Pointwise
public import Idealize.ShloMosaic.Lib.StableHlo.ReadAt

@[expose] public section

noncomputable section

namespace Cert.ReferenceIdeal.Ref

open Idealize.ShloMosaic Idealize.ShloMosaic.TcCoe Idealize.SL.Sem
open Cert.ReferenceIdeal Cert.ReferenceIdeal.Gen

/-- The one grid point. -/
abbrev t0_0 : Fin cfg0.N := ⟨0, by decide⟩

/-- Tenant `n`'s masked product. -/
abbrev part (x4 : Vec Ideal S5120x5 .i32) (x5 : Vec Ideal S5120x256 .bf16) (x6 : Vec Ideal S5x8192x256 .bf16)
    (R : Fin 5120) (O : Fin 8192) (n : Fin 5) : EReal :=
  Scalar.select (IntOp.cmpi .eq (x4 (ix2 R n)) 1#32) (∑ j : Fin 256, x5 (ix2 R j) * x6 (ix3 n O j)) (0 : EReal)

theorem out8_val (x0 : Vec Ideal S5120x3072 .fp8e4m3) (x1 : Vec Ideal S3072x8192 .fp8e4m3) (x2 : Vec Ideal S1x8192 .f32) (x3 : Vec Ideal S5120x1 .f32) (x4 : Vec Ideal S5120x5 .i32) (x5 : Vec Ideal S5120x256 .bf16) (x6 : Vec Ideal S5x8192x256 .bf16)
    (R : Fin 5120) (O : Fin 8192) :
    out0_8 x0 x1 x2 x3 x4 x5 x6 (ix2 R O) = 0 + part x4 x5 x6 R O 0 + part x4 x5 x6 R O 1 + part x4 x5 x6 R O 2 + part x4 x5 x6 R O 3 + part x4 x5 x6 R O 4 := by
  unfold out0_8
  have hz : (![0, 0] : Fin 2 → Nat) = fun _ => 0 := funext fun a => by fin_cases a <;> rfl
  rw [View.canon_unit_zero hz]
  unfold k0_pay9
  unfold_payloads
  pointwise

theorem out7_val (x0 : Vec Ideal S5120x3072 .fp8e4m3) (x1 : Vec Ideal S3072x8192 .fp8e4m3) (x2 : Vec Ideal S1x8192 .f32) (x3 : Vec Ideal S5120x1 .f32) (x4 : Vec Ideal S5120x5 .i32) (x5 : Vec Ideal S5120x256 .bf16) (x6 : Vec Ideal S5x8192x256 .bf16)
    (R : Fin 5120) (O : Fin 8192) :
    out0_7 x0 x1 x2 x3 x4 x5 x6 (ix2 R O) = (∑ k : Fin 3072, x0 (ix2 R k) * x1 (ix2 k O)) * x3 (ix2 R 0) * x2 (ix2 0 O)
      + (0 + part x4 x5 x6 R O 0 + part x4 x5 x6 R O 1 + part x4 x5 x6 R O 2 + part x4 x5 x6 R O 3 + part x4 x5 x6 R O 4) := by
  unfold out0_7
  have hz : (![0, 0] : Fin 2 → Nat) = fun _ => 0 := funext fun a => by fin_cases a <;> rfl
  rw [View.canon_unit_zero hz]
  unfold k0_pay9
  unfold_payloads
  pointwise

variable (m : (ℓ : Loc nD τ sig) → Buf (Elt Ideal) ℓ) (c : Dev nD)

theorem V_bs (O : Fin 8192) : V m c main_v22 (ix2 0 O) = m ((c : Thread nD τ).loc main_arg3) (ix1 O) := by
  unfold V
  after_reads_at

/-- The seven arguments by their coordinates. -/
abbrev aS (n : Fin 5) : BitVec 32 := m ((c : Thread nD τ).loc main_arg0) (ix1 n)
abbrev aX (R : Fin 5120) (k : Fin 3072) : EReal := m ((c : Thread nD τ).loc main_arg1) (ix2 R k)
abbrev aW (k : Fin 3072) (O : Fin 8192) : EReal := m ((c : Thread nD τ).loc main_arg2) (ix2 k O)
abbrev aBs (O : Fin 8192) : EReal := m ((c : Thread nD τ).loc main_arg3) (ix1 O)
abbrev aXs (R : Fin 5120) : EReal := m ((c : Thread nD τ).loc main_arg4) (ix2 R 0)
abbrev aG (R : Fin 5120) (j : Fin 256) : EReal := m ((c : Thread nD τ).loc main_arg5) (ix2 R j)
abbrev aU (n : Fin 5) (O : Fin 8192) (j : Fin 256) : EReal := m ((c : Thread nD τ).loc main_arg6) (ix3 n O j)

variable (h : Spec.Partition (aS m c))

include h in
theorem V_keep (R : Fin 5120) (n : Fin 5) :
    V m c main_v21 (ix2 R n) = if Spec.tenant (aS m c) R = n then 1#32 else 0#32 := by
  rw [← Spec.mask_eq h]
  unfold V
  after_reads_at
  rfl

theorem blk0 (R : Fin 5120) (k : Fin 3072) : iblk m c 0 t0_0 (ix2 R k) = aX m c R k := by
  show V m c main_arg1 ((win0_0.rect t0_0).emb (ix2 R k)) = _
  rw [V_main_arg1]
  congr 1
  funext a
  refine Fin.ext ?_
  rw [Pipeline.Window.rect_emb_val win0_0]
  fin_cases a
  · show 0 * 5120 + R.val = R.val; omega
  · show 0 * 3072 + k.val = k.val; omega

theorem blk1 (k : Fin 3072) (O : Fin 8192) : iblk m c 1 t0_0 (ix2 k O) = aW m c k O := by
  show V m c main_arg2 ((win0_1.rect t0_0).emb (ix2 k O)) = _
  rw [V_main_arg2]
  congr 1
  funext a
  refine Fin.ext ?_
  rw [Pipeline.Window.rect_emb_val win0_1]
  fin_cases a
  · show 0 * 3072 + k.val = k.val; omega
  · show 0 * 8192 + O.val = O.val; omega

theorem blk2 (O : Fin 8192) : iblk m c 2 t0_0 (ix2 0 O) = aBs m c O := by
  show V m c main_v22 ((win0_2.rect t0_0).emb (ix2 0 O)) = _
  refine Eq.trans ?_ (V_bs m c O)
  congr 1
  funext a
  refine Fin.ext ?_
  rw [Pipeline.Window.rect_emb_val win0_2]
  fin_cases a
  · show 0 * 1 + 0 = 0; omega
  · show 0 * 8192 + O.val = O.val; omega

theorem blk3 (R : Fin 5120) : iblk m c 3 t0_0 (ix2 R 0) = aXs m c R := by
  show V m c main_arg4 ((win0_3.rect t0_0).emb (ix2 R 0)) = _
  rw [V_main_arg4]
  congr 1
  funext a
  refine Fin.ext ?_
  rw [Pipeline.Window.rect_emb_val win0_3]
  fin_cases a
  · show 0 * 5120 + R.val = R.val; omega
  · show 0 * 1 + 0 = 0; omega

include h in
theorem blk4 (R : Fin 5120) (n : Fin 5) : iblk m c 4 t0_0 (ix2 R n) = if Spec.tenant (aS m c) R = n then 1#32 else 0#32 := by
  show V m c main_v21 ((win0_4.rect t0_0).emb (ix2 R n)) = _
  rw [← V_keep m c h]
  congr 1
  funext a
  refine Fin.ext ?_
  rw [Pipeline.Window.rect_emb_val win0_4]
  fin_cases a
  · show 0 * 5120 + R.val = R.val; omega
  · show 0 * 5 + n.val = n.val; omega

theorem blk5 (R : Fin 5120) (j : Fin 256) : iblk m c 5 t0_0 (ix2 R j) = aG m c R j := by
  show V m c main_arg5 ((win0_5.rect t0_0).emb (ix2 R j)) = _
  rw [V_main_arg5]
  congr 1
  funext a
  refine Fin.ext ?_
  rw [Pipeline.Window.rect_emb_val win0_5]
  fin_cases a
  · show 0 * 5120 + R.val = R.val; omega
  · show 0 * 256 + j.val = j.val; omega

theorem blk6 (n : Fin 5) (O : Fin 8192) (j : Fin 256) : iblk m c 6 t0_0 (ix3 n O j) = aU m c n O j := by
  show V m c main_arg6 ((win0_6.rect t0_0).emb (ix3 n O j)) = _
  rw [V_main_arg6]
  congr 1
  funext a
  refine Fin.ext ?_
  rw [Pipeline.Window.rect_emb_val win0_6]
  fin_cases a
  · show 0 * 5 + n.val = n.val; omega
  · show 0 * 8192 + O.val = O.val; omega
  · show 0 * 256 + j.val = j.val; omega

include h in
/-- Of the five masked products the row's own tenant's remains. -/
theorem parts (R : Fin 5120) (O : Fin 8192) :
    0 + part (iblk m c 4 t0_0) (iblk m c 5 t0_0) (iblk m c 6 t0_0) R O 0 + part (iblk m c 4 t0_0) (iblk m c 5 t0_0) (iblk m c 6 t0_0) R O 1
      + part (iblk m c 4 t0_0) (iblk m c 5 t0_0) (iblk m c 6 t0_0) R O 2 + part (iblk m c 4 t0_0) (iblk m c 5 t0_0) (iblk m c 6 t0_0) R O 3
      + part (iblk m c 4 t0_0) (iblk m c 5 t0_0) (iblk m c 6 t0_0) R O 4 = Spec.yd (aS m c) (aG m c) (aU m c) R O := by
  have hp : ∀ n, part (iblk m c 4 t0_0) (iblk m c 5 t0_0) (iblk m c 6 t0_0) R O n
      = if Spec.tenant (aS m c) R = n then (∑ j : Fin 256, aG m c R j * aU m c n O j) else 0 := by
    intro n
    have e : (∑ j : Fin 256, (show EReal from iblk m c 5 t0_0 (ix2 R j)) * (show EReal from iblk m c 6 t0_0 (ix3 n O j))) = ∑ j : Fin 256, aG m c R j * aU m c n O j :=
      Finset.sum_congr rfl fun j _ => by rw [blk5, blk6]
    unfold part
    rw [blk4 m c h, e]
    split_ifs <;> rfl
  rw [hp, hp, hp, hp, hp]
  unfold Spec.yd
  generalize Spec.tenant (aS m c) R = n
  match n with
  | 0 => simp
  | 1 => simp
  | 2 => simp
  | 3 => simp
  | 4 => simp

include h in
theorem arr8 (R : Fin 5120) (O : Fin 8192) : (dats m 0 c).arrAt 8 cfg0.N (ix2 R O) = Spec.yd (aS m c) (aG m c) (aU m c) R O := by
  have e := (dats m 0 c).arrAt_emb_eq_flushed 8 Value.disjoint8 t0_0 (by decide) (ix2 R O)
  have e' : ((cfg0.win 8).blk t0_0).view.emb (ix2 R O) = ix2 R O := by
    show (win0_8.rect t0_0).emb _ = _
    funext a
    refine Fin.ext ?_
    rw [Pipeline.Window.rect_emb_val win0_8]
    fin_cases a
    · show 0 * 5120 + R.val = R.val; omega
    · show 0 * 8192 + O.val = O.val; omega
  rw [e'] at e
  refine e.trans ?_
  rw [Value.flushed8]
  have v := out8_val (iblk m c 0 t0_0) (iblk m c 1 t0_0) (iblk m c 2 t0_0) (iblk m c 3 t0_0) (iblk m c 4 t0_0) (iblk m c 5 t0_0) (iblk m c 6 t0_0) R O
  generalize out0_8 (iblk m c 0 t0_0) (iblk m c 1 t0_0) (iblk m c 2 t0_0) (iblk m c 3 t0_0) (iblk m c 4 t0_0) (iblk m c 5 t0_0) (iblk m c 6 t0_0) = X at v ⊢
  show X (ix2 R O) = _
  refine v.trans ?_
  exact parts m c h R O

include h in
theorem arr7 (R : Fin 5120) (O : Fin 8192) : (dats m 0 c).arrAt 7 cfg0.N (ix2 R O) = Spec.y (aX m c) (aW m c) (aXs m c) (aBs m c) (Spec.yd (aS m c) (aG m c) (aU m c)) R O := by
  have e := (dats m 0 c).arrAt_emb_eq_flushed 7 Value.disjoint7 t0_0 (by decide) (ix2 R O)
  have e' : ((cfg0.win 7).blk t0_0).view.emb (ix2 R O) = ix2 R O := by
    show (win0_7.rect t0_0).emb _ = _
    funext a
    refine Fin.ext ?_
    rw [Pipeline.Window.rect_emb_val win0_7]
    fin_cases a
    · show 0 * 5120 + R.val = R.val; omega
    · show 0 * 8192 + O.val = O.val; omega
  rw [e'] at e
  refine e.trans ?_
  rw [Value.flushed7]
  have v := out7_val (iblk m c 0 t0_0) (iblk m c 1 t0_0) (iblk m c 2 t0_0) (iblk m c 3 t0_0) (iblk m c 4 t0_0) (iblk m c 5 t0_0) (iblk m c 6 t0_0) R O
  generalize out0_7 (iblk m c 0 t0_0) (iblk m c 1 t0_0) (iblk m c 2 t0_0) (iblk m c 3 t0_0) (iblk m c 4 t0_0) (iblk m c 5 t0_0) (iblk m c 6 t0_0) = X at v ⊢
  show X (ix2 R O) = _
  refine v.trans ?_
  rw [parts m c h, blk2, blk3]
  unfold Spec.y
  refine congrArg (fun q : EReal => q * _ * _ + _) (Finset.sum_congr rfl fun k _ => ?_)
  rw [blk0, blk1]

end Cert.ReferenceIdeal.Ref

end
-- ==== Proof.Sizes.lean ====
/-
  The statement's precondition, read: every size lies between 0 and the number of rows, and the sizes add up to it.
-/
module

public import proofs.«01_k».proof.Proof.Spec
public import proofs.«01_k».proof.Proof.Gen.Pre_sizes_partition_rows
public import Idealize.ShloMosaic.Lib.ReduceAll
public import Idealize.ShloMosaic.Lib.Pointwise

@[expose] public section

noncomputable section

namespace Cert.Sizes

open Idealize.ShloMosaic
open Cert.Pre_sizes_partition_rows Cert.Pre_sizes_partition_rows.Gen

theorem and_one : ∀ a b : BitVec 1, IntOp.andi a b = 1#1 → a = 1#1 ∧ b = 1#1 := by decide

theorem partition (s : IVec S5 32) (x1 : FVec Ideal S5120x3072 .fp8e4m3) (x2 : FVec Ideal S3072x8192 .fp8e4m3) (x3 : FVec Ideal S8192 .f32)
    (x4 : FVec Ideal S5120x1 .f32) (x5 : FVec Ideal S5120x256 .bf16) (x6 : FVec Ideal S5x8192x256 .bf16)
    (h : fn (F := Ideal) s x1 x2 x3 x4 x5 x6 = fun _ => 1#1) : Spec.Partition (fun n => s (ix1 n)) := by
  have e := congrFun h ix0
  dsimp only [fn, andi] at e
  obtain ⟨ea, es⟩ := and_one _ _ e
  have hall : ∀ n : Fin 5, (s (ix1 n)).toNat ≤ 5120 := by
    intro n
    have hn := Host.reduce_andi_all _ _ _ _ _ ea (ix1 n)
    obtain ⟨h1, h2⟩ := and_one _ _ hn
    have h1' := IntOp.cmpi_sge.1 h1
    have h2' := IntOp.cmpi_sle.1 h2
    simp only [broadcastInDim, constantI] at h1' h2'
    have z : (0#32 : BitVec 32).toInt = 0 := rfl
    have z' : (5120#32 : BitVec 32).toInt = 5120 := rfl
    rw [z] at h1'; rw [z'] at h2'
    rw [BitVec.toInt_eq_toNat_cond] at h1' h2'
    split_ifs at h1' h2' <;> omega
  refine ⟨hall, ?_⟩
  have es' := IntOp.cmpi_eq.1 es
  have h0 := hall 0; have h1 := hall 1; have h2 := hall 2; have h3 := hall 3; have h4 := hall 4
  have hf : Host.reduce IntOp.addi s (constantI S_ 32 0#32) reducesTo_S5_S_d0 h_S_ ix0 = s (ix1 0) + (s (ix1 1) + (s (ix1 2) + (s (ix1 3) + (s (ix1 4) + 0#32)))) := by
    pointwise
    rfl
  rw [hf] at es'
  have := congrArg BitVec.toNat es'
  simp only [BitVec.toNat_add, constantI] at this
  have z : (0#32 : BitVec 32).toNat = 0 := rfl
  have z' : (5120#32 : BitVec 32).toNat = 5120 := rfl
  omega

end Cert.Sizes

end
-- ==== Proof.QuantRun.lean ====
/-
  The quantiser's kernel on one row block.  It reads off the tenants' sizes the first and the last tenant meeting the block,
  and whatever the sizes are these words keep every index in range.  One run of the body leaves in the codes' block and in
  the scales' block functions of the activations' block alone, and in the block of `g` what a loop over those tenants makes
  of the contents it found there.  With nothing stated of the results, this gives the call's frame for any arguments.
-/
module

public import proofs.«01_k».proof.Proof.Words
public import proofs.«01_k».proof.Proof.Gen.QuantKernel.Frame
public import proofs.«01_k».proof.Proof.Gen.QuantKernel.Skeleton
public import proofs.«01_k».proof.Proof.Gen.QuantKernel.Loops
public import Idealize.ShloMosaic.Lib.Tactic
public import Idealize.ShloMosaic.Lib.VecWindow
public import Idealize.ShloMosaic.Lib.Pointwise
public import Idealize.ShloMosaic.Lib.Claim

@[expose] public section

set_option maxRecDepth 16384

noncomputable section

namespace Cert.QuantKernel.Quant

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.QuantKernel Cert.QuantKernel.Gen

/-! ## The words -/

/-- The first row of the block at grid point `i`, and its last row. -/
abbrev row0 (i : grid0.Coords) : BitVec 32 := Scalar.muli (BitVec.ofNat 32 (i 0).val) 512#32
abbrev rowL (i : grid0.Coords) : BitVec 32 := Scalar.subi (Scalar.addi (row0 i) 512#32) 1#32

/-- The first tenant meeting the block, and the last. -/
abbrev first (i : grid0.Coords) (s0 s1 s2 s3 : BitVec 32) : BitVec 32 := Words.count s0 s1 s2 s3 (row0 i)
abbrev last (i : grid0.Coords) (s0 s1 s2 s3 : BitVec 32) : BitVec 32 := Words.count s0 s1 s2 s3 (rowL i)

theorem loopA_eq (i : grid0.Coords) (s0 s1 s2 s3 : BitVec 32) :
    k0_t1_loop i s0 s1 s2 s3 = Words.loopA (first i s0 s1 s2 s3) (last i s0 s1 s2 s3) := rfl
theorem loopB_eq (i : grid0.Coords) (s0 s1 s2 s3 : BitVec 32) :
    k0_t2_loop i s0 s1 s2 s3 = Words.loopB (first i s0 s1 s2 s3) (last i s0 s1 s2 s3) := rfl
theorem off1_eq (i : grid0.Coords) (s0 s1 s2 s3 : BitVec 32) (k : Fin (k0_t1_loop i s0 s1 s2 s3).trips) :
    k0_off1 i s0 s1 s2 s3 k = ![(Scf.iv (first i s0 s1 s2 s3) 1#32 k.val).toNat, 0, 0] := rfl
theorem off2_eq (i : grid0.Coords) (s0 s1 s2 s3 : BitVec 32) (k : Fin (k0_t1_loop i s0 s1 s2 s3).trips) :
    k0_off2 i s0 s1 s2 s3 k = ![(Scf.iv (first i s0 s1 s2 s3) 1#32 k.val).toNat, 0] := rfl

theorem trips1 (i : grid0.Coords) (s0 s1 s2 s3 : BitVec 32) : (k0_t1_loop i s0 s1 s2 s3).trips
    = (last i s0 s1 s2 s3).toNat + 1 - (first i s0 s1 s2 s3).toNat :=
  (Words.loopsAB _ _ (Words.count_le ..) (Words.count_le ..)).2.2.1
theorem trips2 (i : grid0.Coords) (s0 s1 s2 s3 : BitVec 32) : (k0_t2_loop i s0 s1 s2 s3).trips = 0 :=
  (Words.loopsAB _ _ (Words.count_le ..) (Words.count_le ..)).2.2.2.1
theorem iv1 (i : grid0.Coords) (s0 s1 s2 s3 : BitVec 32) (k : ℕ)
    (hk : k < (last i s0 s1 s2 s3).toNat + 1 - (first i s0 s1 s2 s3).toNat) :
    (Scf.iv (first i s0 s1 s2 s3) 1#32 k).toNat = (first i s0 s1 s2 s3).toNat + k :=
  (Words.loopsAB _ _ (Words.count_le ..) (Words.count_le ..)).2.2.2.2 k hk

theorem inb3 (n : ℕ) (h : n ≤ 4) : ∀ a, (![n, 0, 0] : Fin 3 → ℕ) a + S1x3072x256.size a ≤ S5x3072x256.size a := by
  intro a
  fin_cases a
  · show n + 1 ≤ 5; omega
  · show 0 + 3072 ≤ 3072; omega
  · show 0 + 256 ≤ 256; omega

theorem inb2 (n : ℕ) (h : n ≤ 4) : ∀ a, (![n, 0] : Fin 2 → ℕ) a + S1x256.size a ≤ S5x256.size a := by
  intro a
  fin_cases a
  · show n + 1 ≤ 5; omega
  · show 0 + 256 ≤ 256; omega

/-- The kernel's side condition holds for every four words. -/
theorem chk (i : grid0.Coords) (s0 s1 s2 s3 : BitVec 32) : k0_chk1 i s0 s1 s2 s3 := by
  have hf : (first i s0 s1 s2 s3).toNat ≤ 4 := Words.count_le ..
  have hl : (last i s0 s1 s2 s3).toNat ≤ 4 := Words.count_le ..
  have h := Words.loopsAB _ _ hf hl
  have hk : ∀ k : Fin (k0_t1_loop i s0 s1 s2 s3).trips, (Scf.iv (first i s0 s1 s2 s3) 1#32 k.val).toNat ≤ 4 := fun k => by
    have hk := lt_of_lt_of_eq k.isLt (trips1 i s0 s1 s2 s3)
    rw [iv1 i s0 s1 s2 s3 k.val hk]
    omega
  refine ⟨h.1, fun k => ?_, fun k => ?_, h.2.1, fun k => ?_, fun k => ?_⟩
  · rw [off1_eq]; exact inb3 _ (hk k)
  · rw [off2_eq]; exact inb2 _ (hk k)
  · exact absurd (lt_of_lt_of_eq k.isLt (trips2 i s0 s1 s2 s3)) (Nat.not_lt_zero _)
  · exact absurd (lt_of_lt_of_eq k.isLt (trips2 i s0 s1 s2 s3)) (Nat.not_lt_zero _)

variable {F : FTy → Type} [FloatOps F]

local notation "𝕄" => MT nD τ sig Unit (Elt F) ℕ (UR sig nD τ) ℕ

/-! ## The loop over tenants -/

theorem hz : (![0, 0] : Fin 2 → Nat) = fun _ => 0 := funext fun a => by fin_cases a <;> rfl

/-- The running sum and the running count the loop's payload is stated over. -/
abbrev sum3 (s0 s1 s2 : BitVec 32) : BitVec 32 := Scalar.addi (Scalar.addi (Scalar.addi 0#32 s0) s1) s2
abbrev cnt3 (i : grid0.Coords) (s0 s1 s2 : BitVec 32) : BitVec 32 :=
  Scalar.addi (Scalar.addi (Scalar.addi 0#32 (Words.endsBy (Scalar.addi 0#32 s0) (row0 i)))
    (Words.endsBy (Scalar.addi (Scalar.addi 0#32 s0) s1) (row0 i))) (Words.endsBy (sum3 s0 s1 s2) (row0 i))

/-- The block of `g` before trip `k`, from contents `d`. -/
def gl (i : grid0.Coords) (s0 s1 s2 s3 : BitVec 32) (sc : FVec F S512x1 .f32) (xb : FVec F S512x3072 .bf16)
    (x2 : Vec F S5x3072x256 .bf16) (x3 : Vec F S5x256 .f32) (d : Vec F S512x256 .bf16) : ℕ → Vec F S512x256 .bf16
  | 0 => d
  | k + 1 => if h : k < (k0_t1_loop i s0 s1 s2 s3).trips then
      k0_pay2 (F := F) i sc xb (row0 i) s0 s1 s2 (sum3 s0 s1 s2) (cnt3 i s0 s1 s2) s3 ⟨k, h⟩
        (View.ld x2 (Rect.unit (s := S5x3072x256) (k0_off1 i s0 s1 s2 s3 ⟨k, h⟩) S1x3072x256.size (k0_off1_inb i s0 s1 s2 s3 (chk i s0 s1 s2 s3) ⟨k, h⟩)))
        (View.ld x3 (Rect.unit (s := S5x256) (k0_off2 i s0 s1 s2 s3 ⟨k, h⟩) S1x256.size (k0_off2_inb i s0 s1 s2 s3 (chk i s0 s1 s2 s3) ⟨k, h⟩)))
        s0 s1 s2 s3 (gl i s0 s1 s2 s3 sc xb x2 x3 d k)
      else gl i s0 s1 s2 s3 sc xb x2 x3 d k

/-- The block of `g` the body leaves, of the sizes, the activations' block, the factors, the scales and the contents found. -/
def gfin (i : grid0.Coords) (x0 : Vec F S5 .i32) (x1 : Vec F S512x3072 .bf16) (x2 : Vec F S5x3072x256 .bf16) (x3 : Vec F S5x256 .f32)
    (d : Vec F S512x256 .bf16) : Vec F S512x256 .bf16 :=
  gl i (x0 (ix1 0)) (x0 (ix1 1)) (x0 (ix1 2)) (x0 (ix1 3)) (k0_pay6 x1) (k0_pay10 (k0_pay7 x1)) x2 x3 d
    (k0_t1_loop i (x0 (ix1 0)) (x0 (ix1 1)) (x0 (ix1 2)) (x0 (ix1 3))).trips

section Trips

variable (𝒱 : Variants) (c : Dev nD) (bd : Option 𝒱.V) (i : grid0.Coords) (arg1 : Memref sig .tc .smem S5 .i32) (harg1 : arg1.IsWhole) (arg2 : Memref sig .tc .vmem S512x3072 .bf16) (harg2 : arg2.IsWhole) (arg3 : Memref sig .tc .vmem S5x3072x256 .bf16) (harg3 : arg3.IsWhole) (arg4 : Memref sig .tc .vmem S5x256 .f32) (harg4 : arg4.IsWhole) (arg5 : Memref sig .tc .vmem S512x3072 .fp8e4m3) (harg5 : arg5.IsWhole) (arg6 : Memref sig .tc .vmem S512x128 .f32) (harg6 : arg6.IsWhole) (arg7 : Memref sig .tc .vmem S512x256 .bf16) (harg7 : arg7.IsWhole)

/-- The word of `arg1` at position `n`. -/
abbrev word (arg1 : Memref sig .tc .smem S5 .i32) (X : BufTy.Contents (Elt F) arg1.view.ty) (n : ℕ) (h : ∀ a, (![n] : Fin 1 → ℕ) a + S1.size a ≤ S5.size a) :
    BitVec 32 :=
  arg1.view.readAt (Elt F) (Rect.unit (s := S5) ![n] S1.size h).toLoadRect X (Shape.Idx.first (numel1_S1.symm ▸ Nat.one_pos))

/-- Reading a word of a buffer that holds `x`. -/
theorem word_unread (x : Vec F S5 .i32) (n : ℕ) (hn : n < 5) (h) : word arg1 (harg1.unread x) n h = x (ix1 ⟨n, hn⟩) := by
  show arg1.view.readAt (Elt F) _ _ _ = _
  rw [View.readAt_eq_ld, harg1.read_unread]
  show x _ = x _
  congr 1
  funext a
  fin_cases a
  exact Fin.ext (by show n + 1 * 0 = n; omega)

/-- One trip of the first loop writes the whole block once. -/
theorem tripL_eq (sc : FVec F S512x1 .f32) (xb : FVec F S512x3072 .bf16) (v53 : BitVec 32) (v54 v64 v74 : Elt F .i32) (v75 v78 : BitVec 32) (v84 : Elt F .i32) (hw : k0_chk1 i v54 v64 v74 v84)
    (X1 : BufTy.Contents (Elt F) arg1.view.ty) (X3 : BufTy.Contents (Elt F) arg3.view.ty) (X4 : BufTy.Contents (Elt F) arg4.view.ty)
    (k : Fin (k0_t1_loop i v54 v64 v74 v84).trips) (a : BitVec 32) (f : BufTy.Contents (Elt F) arg7.view.ty) :
    tripL_k0_t1 (F := F) 𝒱 c bd i arg1 harg1 arg2 harg2 arg3 harg3 arg4 harg4 arg5 harg5 arg6 harg6 arg7 harg7
      sc xb v53 v54 v64 v74 v75 v78 v84 hw X1 X3 X4 k a f
    = [⟨Rect.unit (s := S512x256) ![0, 0] S512x256.size inb_S512x256_S512x256_0_0,
        k0_pay2 i sc xb v53 v54 v64 v74 v75 v78 v84 k
          (arg3.view.readAt (Elt F) (Rect.unit (s := S5x3072x256) (k0_off1 i v54 v64 v74 v84 k) S1x3072x256.size (k0_off1_inb i v54 v64 v74 v84 hw k)).toLoadRect X3)
          (arg4.view.readAt (Elt F) (Rect.unit (s := S5x256) (k0_off2 i v54 v64 v74 v84 k) S1x256.size (k0_off2_inb i v54 v64 v74 v84 hw k)).toLoadRect X4)
          (word arg1 X1 0 inb_S5_S1_0) (word arg1 X1 1 inb_S5_S1_1) (word arg1 X1 2 inb_S5_S1_2) (word arg1 X1 3 inb_S5_S1_3)
          (arg7.view.readAt (Elt F) (Rect.unit (s := S512x256) ![0, 0] S512x256.size inb_S512x256_S512x256_0_0).toLoadRect f)⟩] := by
  unfold tripL_k0_t1 trip_k0_t1
  rfl

/-- The block's contents before trip `k`. -/
theorem read_loop1 (sc : FVec F S512x1 .f32) (xb : FVec F S512x3072 .bf16) (s0 s1 s2 s3 : BitVec 32) (hw : k0_chk1 i s0 s1 s2 s3) (init : BitVec 32)
    (X1 : BufTy.Contents (Elt F) arg1.view.ty) (x2 : Vec F S5x3072x256 .bf16) (x3 : Vec F S5x256 .f32)
    (G : BufTy.Contents (Elt F) arg7.view.ty) (d : Vec F S512x256 .bf16)
    (h0 : word arg1 X1 0 inb_S5_S1_0 = s0) (h1 : word arg1 X1 1 inb_S5_S1_1 = s1) (h2 : word arg1 X1 2 inb_S5_S1_2 = s2) (h3 : word arg1 X1 3 inb_S5_S1_3 = s3)
    (hG : arg7.view.read (Elt F) G = d) :
    ∀ k : ℕ, k ≤ (k0_t1_loop i s0 s1 s2 s3).trips →
      arg7.view.read (Elt F) (arg7.view.writes (Elt F) G (st_k0_t1 (F := F) 𝒱 c bd i arg1 harg1 arg2 harg2 arg3 harg3 arg4 harg4 arg5 harg5 arg6 harg6 arg7 harg7
        sc xb (row0 i) s0 s1 s2 (sum3 s0 s1 s2) (cnt3 i s0 s1 s2) s3 hw X1 (harg3.unread x2) (harg4.unread x3) G init k).2) = gl i s0 s1 s2 s3 sc xb x2 x3 d k
  | 0, _ => hG
  | k + 1, hk => by
    have ih := read_loop1 sc xb s0 s1 s2 s3 hw init X1 x2 x3 G d h0 h1 h2 h3 hG k (by omega)
    have e := st_k0_t1_succ (F := F) 𝒱 c bd i arg1 harg1 arg2 harg2 arg3 harg3 arg4 harg4 arg5 harg5 arg6 harg6 arg7 harg7
        sc xb (row0 i) s0 s1 s2 (sum3 s0 s1 s2) (cnt3 i s0 s1 s2) s3 hw X1 (harg3.unread x2) (harg4.unread x3) G init ⟨k, hk⟩
    dsimp only at e
    rw [e, tripL_eq, h0, h1, h2, h3]
    show arg7.view.read (Elt F) (arg7.view.writes (Elt F) _ (_ :: _)) = _
    rw [View.read_writes_full, View.readAt_eq_ld, View.readAt_eq_ld, View.readAt_eq_ld, harg3.read_unread, harg4.read_unread, ih,
      View.ld_unit_zero (S := S512x256) hz]
    conv_rhs => rw [gl, dif_pos (show k < (k0_t1_loop i s0 s1 s2 s3).trips from hk)]

/-- What the stores to the codes' block leave there. -/
theorem left_codes (x1 : Vec F S512x3072 .bf16) (f : BufTy.Contents (Elt F) arg5.view.ty) :
    arg5.view.read (Elt F) (arg5.view.writes (Elt F) f [⟨Rect.unit (s := S512x3072) ![0, 0] S512x3072.size inb_S512x3072_S512x3072_0_0,
      k0_pay8 (k0_pay7 (arg2.view.readAt (Elt F) (Rect.unit (s := S512x3072) ![0, 0] S512x3072.size inb_S512x3072_S512x3072_0_0).toLoadRect (harg2.unread x1)))⟩]) = k0_pay8 (k0_pay7 x1) := by
  rw [View.read_writes_full, View.readAt_eq_ld, harg2.read_unread, View.ld_unit_zero (S := S512x3072) hz]

/-- What the stores to the scales' block leave there. -/
theorem left_scale (x1 : Vec F S512x3072 .bf16) (f : BufTy.Contents (Elt F) arg6.view.ty) :
    arg6.view.read (Elt F) (arg6.view.writes (Elt F) f [⟨Rect.unit (s := S512x128) ![0, 0] S512x128.size inb_S512x128_S512x128_0_0,
      k0_pay9 (k0_pay6 (arg2.view.readAt (Elt F) (Rect.unit (s := S512x3072) ![0, 0] S512x3072.size inb_S512x3072_S512x3072_0_0).toLoadRect (harg2.unread x1)))⟩]) = k0_pay9 (k0_pay6 x1) := by
  rw [View.read_writes_full, View.readAt_eq_ld, harg2.read_unread, View.ld_unit_zero (S := S512x3072) hz]

/-- What the two loops leave in the block of `g`; the second never runs. -/
theorem left_g (x0 : Vec F S5 .i32) (x1 : Vec F S512x3072 .bf16) (x2 : Vec F S5x3072x256 .bf16) (x3 : Vec F S5x256 .f32) (d6 : Vec F S512x256 .bf16)
    (f6 : BufTy.Contents (Elt F) arg7.view.ty) (hf6 : arg7.view.read (Elt F) f6 = d6)
    (hw : k0_chk1 i (word arg1 (harg1.unread x0) 0 inb_S5_S1_0) (word arg1 (harg1.unread x0) 1 inb_S5_S1_1) (word arg1 (harg1.unread x0) 2 inb_S5_S1_2) (word arg1 (harg1.unread x0) 3 inb_S5_S1_3))
    (v73 : BitVec 32) (v81 : BitVec 1) (G : BufTy.Contents (Elt F) arg7.view.ty) (init : BitVec 32) :
    arg7.view.read (Elt F) (arg7.view.writes (Elt F) f6
      ((st_k0_t2 (F := F) Variants.none c none i arg1 harg1 arg2 harg2 arg3 harg3 arg4 harg4 arg5 harg5 arg6 harg6 arg7 harg7
          (k0_pay6 (arg2.view.readAt (Elt F) (Rect.unit (s := S512x3072) ![0, 0] S512x3072.size inb_S512x3072_S512x3072_0_0).toLoadRect (harg2.unread x1))) (k0_pay10 (k0_pay7 (arg2.view.readAt (Elt F) (Rect.unit (s := S512x3072) ![0, 0] S512x3072.size inb_S512x3072_S512x3072_0_0).toLoadRect (harg2.unread x1))))
          (row0 i) (word arg1 (harg1.unread x0) 0 inb_S5_S1_0) (word arg1 (harg1.unread x0) 1 inb_S5_S1_1) v73 (word arg1 (harg1.unread x0) 2 inb_S5_S1_2) (sum3 (word arg1 (harg1.unread x0) 0 inb_S5_S1_0) (word arg1 (harg1.unread x0) 1 inb_S5_S1_1) (word arg1 (harg1.unread x0) 2 inb_S5_S1_2)) (cnt3 i (word arg1 (harg1.unread x0) 0 inb_S5_S1_0) (word arg1 (harg1.unread x0) 1 inb_S5_S1_1) (word arg1 (harg1.unread x0) 2 inb_S5_S1_2)) v81 (word arg1 (harg1.unread x0) 3 inb_S5_S1_3) hw
          (harg1.unread x0) (harg3.unread x2) (harg4.unread x3) G init (k0_t2_loop i (word arg1 (harg1.unread x0) 0 inb_S5_S1_0) (word arg1 (harg1.unread x0) 1 inb_S5_S1_1) (word arg1 (harg1.unread x0) 2 inb_S5_S1_2) (word arg1 (harg1.unread x0) 3 inb_S5_S1_3)).trips).2
      ++ (st_k0_t1 (F := F) Variants.none c none i arg1 harg1 arg2 harg2 arg3 harg3 arg4 harg4 arg5 harg5 arg6 harg6 arg7 harg7
          (k0_pay6 (arg2.view.readAt (Elt F) (Rect.unit (s := S512x3072) ![0, 0] S512x3072.size inb_S512x3072_S512x3072_0_0).toLoadRect (harg2.unread x1))) (k0_pay10 (k0_pay7 (arg2.view.readAt (Elt F) (Rect.unit (s := S512x3072) ![0, 0] S512x3072.size inb_S512x3072_S512x3072_0_0).toLoadRect (harg2.unread x1))))
          (row0 i) (word arg1 (harg1.unread x0) 0 inb_S5_S1_0) (word arg1 (harg1.unread x0) 1 inb_S5_S1_1) (word arg1 (harg1.unread x0) 2 inb_S5_S1_2) (sum3 (word arg1 (harg1.unread x0) 0 inb_S5_S1_0) (word arg1 (harg1.unread x0) 1 inb_S5_S1_1) (word arg1 (harg1.unread x0) 2 inb_S5_S1_2)) (cnt3 i (word arg1 (harg1.unread x0) 0 inb_S5_S1_0) (word arg1 (harg1.unread x0) 1 inb_S5_S1_1) (word arg1 (harg1.unread x0) 2 inb_S5_S1_2)) (word arg1 (harg1.unread x0) 3 inb_S5_S1_3) hw
          (harg1.unread x0) (harg3.unread x2) (harg4.unread x3) f6 0#32 (k0_t1_loop i (word arg1 (harg1.unread x0) 0 inb_S5_S1_0) (word arg1 (harg1.unread x0) 1 inb_S5_S1_1) (word arg1 (harg1.unread x0) 2 inb_S5_S1_2) (word arg1 (harg1.unread x0) 3 inb_S5_S1_3)).trips).2))
      = gfin i x0 x1 x2 x3 d6 := by
  have e0 := word_unread (F := F) arg1 harg1 x0 0 (by omega) inb_S5_S1_0
  have e1 := word_unread (F := F) arg1 harg1 x0 1 (by omega) inb_S5_S1_1
  have e2 := word_unread (F := F) arg1 harg1 x0 2 (by omega) inb_S5_S1_2
  have e3 := word_unread (F := F) arg1 harg1 x0 3 (by omega) inb_S5_S1_3
  rw [trips2]
  show arg7.view.read (Elt F) (arg7.view.writes (Elt F) f6 ([] ++ _)) = _
  rw [List.nil_append, read_loop1 (F := F) Variants.none c none i arg1 harg1 arg2 harg2 arg3 harg3 arg4 harg4 arg5 harg5 arg6 harg6 arg7 harg7 _ _ _ _ _ _ hw _ _ x2 x3 f6 d6 rfl rfl rfl rfl hf6 _ le_rfl,
    View.readAt_eq_ld, harg2.read_unread, View.ld_unit_zero (S := S512x3072) hz, e0, e1, e2, e3]
  rfl

end Trips

/-! ## One run of the body -/

set_option maxHeartbeats 400000 in
/-- The body on whole staging memrefs: the inputs stay, the codes' and the scales' blocks are left at their functions of the
    activations' block, and the block of `g` at what the loop makes of its contents. -/
theorem body (c : Dev nD) (i : grid0.Coords) (arg1 : Memref sig .tc .smem S5 .i32) (harg1 : arg1.IsWhole) (arg2 : Memref sig .tc .vmem S512x3072 .bf16) (harg2 : arg2.IsWhole) (arg3 : Memref sig .tc .vmem S5x3072x256 .bf16) (harg3 : arg3.IsWhole) (arg4 : Memref sig .tc .vmem S5x256 .f32) (harg4 : arg4.IsWhole) (arg5 : Memref sig .tc .vmem S512x3072 .fp8e4m3) (harg5 : arg5.IsWhole) (arg6 : Memref sig .tc .vmem S512x128 .f32) (harg6 : arg6.IsWhole) (arg7 : Memref sig .tc .vmem S512x256 .bf16) (harg7 : arg7.IsWhole)
    (x0 : Vec F S5 .i32) (x1 : Vec F S512x3072 .bf16) (x2 : Vec F S5x3072x256 .bf16) (x3 : Vec F S5x256 .f32) (d6 : Vec F S512x256 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare d6
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k0_pay8 (k0_pay7 x1)) ∗ owns (c : Thread nD τ) arg6 fullShare (k0_pay9 (k0_pay6 x1)) ∗ owns (c : Thread nD τ) arg7 fullShare (gfin i x0 x1 x2 x3 d6)) -∗ K ⟨⟩))
          ⊢ wp frame (wpE (defs₀ (F := F)) Variants.none c none) E (cc0_quant_h i arg1 harg1 arg2 harg2 arg3 harg3 arg4 harg4 arg5 harg5 arg6 harg6 arg7 harg7) K := by
    intro E K
    simp only [cc0_quant_h_eq_skeleton]; unfold cc0_quant_h_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, Hk⟩
    obtain rfl := harg1.eq_unread hf0; obtain rfl := harg2.eq_unread hf1; obtain rfl := harg3.eq_unread hf2; obtain rfl := harg4.eq_unread hf3
    have k0_hw1 := chk i (word arg1 (harg1.unread x0) 0 inb_S5_S1_0) (word arg1 (harg1.unread x0) 1 inb_S5_S1_1) (word arg1 (harg1.unread x0) 2 inb_S5_S1_2) (word arg1 (harg1.unread x0) 3 inb_S5_S1_3)
    sl_exec (disch := first | sl_exact k0_hw1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      exact left_codes arg2 harg2 arg5 x1 _
    isplitl [H5]
    · iexists _; isplitr; swap; · iexact H5
      ipureintro
      exact left_scale arg2 harg2 arg6 x1 _
    iexists _; isplitr; swap; · iexact H6
    ipureintro
    exact left_g c i arg1 harg1 arg2 harg2 arg3 harg3 arg4 harg4 arg5 harg5 arg6 harg6 arg7 harg7 x0 x1 x2 x3 d6 f6 hf6 k0_hw1 _ _ _ _

variable (m : (ℓ : Loc nD τ sig) → Buf (Elt F) ℓ) (ρ : Dev nD → PrngReg)

/-- Each window's current staging memref at point `t`, spelled as the pipeline passes it (`bodyAt0`), and its wholeness. -/
abbrev ms0_0 (t : Fin cfg0.N) : Memref sig .tc .smem S5 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x3072 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S5x3072x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S5x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x3072 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x256 .bf16 := win0_6.stage (cfg0.slots t 6)
abbrev hs0_6 (t : Fin cfg0.N) : (ms0_6 t).IsWhole := hstage0_6 ((cfg0.slots t 6).cast nbuf0_6)

/-- The argument arrays after a run of which the outputs' contents are forgotten. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      (Pipeline.RDat.FramePost.arr_in h c 2 rfl).trans ((hA c 2).trans (V_main_arg2 m c)),
      (Pipeline.RDat.FramePost.arr_in h c 3 rfl).trans ((hA c 3).trans (V_main_arg3 m c))⟩) h

/-! ## The pipeline's proof data -/

/-- The output windows this certificate FORGETS (4, 5, 6): nothing reads what the kernel leaves in them, so nothing
    of it is named (Lib/Pipeline/Dat.lean `Dat.toRForget`). -/
def forgets0 : Fin 7 → Bool := fun w => w.val == 4 || w.val == 5 || w.val == 6

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d)
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare d)
    ∗ (∃ d, owns (c : Thread nD τ) (ms0_5 t) fullShare d)
    ∗ (∃ d, owns (c : Thread nD τ) (ms0_6 t) fullShare d))

/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((body c (grid0.coords t) _ _ _ _ _ _ _ _ _ _ _ _ _ _ (iblk m c 0 t) (iblk m c 1 t) (iblk m c 2 t) (iblk m c 3 t) d6) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexists _; iexact H4
  isplitl [H5]; · iexists _; iexact H5
  iexists _; iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 4, 5, 6) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (fun c => (dats m 0 c).toRForget forgets0) (A_eq m) (run_main m ρ)

/-- The frame: for any arguments every execution ends, with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.QuantKernel.Quant

end
-- ==== Proof.QuantRunIdeal.lean ====
/-
  The quantiser's kernel on one row block.  It reads off the tenants' sizes the first and the last tenant meeting the block,
  and whatever the sizes are these words keep every index in range.  One run of the body leaves in the codes' block and in
  the scales' block functions of the activations' block alone, and in the block of `g` what a loop over those tenants makes
  of the contents it found there.  With nothing stated of the results, this gives the call's frame for any arguments.
-/
module

public import proofs.«01_k».proof.Proof.Words
public import proofs.«01_k».proof.Proof.Gen.QuantKernelIdeal.Frame
public import proofs.«01_k».proof.Proof.Gen.QuantKernelIdeal.Skeleton
public import proofs.«01_k».proof.Proof.Gen.QuantKernelIdeal.Loops
public import Idealize.ShloMosaic.Lib.Tactic
public import Idealize.ShloMosaic.Lib.VecWindow
public import Idealize.ShloMosaic.Lib.Pointwise
public import Idealize.ShloMosaic.Lib.Claim

@[expose] public section

set_option maxRecDepth 16384

noncomputable section

namespace Cert.QuantKernelIdeal.Quant

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.QuantKernelIdeal Cert.QuantKernelIdeal.Gen

/-! ## The words -/

/-- The first row of the block at grid point `i`, and its last row. -/
abbrev row0 (i : grid0.Coords) : BitVec 32 := Scalar.muli (BitVec.ofNat 32 (i 0).val) 512#32
abbrev rowL (i : grid0.Coords) : BitVec 32 := Scalar.subi (Scalar.addi (row0 i) 512#32) 1#32

/-- The first tenant meeting the block, and the last. -/
abbrev first (i : grid0.Coords) (s0 s1 s2 s3 : BitVec 32) : BitVec 32 := Words.count s0 s1 s2 s3 (row0 i)
abbrev last (i : grid0.Coords) (s0 s1 s2 s3 : BitVec 32) : BitVec 32 := Words.count s0 s1 s2 s3 (rowL i)

theorem loopA_eq (i : grid0.Coords) (s0 s1 s2 s3 : BitVec 32) :
    k0_t1_loop i s0 s1 s2 s3 = Words.loopA (first i s0 s1 s2 s3) (last i s0 s1 s2 s3) := rfl
theorem loopB_eq (i : grid0.Coords) (s0 s1 s2 s3 : BitVec 32) :
    k0_t2_loop i s0 s1 s2 s3 = Words.loopB (first i s0 s1 s2 s3) (last i s0 s1 s2 s3) := rfl
theorem off1_eq (i : grid0.Coords) (s0 s1 s2 s3 : BitVec 32) (k : Fin (k0_t1_loop i s0 s1 s2 s3).trips) :
    k0_off1 i s0 s1 s2 s3 k = ![(Scf.iv (first i s0 s1 s2 s3) 1#32 k.val).toNat, 0, 0] := rfl
theorem off2_eq (i : grid0.Coords) (s0 s1 s2 s3 : BitVec 32) (k : Fin (k0_t1_loop i s0 s1 s2 s3).trips) :
    k0_off2 i s0 s1 s2 s3 k = ![(Scf.iv (first i s0 s1 s2 s3) 1#32 k.val).toNat, 0] := rfl

theorem trips1 (i : grid0.Coords) (s0 s1 s2 s3 : BitVec 32) : (k0_t1_loop i s0 s1 s2 s3).trips
    = (last i s0 s1 s2 s3).toNat + 1 - (first i s0 s1 s2 s3).toNat :=
  (Words.loopsAB _ _ (Words.count_le ..) (Words.count_le ..)).2.2.1
theorem trips2 (i : grid0.Coords) (s0 s1 s2 s3 : BitVec 32) : (k0_t2_loop i s0 s1 s2 s3).trips = 0 :=
  (Words.loopsAB _ _ (Words.count_le ..) (Words.count_le ..)).2.2.2.1
theorem iv1 (i : grid0.Coords) (s0 s1 s2 s3 : BitVec 32) (k : ℕ)
    (hk : k < (last i s0 s1 s2 s3).toNat + 1 - (first i s0 s1 s2 s3).toNat) :
    (Scf.iv (first i s0 s1 s2 s3) 1#32 k).toNat = (first i s0 s1 s2 s3).toNat + k :=
  (Words.loopsAB _ _ (Words.count_le ..) (Words.count_le ..)).2.2.2.2 k hk

theorem inb3 (n : ℕ) (h : n ≤ 4) : ∀ a, (![n, 0, 0] : Fin 3 → ℕ) a + S1x3072x256.size a ≤ S5x3072x256.size a := by
  intro a
  fin_cases a
  · show n + 1 ≤ 5; omega
  · show 0 + 3072 ≤ 3072; omega
  · show 0 + 256 ≤ 256; omega

theorem inb2 (n : ℕ) (h : n ≤ 4) : ∀ a, (![n, 0] : Fin 2 → ℕ) a + S1x256.size a ≤ S5x256.size a := by
  intro a
  fin_cases a
  · show n + 1 ≤ 5; omega
  · show 0 + 256 ≤ 256; omega

/-- The kernel's side condition holds for every four words. -/
theorem chk (i : grid0.Coords) (s0 s1 s2 s3 : BitVec 32) : k0_chk1 i s0 s1 s2 s3 := by
  have hf : (first i s0 s1 s2 s3).toNat ≤ 4 := Words.count_le ..
  have hl : (last i s0 s1 s2 s3).toNat ≤ 4 := Words.count_le ..
  have h := Words.loopsAB _ _ hf hl
  have hk : ∀ k : Fin (k0_t1_loop i s0 s1 s2 s3).trips, (Scf.iv (first i s0 s1 s2 s3) 1#32 k.val).toNat ≤ 4 := fun k => by
    have hk := lt_of_lt_of_eq k.isLt (trips1 i s0 s1 s2 s3)
    rw [iv1 i s0 s1 s2 s3 k.val hk]
    omega
  refine ⟨h.1, fun k => ?_, fun k => ?_, h.2.1, fun k => ?_, fun k => ?_⟩
  · rw [off1_eq]; exact inb3 _ (hk k)
  · rw [off2_eq]; exact inb2 _ (hk k)
  · exact absurd (lt_of_lt_of_eq k.isLt (trips2 i s0 s1 s2 s3)) (Nat.not_lt_zero _)
  · exact absurd (lt_of_lt_of_eq k.isLt (trips2 i s0 s1 s2 s3)) (Nat.not_lt_zero _)

variable {F : FTy → Type} [FloatOps F]

local notation "𝕄" => MT nD τ sig Unit (Elt F) ℕ (UR sig nD τ) ℕ

/-! ## The loop over tenants -/

theorem hz : (![0, 0] : Fin 2 → Nat) = fun _ => 0 := funext fun a => by fin_cases a <;> rfl

/-- The running sum and the running count the loop's payload is stated over. -/
abbrev sum3 (s0 s1 s2 : BitVec 32) : BitVec 32 := Scalar.addi (Scalar.addi (Scalar.addi 0#32 s0) s1) s2
abbrev cnt3 (i : grid0.Coords) (s0 s1 s2 : BitVec 32) : BitVec 32 :=
  Scalar.addi (Scalar.addi (Scalar.addi 0#32 (Words.endsBy (Scalar.addi 0#32 s0) (row0 i)))
    (Words.endsBy (Scalar.addi (Scalar.addi 0#32 s0) s1) (row0 i))) (Words.endsBy (sum3 s0 s1 s2) (row0 i))

/-- The block of `g` before trip `k`, from contents `d`. -/
def gl (i : grid0.Coords) (s0 s1 s2 s3 : BitVec 32) (sc : FVec F S512x1 .f32) (xb : FVec F S512x3072 .bf16)
    (x2 : Vec F S5x3072x256 .bf16) (x3 : Vec F S5x256 .f32) (d : Vec F S512x256 .bf16) : ℕ → Vec F S512x256 .bf16
  | 0 => d
  | k + 1 => if h : k < (k0_t1_loop i s0 s1 s2 s3).trips then
      k0_pay2 (F := F) i sc xb (row0 i) s0 s1 s2 (sum3 s0 s1 s2) (cnt3 i s0 s1 s2) s3 ⟨k, h⟩
        (View.ld x2 (Rect.unit (s := S5x3072x256) (k0_off1 i s0 s1 s2 s3 ⟨k, h⟩) S1x3072x256.size (k0_off1_inb i s0 s1 s2 s3 (chk i s0 s1 s2 s3) ⟨k, h⟩)))
        (View.ld x3 (Rect.unit (s := S5x256) (k0_off2 i s0 s1 s2 s3 ⟨k, h⟩) S1x256.size (k0_off2_inb i s0 s1 s2 s3 (chk i s0 s1 s2 s3) ⟨k, h⟩)))
        s0 s1 s2 s3 (gl i s0 s1 s2 s3 sc xb x2 x3 d k)
      else gl i s0 s1 s2 s3 sc xb x2 x3 d k

/-- The block of `g` the body leaves, of the sizes, the activations' block, the factors, the scales and the contents found. -/
def gfin (i : grid0.Coords) (x0 : Vec F S5 .i32) (x1 : Vec F S512x3072 .bf16) (x2 : Vec F S5x3072x256 .bf16) (x3 : Vec F S5x256 .f32)
    (d : Vec F S512x256 .bf16) : Vec F S512x256 .bf16 :=
  gl i (x0 (ix1 0)) (x0 (ix1 1)) (x0 (ix1 2)) (x0 (ix1 3)) (k0_pay6 x1) (k0_pay10 (k0_pay7 x1)) x2 x3 d
    (k0_t1_loop i (x0 (ix1 0)) (x0 (ix1 1)) (x0 (ix1 2)) (x0 (ix1 3))).trips

section Trips

variable (𝒱 : Variants) (c : Dev nD) (bd : Option 𝒱.V) (i : grid0.Coords) (arg1 : Memref sig .tc .smem S5 .i32) (harg1 : arg1.IsWhole) (arg2 : Memref sig .tc .vmem S512x3072 .bf16) (harg2 : arg2.IsWhole) (arg3 : Memref sig .tc .vmem S5x3072x256 .bf16) (harg3 : arg3.IsWhole) (arg4 : Memref sig .tc .vmem S5x256 .f32) (harg4 : arg4.IsWhole) (arg5 : Memref sig .tc .vmem S512x3072 .fp8e4m3) (harg5 : arg5.IsWhole) (arg6 : Memref sig .tc .vmem S512x128 .f32) (harg6 : arg6.IsWhole) (arg7 : Memref sig .tc .vmem S512x256 .bf16) (harg7 : arg7.IsWhole)

/-- The word of `arg1` at position `n`. -/
abbrev word (arg1 : Memref sig .tc .smem S5 .i32) (X : BufTy.Contents (Elt F) arg1.view.ty) (n : ℕ) (h : ∀ a, (![n] : Fin 1 → ℕ) a + S1.size a ≤ S5.size a) :
    BitVec 32 :=
  arg1.view.readAt (Elt F) (Rect.unit (s := S5) ![n] S1.size h).toLoadRect X (Shape.Idx.first (numel1_S1.symm ▸ Nat.one_pos))

/-- Reading a word of a buffer that holds `x`. -/
theorem word_unread (x : Vec F S5 .i32) (n : ℕ) (hn : n < 5) (h) : word arg1 (harg1.unread x) n h = x (ix1 ⟨n, hn⟩) := by
  show arg1.view.readAt (Elt F) _ _ _ = _
  rw [View.readAt_eq_ld, harg1.read_unread]
  show x _ = x _
  congr 1
  funext a
  fin_cases a
  exact Fin.ext (by show n + 1 * 0 = n; omega)

/-- One trip of the first loop writes the whole block once. -/
theorem tripL_eq (sc : FVec F S512x1 .f32) (xb : FVec F S512x3072 .bf16) (v53 : BitVec 32) (v54 v64 v74 : Elt F .i32) (v75 v78 : BitVec 32) (v84 : Elt F .i32) (hw : k0_chk1 i v54 v64 v74 v84)
    (X1 : BufTy.Contents (Elt F) arg1.view.ty) (X3 : BufTy.Contents (Elt F) arg3.view.ty) (X4 : BufTy.Contents (Elt F) arg4.view.ty)
    (k : Fin (k0_t1_loop i v54 v64 v74 v84).trips) (a : BitVec 32) (f : BufTy.Contents (Elt F) arg7.view.ty) :
    tripL_k0_t1 (F := F) 𝒱 c bd i arg1 harg1 arg2 harg2 arg3 harg3 arg4 harg4 arg5 harg5 arg6 harg6 arg7 harg7
      sc xb v53 v54 v64 v74 v75 v78 v84 hw X1 X3 X4 k a f
    = [⟨Rect.unit (s := S512x256) ![0, 0] S512x256.size inb_S512x256_S512x256_0_0,
        k0_pay2 i sc xb v53 v54 v64 v74 v75 v78 v84 k
          (arg3.view.readAt (Elt F) (Rect.unit (s := S5x3072x256) (k0_off1 i v54 v64 v74 v84 k) S1x3072x256.size (k0_off1_inb i v54 v64 v74 v84 hw k)).toLoadRect X3)
          (arg4.view.readAt (Elt F) (Rect.unit (s := S5x256) (k0_off2 i v54 v64 v74 v84 k) S1x256.size (k0_off2_inb i v54 v64 v74 v84 hw k)).toLoadRect X4)
          (word arg1 X1 0 inb_S5_S1_0) (word arg1 X1 1 inb_S5_S1_1) (word arg1 X1 2 inb_S5_S1_2) (word arg1 X1 3 inb_S5_S1_3)
          (arg7.view.readAt (Elt F) (Rect.unit (s := S512x256) ![0, 0] S512x256.size inb_S512x256_S512x256_0_0).toLoadRect f)⟩] := by
  unfold tripL_k0_t1 trip_k0_t1
  rfl

/-- The block's contents before trip `k`. -/
theorem read_loop1 (sc : FVec F S512x1 .f32) (xb : FVec F S512x3072 .bf16) (s0 s1 s2 s3 : BitVec 32) (hw : k0_chk1 i s0 s1 s2 s3) (init : BitVec 32)
    (X1 : BufTy.Contents (Elt F) arg1.view.ty) (x2 : Vec F S5x3072x256 .bf16) (x3 : Vec F S5x256 .f32)
    (G : BufTy.Contents (Elt F) arg7.view.ty) (d : Vec F S512x256 .bf16)
    (h0 : word arg1 X1 0 inb_S5_S1_0 = s0) (h1 : word arg1 X1 1 inb_S5_S1_1 = s1) (h2 : word arg1 X1 2 inb_S5_S1_2 = s2) (h3 : word arg1 X1 3 inb_S5_S1_3 = s3)
    (hG : arg7.view.read (Elt F) G = d) :
    ∀ k : ℕ, k ≤ (k0_t1_loop i s0 s1 s2 s3).trips →
      arg7.view.read (Elt F) (arg7.view.writes (Elt F) G (st_k0_t1 (F := F) 𝒱 c bd i arg1 harg1 arg2 harg2 arg3 harg3 arg4 harg4 arg5 harg5 arg6 harg6 arg7 harg7
        sc xb (row0 i) s0 s1 s2 (sum3 s0 s1 s2) (cnt3 i s0 s1 s2) s3 hw X1 (harg3.unread x2) (harg4.unread x3) G init k).2) = gl i s0 s1 s2 s3 sc xb x2 x3 d k
  | 0, _ => hG
  | k + 1, hk => by
    have ih := read_loop1 sc xb s0 s1 s2 s3 hw init X1 x2 x3 G d h0 h1 h2 h3 hG k (by omega)
    have e := st_k0_t1_succ (F := F) 𝒱 c bd i arg1 harg1 arg2 harg2 arg3 harg3 arg4 harg4 arg5 harg5 arg6 harg6 arg7 harg7
        sc xb (row0 i) s0 s1 s2 (sum3 s0 s1 s2) (cnt3 i s0 s1 s2) s3 hw X1 (harg3.unread x2) (harg4.unread x3) G init ⟨k, hk⟩
    dsimp only at e
    rw [e, tripL_eq, h0, h1, h2, h3]
    show arg7.view.read (Elt F) (arg7.view.writes (Elt F) _ (_ :: _)) = _
    rw [View.read_writes_full, View.readAt_eq_ld, View.readAt_eq_ld, View.readAt_eq_ld, harg3.read_unread, harg4.read_unread, ih,
      View.ld_unit_zero (S := S512x256) hz]
    conv_rhs => rw [gl, dif_pos (show k < (k0_t1_loop i s0 s1 s2 s3).trips from hk)]

/-- What the stores to the codes' block leave there. -/
theorem left_codes (x1 : Vec F S512x3072 .bf16) (f : BufTy.Contents (Elt F) arg5.view.ty) :
    arg5.view.read (Elt F) (arg5.view.writes (Elt F) f [⟨Rect.unit (s := S512x3072) ![0, 0] S512x3072.size inb_S512x3072_S512x3072_0_0,
      k0_pay8 (k0_pay7 (arg2.view.readAt (Elt F) (Rect.unit (s := S512x3072) ![0, 0] S512x3072.size inb_S512x3072_S512x3072_0_0).toLoadRect (harg2.unread x1)))⟩]) = k0_pay8 (k0_pay7 x1) := by
  rw [View.read_writes_full, View.readAt_eq_ld, harg2.read_unread, View.ld_unit_zero (S := S512x3072) hz]

/-- What the stores to the scales' block leave there. -/
theorem left_scale (x1 : Vec F S512x3072 .bf16) (f : BufTy.Contents (Elt F) arg6.view.ty) :
    arg6.view.read (Elt F) (arg6.view.writes (Elt F) f [⟨Rect.unit (s := S512x128) ![0, 0] S512x128.size inb_S512x128_S512x128_0_0,
      k0_pay9 (k0_pay6 (arg2.view.readAt (Elt F) (Rect.unit (s := S512x3072) ![0, 0] S512x3072.size inb_S512x3072_S512x3072_0_0).toLoadRect (harg2.unread x1)))⟩]) = k0_pay9 (k0_pay6 x1) := by
  rw [View.read_writes_full, View.readAt_eq_ld, harg2.read_unread, View.ld_unit_zero (S := S512x3072) hz]

/-- What the two loops leave in the block of `g`; the second never runs. -/
theorem left_g (x0 : Vec F S5 .i32) (x1 : Vec F S512x3072 .bf16) (x2 : Vec F S5x3072x256 .bf16) (x3 : Vec F S5x256 .f32) (d6 : Vec F S512x256 .bf16)
    (f6 : BufTy.Contents (Elt F) arg7.view.ty) (hf6 : arg7.view.read (Elt F) f6 = d6)
    (hw : k0_chk1 i (word arg1 (harg1.unread x0) 0 inb_S5_S1_0) (word arg1 (harg1.unread x0) 1 inb_S5_S1_1) (word arg1 (harg1.unread x0) 2 inb_S5_S1_2) (word arg1 (harg1.unread x0) 3 inb_S5_S1_3))
    (v73 : BitVec 32) (v81 : BitVec 1) (G : BufTy.Contents (Elt F) arg7.view.ty) (init : BitVec 32) :
    arg7.view.read (Elt F) (arg7.view.writes (Elt F) f6
      ((st_k0_t2 (F := F) Variants.none c none i arg1 harg1 arg2 harg2 arg3 harg3 arg4 harg4 arg5 harg5 arg6 harg6 arg7 harg7
          (k0_pay6 (arg2.view.readAt (Elt F) (Rect.unit (s := S512x3072) ![0, 0] S512x3072.size inb_S512x3072_S512x3072_0_0).toLoadRect (harg2.unread x1))) (k0_pay10 (k0_pay7 (arg2.view.readAt (Elt F) (Rect.unit (s := S512x3072) ![0, 0] S512x3072.size inb_S512x3072_S512x3072_0_0).toLoadRect (harg2.unread x1))))
          (row0 i) (word arg1 (harg1.unread x0) 0 inb_S5_S1_0) (word arg1 (harg1.unread x0) 1 inb_S5_S1_1) v73 (word arg1 (harg1.unread x0) 2 inb_S5_S1_2) (sum3 (word arg1 (harg1.unread x0) 0 inb_S5_S1_0) (word arg1 (harg1.unread x0) 1 inb_S5_S1_1) (word arg1 (harg1.unread x0) 2 inb_S5_S1_2)) (cnt3 i (word arg1 (harg1.unread x0) 0 inb_S5_S1_0) (word arg1 (harg1.unread x0) 1 inb_S5_S1_1) (word arg1 (harg1.unread x0) 2 inb_S5_S1_2)) v81 (word arg1 (harg1.unread x0) 3 inb_S5_S1_3) hw
          (harg1.unread x0) (harg3.unread x2) (harg4.unread x3) G init (k0_t2_loop i (word arg1 (harg1.unread x0) 0 inb_S5_S1_0) (word arg1 (harg1.unread x0) 1 inb_S5_S1_1) (word arg1 (harg1.unread x0) 2 inb_S5_S1_2) (word arg1 (harg1.unread x0) 3 inb_S5_S1_3)).trips).2
      ++ (st_k0_t1 (F := F) Variants.none c none i arg1 harg1 arg2 harg2 arg3 harg3 arg4 harg4 arg5 harg5 arg6 harg6 arg7 harg7
          (k0_pay6 (arg2.view.readAt (Elt F) (Rect.unit (s := S512x3072) ![0, 0] S512x3072.size inb_S512x3072_S512x3072_0_0).toLoadRect (harg2.unread x1))) (k0_pay10 (k0_pay7 (arg2.view.readAt (Elt F) (Rect.unit (s := S512x3072) ![0, 0] S512x3072.size inb_S512x3072_S512x3072_0_0).toLoadRect (harg2.unread x1))))
          (row0 i) (word arg1 (harg1.unread x0) 0 inb_S5_S1_0) (word arg1 (harg1.unread x0) 1 inb_S5_S1_1) (word arg1 (harg1.unread x0) 2 inb_S5_S1_2) (sum3 (word arg1 (harg1.unread x0) 0 inb_S5_S1_0) (word arg1 (harg1.unread x0) 1 inb_S5_S1_1) (word arg1 (harg1.unread x0) 2 inb_S5_S1_2)) (cnt3 i (word arg1 (harg1.unread x0) 0 inb_S5_S1_0) (word arg1 (harg1.unread x0) 1 inb_S5_S1_1) (word arg1 (harg1.unread x0) 2 inb_S5_S1_2)) (word arg1 (harg1.unread x0) 3 inb_S5_S1_3) hw
          (harg1.unread x0) (harg3.unread x2) (harg4.unread x3) f6 0#32 (k0_t1_loop i (word arg1 (harg1.unread x0) 0 inb_S5_S1_0) (word arg1 (harg1.unread x0) 1 inb_S5_S1_1) (word arg1 (harg1.unread x0) 2 inb_S5_S1_2) (word arg1 (harg1.unread x0) 3 inb_S5_S1_3)).trips).2))
      = gfin i x0 x1 x2 x3 d6 := by
  have e0 := word_unread (F := F) arg1 harg1 x0 0 (by omega) inb_S5_S1_0
  have e1 := word_unread (F := F) arg1 harg1 x0 1 (by omega) inb_S5_S1_1
  have e2 := word_unread (F := F) arg1 harg1 x0 2 (by omega) inb_S5_S1_2
  have e3 := word_unread (F := F) arg1 harg1 x0 3 (by omega) inb_S5_S1_3
  rw [trips2]
  show arg7.view.read (Elt F) (arg7.view.writes (Elt F) f6 ([] ++ _)) = _
  rw [List.nil_append, read_loop1 (F := F) Variants.none c none i arg1 harg1 arg2 harg2 arg3 harg3 arg4 harg4 arg5 harg5 arg6 harg6 arg7 harg7 _ _ _ _ _ _ hw _ _ x2 x3 f6 d6 rfl rfl rfl rfl hf6 _ le_rfl,
    View.readAt_eq_ld, harg2.read_unread, View.ld_unit_zero (S := S512x3072) hz, e0, e1, e2, e3]
  rfl

end Trips

/-! ## One run of the body -/

set_option maxHeartbeats 400000 in
/-- The body on whole staging memrefs: the inputs stay, the codes' and the scales' blocks are left at their functions of the
    activations' block, and the block of `g` at what the loop makes of its contents. -/
theorem body (c : Dev nD) (i : grid0.Coords) (arg1 : Memref sig .tc .smem S5 .i32) (harg1 : arg1.IsWhole) (arg2 : Memref sig .tc .vmem S512x3072 .bf16) (harg2 : arg2.IsWhole) (arg3 : Memref sig .tc .vmem S5x3072x256 .bf16) (harg3 : arg3.IsWhole) (arg4 : Memref sig .tc .vmem S5x256 .f32) (harg4 : arg4.IsWhole) (arg5 : Memref sig .tc .vmem S512x3072 .fp8e4m3) (harg5 : arg5.IsWhole) (arg6 : Memref sig .tc .vmem S512x128 .f32) (harg6 : arg6.IsWhole) (arg7 : Memref sig .tc .vmem S512x256 .bf16) (harg7 : arg7.IsWhole)
    (x0 : Vec F S5 .i32) (x1 : Vec F S512x3072 .bf16) (x2 : Vec F S5x3072x256 .bf16) (x3 : Vec F S5x256 .f32) (d6 : Vec F S512x256 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare d6
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k0_pay8 (k0_pay7 x1)) ∗ owns (c : Thread nD τ) arg6 fullShare (k0_pay9 (k0_pay6 x1)) ∗ owns (c : Thread nD τ) arg7 fullShare (gfin i x0 x1 x2 x3 d6)) -∗ K ⟨⟩))
          ⊢ wp frame (wpE (defs₀ (F := F)) Variants.none c none) E (cc0_quant_h i arg1 harg1 arg2 harg2 arg3 harg3 arg4 harg4 arg5 harg5 arg6 harg6 arg7 harg7) K := by
    intro E K
    simp only [cc0_quant_h_eq_skeleton]; unfold cc0_quant_h_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, Hk⟩
    obtain rfl := harg1.eq_unread hf0; obtain rfl := harg2.eq_unread hf1; obtain rfl := harg3.eq_unread hf2; obtain rfl := harg4.eq_unread hf3
    have k0_hw1 := chk i (word arg1 (harg1.unread x0) 0 inb_S5_S1_0) (word arg1 (harg1.unread x0) 1 inb_S5_S1_1) (word arg1 (harg1.unread x0) 2 inb_S5_S1_2) (word arg1 (harg1.unread x0) 3 inb_S5_S1_3)
    sl_exec (disch := first | sl_exact k0_hw1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      exact left_codes arg2 harg2 arg5 x1 _
    isplitl [H5]
    · iexists _; isplitr; swap; · iexact H5
      ipureintro
      exact left_scale arg2 harg2 arg6 x1 _
    iexists _; isplitr; swap; · iexact H6
    ipureintro
    exact left_g c i arg1 harg1 arg2 harg2 arg3 harg3 arg4 harg4 arg5 harg5 arg6 harg6 arg7 harg7 x0 x1 x2 x3 d6 f6 hf6 k0_hw1 _ _ _ _

variable (m : (ℓ : Loc nD τ sig) → Buf (Elt F) ℓ) (ρ : Dev nD → PrngReg)

/-- Each window's current staging memref at point `t`, spelled as the pipeline passes it (`bodyAt0`), and its wholeness. -/
abbrev ms0_0 (t : Fin cfg0.N) : Memref sig .tc .smem S5 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x3072 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S5x3072x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S5x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x3072 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x256 .bf16 := win0_6.stage (cfg0.slots t 6)
abbrev hs0_6 (t : Fin cfg0.N) : (ms0_6 t).IsWhole := hstage0_6 ((cfg0.slots t 6).cast nbuf0_6)

/-- The argument arrays after a run of which the outputs' contents are forgotten. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      (Pipeline.RDat.FramePost.arr_in h c 2 rfl).trans ((hA c 2).trans (V_main_arg2 m c)),
      (Pipeline.RDat.FramePost.arr_in h c 3 rfl).trans ((hA c 3).trans (V_main_arg3 m c))⟩) h

/-! ## The pipeline's proof data -/

/-- The output windows this certificate FORGETS (4, 5, 6): nothing reads what the kernel leaves in them, so nothing
    of it is named (Lib/Pipeline/Dat.lean `Dat.toRForget`). -/
def forgets0 : Fin 7 → Bool := fun w => w.val == 4 || w.val == 5 || w.val == 6

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d)
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare d)
    ∗ (∃ d, owns (c : Thread nD τ) (ms0_5 t) fullShare d)
    ∗ (∃ d, owns (c : Thread nD τ) (ms0_6 t) fullShare d))

/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((body c (grid0.coords t) _ _ _ _ _ _ _ _ _ _ _ _ _ _ (iblk m c 0 t) (iblk m c 1 t) (iblk m c 2 t) (iblk m c 3 t) d6) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexists _; iexact H4
  isplitl [H5]; · iexists _; iexact H5
  iexists _; iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 4, 5, 6) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (fun c => (dats m 0 c).toRForget forgets0) (A_eq m) (run_main m ρ)

/-- The frame: for any arguments every execution ends, with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.QuantKernelIdeal.Quant

end
-- ==== Proof.QuantSel.lean ====
/-
  The block of `g` of the quantiser's kernel, at the ideal instance: after the loop over tenants, entry `(r, o)` is row `r`
  of the block's codes against column `o` of the factor of the tenant that row belongs to, times the row's scale, times
  that tenant's singular value `o`.  What the block held before plays no part.
-/
module

public import proofs.«01_k».proof.Proof.QuantRunIdeal
public import proofs.«01_k».proof.Proof.Tenants

@[expose] public section

noncomputable section

namespace Cert.QuantKernelIdeal.Quant

open Idealize.ShloMosaic Idealize.ShloMosaic.TcCoe Idealize.SL.Sem
open Cert.QuantKernelIdeal Cert.QuantKernelIdeal.Gen

/-- One tenant's product, scaled. -/
def prod (sc : Vec Ideal S512x1 .f32) (xb : Vec Ideal S512x3072 .bf16) (v : Vec Ideal S1x3072x256 .bf16) (s : Vec Ideal S1x256 .f32) : Vec Ideal S512x256 .bf16 :=
  truncf (F := Ideal) .bf16 (mulf (mulf (matmul (φ₁ := .bf16) (φ₂ := .bf16) dot_S512x3072_S3072x256_S512x256_1_0_0_1_n_n none xb (shapeCast S3072x256 v shapeCasts_S1x3072x256_S3072x256)
    (constant S512x256 .f32 0x00000000#32)) (broadcastTo S512x256 sc broadcasts_S512x1_S512x256)) (broadcastTo S512x256 s broadcasts_S1x256_S512x256)) bitsLt_bf16_f32

theorem prod_val (sc : Vec Ideal S512x1 .f32) (xb : Vec Ideal S512x3072 .bf16) (v : Vec Ideal S1x3072x256 .bf16) (s : Vec Ideal S1x256 .f32) (r : Fin 512) (o : Fin 256) :
    prod sc xb v s (ix2 r o) = (∑ j : Fin 3072, xb (ix2 r j) * v (ix3 0 j o)) * sc (ix2 r 0) * s (ix2 0 o) := by
  unfold prod
  pointwise

/-- One trip's store, by the word `w` where the trip's tenant starts. -/
def keep (v0 w : BitVec 32) (q : Vec Ideal S512x256 .bf16) (D : Vec Ideal S512x256 .bf16) : Vec Ideal S512x256 .bf16 :=
  select (broadcastTo S512x256 (shapeCast S512x1 (cmpi .sge (addi (broadcast S512x1 v0) (iota .tc S512x1 32 [0] iota_S512x1_d0_w32)) (broadcast S512x1 w)) shapeCasts_S512x1_S512x1) broadcasts_S512x1_S512x256)
    q (shapeCast S512x256 D shapeCasts_S512x256_S512x256)

theorem pay2_eq (i : grid0.Coords) (s0 s1 s2 s3 : BitVec 32) (k : Fin (k0_t1_loop i s0 s1 s2 s3).trips)
    (sc : Vec Ideal S512x1 .f32) (xb : Vec Ideal S512x3072 .bf16) (v : Vec Ideal S1x3072x256 .bf16) (s : Vec Ideal S1x256 .f32) (D : Vec Ideal S512x256 .bf16) :
    k0_pay2 (F := Ideal) i sc xb (row0 i) s0 s1 s2 (sum3 s0 s1 s2) (cnt3 i s0 s1 s2) s3 k v s s0 s1 s2 s3 D
      = keep (row0 i) (Words.startW (Scf.iv (first i s0 s1 s2 s3) 1#32 k.val) s0 s1 s2 s3) (prod sc xb v s) D := rfl

theorem keep_val (v0 w : BitVec 32) (q : Vec Ideal S512x256 .bf16) (D : Vec Ideal S512x256 .bf16) (r : Fin 512) (o : Fin 256) :
    keep v0 w q D (ix2 r o) = Scalar.select (Scalar.cmpi .sge (Scalar.addi v0 (BitVec.ofNat 32 r.val)) w) (q (ix2 r o)) (D (ix2 r o)) := by
  unfold keep
  pointwise
  rfl

theorem select_false (a b : EReal) : Scalar.select (BitVec.ofBool false) a b = b := rfl

/-- Entry `(j, o)` of tenant `n`'s factor, and its singular value `o`. -/
theorem factor_val (x2 : Vec Ideal S5x3072x256 .bf16) (off : Fin 3 → ℕ) (h) (n : ℕ) (hn : n < 5) (e : off = ![n, 0, 0])
    (j : Fin 3072) (o : Fin 256) : View.ld x2 (Rect.unit (s := S5x3072x256) off S1x3072x256.size h) (ix3 0 j o) = x2 (ix3 ⟨n, hn⟩ j o) := by
  subst e
  show x2 _ = x2 _
  congr 1
  funext a
  fin_cases a
  · exact Fin.ext (by show n + 1 * 0 = n; omega)
  · exact Fin.ext (by show 0 + 1 * j.val = j.val; omega)
  · exact Fin.ext (by show 0 + 1 * o.val = o.val; omega)

theorem sigma_val (x3 : Vec Ideal S5x256 .f32) (off : Fin 2 → ℕ) (h) (n : ℕ) (hn : n < 5) (e : off = ![n, 0])
    (o : Fin 256) : View.ld x3 (Rect.unit (s := S5x256) off S1x256.size h) (ix2 0 o) = x3 (ix2 ⟨n, hn⟩ o) := by
  subst e
  show x3 _ = x3 _
  congr 1
  funext a
  fin_cases a
  · exact Fin.ext (by show n + 1 * 0 = n; omega)
  · exact Fin.ext (by show 0 + 1 * o.val = o.val; omega)

/-- Row `r` of the block at `i`, among all rows. -/
abbrev rowOf (i : grid0.Coords) (r : Fin 512) : ℕ := 512 * (i 0).val + r.val

theorem row0_toNat (i : grid0.Coords) : (row0 i).toNat = 512 * (i 0).val := by
  have h : (i 0).val < 10 := (i 0).isLt
  show (BitVec.ofNat 32 (i 0).val * 512#32).toNat = _
  rw [BitVec.toNat_mul, BitVec.toNat_ofNat]
  show (i 0).val % 2 ^ 32 * 512 % 2 ^ 32 = _
  omega

theorem rowL_toNat (i : grid0.Coords) : (rowL i).toNat = 512 * (i 0).val + 511 := by
  have h : (i 0).val < 10 := (i 0).isLt
  show (row0 i + 512#32 - 1#32).toNat = _
  rw [BitVec.toNat_sub, BitVec.toNat_add, row0_toNat]
  show (2 ^ 32 - 1 + (512 * (i 0).val + 512) % 2 ^ 32) % 2 ^ 32 = _
  omega

theorem row_toNat (i : grid0.Coords) (r : Fin 512) : (Scalar.addi (row0 i) (BitVec.ofNat 32 r.val)).toNat = rowOf i r := by
  have h : (i 0).val < 10 := (i 0).isLt
  show (row0 i + BitVec.ofNat 32 r.val).toNat = _
  rw [BitVec.toNat_add, row0_toNat, BitVec.toNat_ofNat]
  have hr := r.isLt
  show (512 * (i 0).val + r.val % 2 ^ 32) % 2 ^ 32 = 512 * (i 0).val + r.val
  omega

variable (i : grid0.Coords) (s0 s1 s2 s3 : BitVec 32) (hs : Words.Small s0 s1 s2 s3)
  (sc : Vec Ideal S512x1 .f32) (xb : Vec Ideal S512x3072 .bf16) (x2 : Vec Ideal S5x3072x256 .bf16) (x3 : Vec Ideal S5x256 .f32) (d : Vec Ideal S512x256 .bf16)
  (r : Fin 512) (o : Fin 256)

/-- The tenant of row `r` of the block. -/
abbrev ten : ℕ := Words.tenant s0.toNat s1.toNat s2.toNat s3.toNat (rowOf i r)

/-- Entry `(r, o)` of tenant `n`'s product. -/
def entry (n : Fin 5) : EReal := (∑ j : Fin 3072, xb (ix2 r j) * x2 (ix3 n j o)) * sc (ix2 r 0) * x3 (ix2 n o)

include hs in
theorem first_le : (first i s0 s1 s2 s3).toNat ≤ ten i s0 s1 s2 s3 r := by
  have hi : (i 0).val < 10 := (i 0).isLt
  rw [Words.count_eq hs _ (by rw [row0_toNat]; omega), row0_toNat]
  exact Words.tenant_mono _ _ _ _ _ _ (Nat.le_add_right _ _)

include hs in
theorem le_last : ten i s0 s1 s2 s3 r ≤ (last i s0 s1 s2 s3).toNat := by
  have hi : (i 0).val < 10 := (i 0).isLt
  rw [Words.count_eq hs _ (by rw [rowL_toNat]; omega), rowL_toNat]
  exact Words.tenant_mono _ _ _ _ _ _ (by have := r.isLt; show 512 * (i 0).val + r.val ≤ 512 * (i 0).val + 511; omega)

theorem trip_val (k : ℕ) (hk : k < (k0_t1_loop i s0 s1 s2 s3).trips) (hk4 : (first i s0 s1 s2 s3).toNat + k < 5) (ev : (Scf.iv (first i s0 s1 s2 s3) 1#32 k).toNat = (first i s0 s1 s2 s3).toNat + k) :
    prod sc xb
      (View.ld x2 (Rect.unit (s := S5x3072x256) (k0_off1 i s0 s1 s2 s3 ⟨k, hk⟩) S1x3072x256.size (k0_off1_inb i s0 s1 s2 s3 (chk i s0 s1 s2 s3) ⟨k, hk⟩)))
      (View.ld x3 (Rect.unit (s := S5x256) (k0_off2 i s0 s1 s2 s3 ⟨k, hk⟩) S1x256.size (k0_off2_inb i s0 s1 s2 s3 (chk i s0 s1 s2 s3) ⟨k, hk⟩)))
      (ix2 r o) = entry sc xb x2 x3 r o ⟨(first i s0 s1 s2 s3).toNat + k, hk4⟩ := by
  unfold entry
  rw [prod_val, sigma_val x3 _ _ _ hk4 ((off2_eq i s0 s1 s2 s3 ⟨k, hk⟩).trans (by rw [ev]))]
  refine congrArg (fun q : EReal => q * _ * _) (Finset.sum_congr rfl fun j _ => ?_)
  rw [factor_val x2 _ _ _ hk4 ((off1_eq i s0 s1 s2 s3 ⟨k, hk⟩).trans (by rw [ev]))]

include hs in
theorem gl_trip : ∀ k : ℕ, k < (k0_t1_loop i s0 s1 s2 s3).trips →
    gl i s0 s1 s2 s3 sc xb x2 x3 d (k + 1) (ix2 r o)
      = entry sc xb x2 x3 r o ⟨min (ten i s0 s1 s2 s3 r) ((first i s0 s1 s2 s3).toNat + k), lt_of_le_of_lt (min_le_left _ _) (Nat.lt_succ_of_le (Words.tenant_le ..))⟩ := by
  have hi : (i 0).val < 10 := (i 0).isLt
  have hf := first_le i s0 s1 s2 s3 hs r
  have hl : (last i s0 s1 s2 s3).toNat ≤ 4 := Words.count_le ..
  have er := row_toNat i r
  have hr : rowOf i r < 2 ^ 31 := by have := r.isLt; show 512 * (i 0).val + r.val < _; omega
  have ht : ten i s0 s1 s2 s3 r ≤ 4 := Words.tenant_le ..
  intro k
  induction k with
  | zero =>
    intro hk
    have hk' : 0 < (last i s0 s1 s2 s3).toNat + 1 - (first i s0 s1 s2 s3).toNat := by rw [← trips1]; omega
    have ei := iv1 i s0 s1 s2 s3 0 hk'
    rw [gl, dif_pos (show 0 < _ from hk), pay2_eq, keep_val, Words.started hs _ _ (by rw [ei]; omega) (by rw [er]; exact hr), ei, er, decide_eq_true (by omega)]
    show prod _ _ _ _ _ = _
    rw [trip_val i s0 s1 s2 s3 sc xb x2 x3 r o 0 hk (by omega) ei]
    exact congrArg (entry sc xb x2 x3 r o) (Fin.ext (by show (first i s0 s1 s2 s3).toNat + 0 = min (ten i s0 s1 s2 s3 r) ((first i s0 s1 s2 s3).toNat + 0); omega))
  | succ k ih =>
    intro hk
    have ih := ih (by omega)
    have hk' : k + 1 < (last i s0 s1 s2 s3).toNat + 1 - (first i s0 s1 s2 s3).toNat := by rw [← trips1]; omega
    have ei := iv1 i s0 s1 s2 s3 (k + 1) hk'
    rw [gl, dif_pos (show k + 1 < _ from hk), pay2_eq, keep_val, Words.started hs _ _ (by rw [ei]; omega) (by rw [er]; exact hr), ei, er]
    by_cases hc : (first i s0 s1 s2 s3).toNat + (k + 1) ≤ ten i s0 s1 s2 s3 r
    · rw [decide_eq_true hc]
      show prod _ _ _ _ _ = _
      rw [trip_val i s0 s1 s2 s3 sc xb x2 x3 r o (k + 1) hk (by omega) ei]
      exact congrArg (entry sc xb x2 x3 r o) (Fin.ext (by show (first i s0 s1 s2 s3).toNat + (k + 1) = min (ten i s0 s1 s2 s3 r) ((first i s0 s1 s2 s3).toNat + (k + 1)); omega))
    · rw [decide_eq_false hc]
      rw [select_false, ih]
      exact congrArg (entry sc xb x2 x3 r o) (Fin.ext (by show min (ten i s0 s1 s2 s3 r) ((first i s0 s1 s2 s3).toNat + k) = min (ten i s0 s1 s2 s3 r) ((first i s0 s1 s2 s3).toNat + (k + 1)); omega))

include hs in
/-- After the loop. -/
theorem gl_val : gl i s0 s1 s2 s3 sc xb x2 x3 d (k0_t1_loop i s0 s1 s2 s3).trips (ix2 r o)
    = entry sc xb x2 x3 r o ⟨ten i s0 s1 s2 s3 r, Nat.lt_succ_of_le (Words.tenant_le ..)⟩ := by
  have hf := first_le i s0 s1 s2 s3 hs r
  have hl := le_last i s0 s1 s2 s3 hs r
  have e := trips1 i s0 s1 s2 s3
  obtain ⟨k, hk⟩ : ∃ k, (k0_t1_loop i s0 s1 s2 s3).trips = k + 1 := ⟨(last i s0 s1 s2 s3).toNat - (first i s0 s1 s2 s3).toNat, by omega⟩
  rw [hk, gl_trip i s0 s1 s2 s3 hs sc xb x2 x3 d r o k (by omega)]
  exact congrArg (entry sc xb x2 x3 r o) (Fin.ext (by show min (ten i s0 s1 s2 s3 r) ((first i s0 s1 s2 s3).toNat + k) = ten i s0 s1 s2 s3 r; omega))

/-- The contents the block held before play no part. -/
theorem gfin_any (i : grid0.Coords) (x0 : Vec Ideal S5 .i32) (hs : Words.Small (x0 (ix1 0)) (x0 (ix1 1)) (x0 (ix1 2)) (x0 (ix1 3))) (x1 : Vec Ideal S512x3072 .bf16)
    (x2 : Vec Ideal S5x3072x256 .bf16) (x3 : Vec Ideal S5x256 .f32) (d d' : Vec Ideal S512x256 .bf16) : gfin i x0 x1 x2 x3 d = gfin i x0 x1 x2 x3 d' := by
  funext j
  idx_vars j
  unfold gfin
  rw [gl_val _ _ _ _ _ hs, gl_val _ _ _ _ _ hs]

end Cert.QuantKernelIdeal.Quant

end
-- ==== Proof.Scale.lean ====
/-
  The quantiser's power-of-two scale, over the extended reals and with no reference to a program.  The kernel counts how
  many of the powers 2^(1-127), …, 2^(254-127) are at most `v`, takes that count less 126 for the exponent (0 where the
  count is 0), and writes the exponent into the exponent field of a float.  The reference takes floor(log2 v) + 1 (0 for
  `v` below 2^-126) and raises 2 to it.  For a real `v` between 0 and 2^120 the two agree, and so do their inverses.
-/
module

public import Idealize.ShloMosaic.PureOps.Ideal
public import Idealize.ShloMosaic.PureOps.Reduce
public import Idealize.ShloMosaic.Lib.Tactic
public import Mathlib.Analysis.SpecialFunctions.Log.Basic

@[expose] public section

noncomputable section

namespace Cert.Scale

open Idealize.ShloMosaic

/-- The reference's exponent. -/
def expo (v : EReal) : EReal :=
  if v < Ideal.ofBits .f32 0x00800000#32 then Ideal.ofBits .f32 0x00000000#32
  else Ideal.liftRound Int.floor (Ideal.div (Ideal.log v) (Ideal.log (Ideal.ofBits .f32 0x40000000#32))) + 1

/-- The kernel's count, and its exponent's word. -/
def cnt (v : EReal) : BitVec 32 :=
  Finset.fold IntOp.addi (0#32) (fun x : Fin 256 => Scalar.select (IntOp.andi (IntOp.cmpi .sge (BitVec.ofNat 32 x.val) 1#32)
    (BitVec.ofBool (decide (Ideal.ofBits .f32 (IntOp.shli .vector (BitVec.ofNat 32 x.val) 23#32) ≤ v)))) 1#32 0#32) Finset.univ
def expW (v : EReal) : BitVec 32 := Scalar.select (IntOp.cmpi .eq (cnt v) 0#32) 0#32 (IntOp.subi (cnt v) 126#32)

/-! ## Powers of two as words -/

theorem fields : ∀ k : Fin 255, 1 ≤ k.val →
    ((IntOp.shli .vector (BitVec.ofNat 32 k.val) 23#32).extractLsb' (8 + 23) 1 == 1#1) = false
    ∧ ((IntOp.shli .vector (BitVec.ofNat 32 k.val) 23#32).extractLsb' 23 8).toNat = k.val
    ∧ ((IntOp.shli .vector (BitVec.ofNat 32 k.val) 23#32).extractLsb' 0 23).toNat = 0 := by decide +kernel

theorem word_pow (w : BitVec 32) (k : ℕ) (h1 : 1 ≤ k) (h2 : k < 255) (e1 : (w.extractLsb' (8 + 23) 1 == 1#1) = false)
    (e2 : (w.extractLsb' 23 8).toNat = k) (e3 : (w.extractLsb' 0 23).toNat = 0) :
    Ideal.ofBits .f32 w = (((2 : ℝ) ^ ((k : ℤ) - 127) : ℝ) : EReal) := by
  unfold Ideal.ofBits Ideal.ieee
  simp only [e1, e2, e3]
  rw [if_neg (by norm_num; omega), if_neg (by omega)]
  congr 1
  have : ((2 ^ 23 + 0 : ℕ) : ℝ) = (2 : ℝ) ^ (23 : ℤ) := by norm_num
  rw [this]
  simp only [Bool.false_eq_true, if_false, one_mul]
  rw [← zpow_add₀ (by norm_num)]
  congr 1
  norm_num

theorem pow_word (k : ℕ) (h1 : 1 ≤ k) (h2 : k < 255) :
    Ideal.ofBits .f32 (IntOp.shli .vector (BitVec.ofNat 32 k) 23#32) = (((2 : ℝ) ^ ((k : ℤ) - 127) : ℝ) : EReal) := by
  obtain ⟨e1, e2, e3⟩ := fields ⟨k, h2⟩ h1
  exact word_pow _ k h1 h2 e1 e2 e3

theorem top_word : Ideal.ofBits .f32 (IntOp.shli .vector (BitVec.ofNat 32 255) 23#32) = ⊤ := by
  have e : IntOp.shli .vector (BitVec.ofNat 32 255) 23#32 = 0x7F800000#32 := by decide +kernel
  rw [e]
  simp [Ideal.ofBits, Ideal.ieee]

/-! ## The count -/

/-- The count where exactly the first `n` powers are at most `v`. -/
def cntN (n : ℕ) : BitVec 32 :=
  Finset.fold IntOp.addi (0#32) (fun x : Fin 256 => Scalar.select (BitVec.ofBool (decide (1 ≤ x.val ∧ x.val ≤ n))) 1#32 0#32) Finset.univ

theorem words : ∀ n : Fin 248, cntN n.val = BitVec.ofNat 32 n.val
    ∧ IntOp.addi (127#32) (Scalar.select (IntOp.cmpi .eq (BitVec.ofNat 32 n.val) 0#32) 0#32 (IntOp.subi (BitVec.ofNat 32 n.val) 126#32))
      = BitVec.ofNat 32 (if n.val = 0 then 127 else n.val + 1)
    ∧ IntOp.subi (127#32) (Scalar.select (IntOp.cmpi .eq (BitVec.ofNat 32 n.val) 0#32) 0#32 (IntOp.subi (BitVec.ofNat 32 n.val) 126#32))
      = BitVec.ofNat 32 (if n.val = 0 then 127 else 253 - n.val) := by decide +kernel

theorem cnt_eq (r : ℝ) (n : ℕ) (hn : n < 248) (h : ∀ k : ℕ, 1 ≤ k → k < 255 → ((2 : ℝ) ^ ((k : ℤ) - 127) ≤ r ↔ k ≤ n)) :
    cnt (r : EReal) = BitVec.ofNat 32 n := by
  rw [← (words ⟨n, hn⟩).1]
  unfold cnt cntN
  refine congrArg (fun f => Finset.fold IntOp.addi (0#32) f Finset.univ) (funext fun x => ?_)
  have hx := x.isLt
  have h0 : IntOp.cmpi .sge (BitVec.ofNat 32 x.val) 1#32 = BitVec.ofBool (decide (1 ≤ x.val)) := by
    revert x; decide +kernel
  have key : ∀ a b : Bool, IntOp.andi (BitVec.ofBool a) (BitVec.ofBool b) = BitVec.ofBool (a && b) := by decide
  rw [h0, key]
  refine congrArg (fun q => Scalar.select (BitVec.ofBool q) 1#32 0#32) ?_
  rw [Bool.eq_iff_iff]
  simp only [Bool.and_eq_true, decide_eq_true_eq]
  refine and_congr_right fun h1 => ?_
  by_cases h255 : x.val = 255
  · rw [h255, top_word]
    simp only [top_le_iff, EReal.coe_ne_top, false_iff]
    omega
  · rw [pow_word x.val h1 (by omega), EReal.coe_le_coe_iff]
    exact h x.val h1 (by omega)

/-! ## The reference's exponent -/

theorem two : Ideal.ofBits .f32 0x40000000#32 = ((2 : ℝ) : EReal) := by
  have := pow_word 128 (by omega) (by omega)
  have e : IntOp.shli .vector (BitVec.ofNat 32 128) 23#32 = 0x40000000#32 := by decide +kernel
  rw [e] at this
  rw [this]
  norm_num

theorem tiny : Ideal.ofBits .f32 0x00800000#32 = (((2 : ℝ) ^ (-126 : ℤ) : ℝ) : EReal) := by
  have := pow_word 1 (by omega) (by omega)
  have e : IntOp.shli .vector (BitVec.ofNat 32 1) 23#32 = 0x00800000#32 := by decide +kernel
  rw [e] at this
  rw [this]
  norm_num

theorem zero : Ideal.ofBits .f32 0x00000000#32 = ((0 : ℝ) : EReal) := by
  simp [Ideal.ofBits, Ideal.ieee]

theorem expo_small (r : ℝ) (h : r < (2 : ℝ) ^ (-126 : ℤ)) : expo (r : EReal) = ((0 : ℝ) : EReal) := by
  unfold expo
  rw [tiny, if_pos (EReal.coe_lt_coe_iff.2 h), zero]

/-- The whole part of the logarithm to base two. -/
abbrev lg (r : ℝ) : ℤ := ⌊Real.log r / Real.log 2⌋

theorem le_lg (r : ℝ) (hr : 0 < r) (z : ℤ) : (2 : ℝ) ^ z ≤ r ↔ z ≤ lg r := by
  have hp : 0 < Real.log 2 := Real.log_pos (by norm_num)
  rw [Int.le_floor, le_div_iff₀ hp, ← Real.log_zpow]
  exact (Real.log_le_log_iff (by positivity) hr).symm

theorem expo_large (r : ℝ) (h : (2 : ℝ) ^ (-126 : ℤ) ≤ r) : expo (r : EReal) = (((lg r + 1 : ℤ) : ℝ) : EReal) := by
  have hr : 0 < r := lt_of_lt_of_le (by positivity) h
  have hl : Real.log 2 ≠ 0 := (Real.log_pos (by norm_num)).ne'
  unfold expo
  rw [tiny, if_neg (not_lt.2 (EReal.coe_le_coe_iff.2 h)), two]
  have e1 : Ideal.log (r : EReal) = (Real.log r : EReal) := by
    show (if r ≤ 0 then ⊥ else (Real.log r : EReal)) = _
    rw [if_neg (not_le.2 hr)]
  have e2 : Ideal.log ((2 : ℝ) : EReal) = (Real.log 2 : EReal) := by
    show (if (2 : ℝ) ≤ 0 then ⊥ else (Real.log 2 : EReal)) = _
    rw [if_neg (by norm_num)]
  have e3 : Ideal.div (Real.log r : EReal) (Real.log 2 : EReal) = ((Real.log r / Real.log 2 : ℝ) : EReal) := by
    unfold Ideal.div
    rw [if_neg (by rw [← EReal.coe_zero]; exact fun q => hl (EReal.coe_eq_coe_iff.1 q)), ← EReal.coe_inv, ← EReal.coe_mul]
    rfl
  rw [e1, e2, e3]
  show (((⌊Real.log r / Real.log 2⌋ : ℤ) : ℝ) : EReal) + 1 = _
  rw [← EReal.coe_one, ← EReal.coe_add]
  push_cast
  rfl

theorem pow_two (z : ℤ) : Ideal.pow ((2 : ℝ) : EReal) (((z : ℤ) : ℝ) : EReal) = (((2 : ℝ) ^ z : ℝ) : EReal) := by
  show ((Real.rpow 2 (z : ℝ) : ℝ) : EReal) = _
  rw [Real.rpow_eq_pow, Real.rpow_intCast]

/-! ## The two scales agree -/

/-- What both sides are: the count of the powers at most `r` and the exponent. -/
theorem both (r : ℝ) (h2 : r < (2 : ℝ) ^ (120 : ℤ)) :
    ∃ n : ℕ, n < 248 ∧ cnt (r : EReal) = BitVec.ofNat 32 n ∧ expo (r : EReal) = (((if n = 0 then 0 else (n : ℤ) - 126 : ℤ) : ℝ) : EReal) := by
  by_cases hs : r < (2 : ℝ) ^ (-126 : ℤ)
  · refine ⟨0, by omega, cnt_eq r 0 (by omega) (fun k h1 _ => ⟨fun hk => absurd (lt_of_le_of_lt hk hs) (not_lt.2 ?_), fun hk => absurd hk (by omega)⟩), ?_⟩
    · exact zpow_le_zpow_right₀ (by norm_num) (by omega)
    · rw [expo_small r hs, if_pos rfl, Int.cast_zero]
  · have hs' := not_lt.1 hs
    have hr : 0 < r := lt_of_lt_of_le (by positivity) hs'
    have hle := le_lg r hr
    have hlo : -126 ≤ lg r := (hle _).1 hs'
    have hhi : lg r < 120 := by
      by_contra hc
      exact absurd ((hle 120).2 (not_lt.1 hc)) (not_le.2 h2)
    refine ⟨(lg r + 127).toNat, by omega, cnt_eq r _ (by omega) (fun k h1 _ => ?_), ?_⟩
    · rw [hle]; omega
    · rw [expo_large r hs', if_neg (by omega)]
      congr 2
      omega

theorem scale_eq (r : ℝ) (h2 : r < (2 : ℝ) ^ (120 : ℤ)) :
    Ideal.ofBits .f32 (IntOp.shli .vector (IntOp.addi (127#32) (expW (r : EReal))) 23#32)
      = Ideal.pow (Ideal.ofBits .f32 0x40000000#32) (expo (r : EReal)) := by
  obtain ⟨n, hn, e, e'⟩ := both r h2
  have w := (words ⟨n, hn⟩).2.1
  simp only at w
  unfold expW
  rw [e, w, e', two, pow_two, pow_word _ (by split_ifs <;> omega) (by split_ifs <;> omega)]
  congr 2
  split_ifs <;> push_cast <;> omega

theorem inv_eq (r : ℝ) (h2 : r < (2 : ℝ) ^ (120 : ℤ)) :
    Ideal.ofBits .f32 (IntOp.shli .vector (IntOp.subi (127#32) (expW (r : EReal))) 23#32)
      = Ideal.pow (Ideal.ofBits .f32 0x40000000#32) (-expo (r : EReal)) := by
  obtain ⟨n, hn, e, e'⟩ := both r h2
  have w := (words ⟨n, hn⟩).2.2
  simp only at w
  unfold expW
  rw [e, w, e', two, ← EReal.coe_neg, ← Int.cast_neg, pow_two, pow_word _ (by split_ifs <;> omega) (by split_ifs <;> omega)]
  congr 2
  split_ifs <;> omega

/-! ## The greatest magnitude of a row -/

/-- The greatest magnitude, times the constant nearest 1/448. -/
def amax (f : Fin 3072 → EReal) : EReal :=
  Finset.fold max (⊥ : EReal) (fun x => max (f x) (-f x)) Finset.univ * Ideal.ofBits .f32 0x3B124925#32

theorem bot_f32 : Ideal.ofBits .f32 0xFF800000#32 = (⊥ : EReal) := by
  simp [Ideal.ofBits, Ideal.ieee]

theorem bot_bf16 : Ideal.ofBits .bf16 0xFF80#16 = (⊥ : EReal) := by
  simp [Ideal.ofBits, Ideal.ieee]

theorem bound : Ideal.ofBits .f32 0x7F7FC99E#32 = (((0x7FC99E + 0x800000 : ℕ) * (2 : ℝ) ^ (104 : ℤ) : ℝ) : EReal) := by
  simp [Ideal.ofBits, Ideal.ieee]

theorem c448 : Ideal.ofBits .f32 0x3B124925#32 = (((0x124925 + 0x800000 : ℕ) * (2 : ℝ) ^ (-32 : ℤ) : ℝ) : EReal) := by
  simp [Ideal.ofBits, Ideal.ieee]

/-- Of magnitudes at most 3.4e38 it is a real below 2^120. -/
theorem amax_real (f : Fin 3072 → EReal) (h : ∀ k, max (f k) (-f k) ≤ Ideal.ofBits .f32 0x7F7FC99E#32) :
    ∃ r : ℝ, r < (2 : ℝ) ^ (120 : ℤ) ∧ amax f = (r : EReal) := by
  have hM : Finset.fold max (⊥ : EReal) (fun x => max (f x) (-f x)) Finset.univ ≤ Ideal.ofBits .f32 0x7F7FC99E#32 :=
    Finset.fold_max_le _ |>.2 ⟨bot_le, fun k _ => h k⟩
  have h0 : (0 : EReal) ≤ Finset.fold max (⊥ : EReal) (fun x => max (f x) (-f x)) Finset.univ := by
    refine (Finset.le_fold_max _).2 (Or.inr ⟨0, Finset.mem_univ _, ?_⟩)
    rcases le_total 0 (f 0) with q | q
    · exact le_max_of_le_left q
    · exact le_max_of_le_right (EReal.neg_nonneg.2 q)
  unfold amax
  generalize Finset.fold max (⊥ : EReal) (fun x => max (f x) (-f x)) Finset.univ = M at hM h0
  rw [bound] at hM
  induction M with
  | bot => exact absurd h0 (by simp)
  | top => exact absurd (top_le_iff.1 hM) (EReal.coe_ne_top _)
  | coe M =>
    rw [EReal.coe_le_coe_iff] at hM
    rw [c448]
    refine ⟨M * ((0x124925 + 0x800000 : ℕ) * (2 : ℝ) ^ (-32 : ℤ)), ?_, (EReal.coe_mul _ _).symm⟩
    refine lt_of_le_of_lt (mul_le_mul_of_nonneg_right hM (by positivity)) ?_
    norm_num

end Cert.Scale

end
-- ==== Proof.QuantPay.lean ====
/-
  The quantiser's kernel at the ideal instance, before its loop: what a row's exponent, its scale and its codes are, as
  functions of the block of activations.
-/
module

public import proofs.«01_k».proof.Proof.Gen.QuantKernelIdeal.Skeleton
public import proofs.«01_k».proof.Proof.Scale
public import Idealize.ShloMosaic.Lib.Tactic
public import Idealize.ShloMosaic.Lib.VecWindow
public import Idealize.ShloMosaic.Lib.Pointwise

@[expose] public section

noncomputable section

namespace Cert.QuantKernelIdeal.Quant

open Idealize.ShloMosaic Idealize.ShloMosaic.TcCoe Idealize.SL.Sem
open Cert.QuantKernelIdeal Cert.QuantKernelIdeal.Gen

theorem exp_val (x : Vec Ideal S512x3072 .bf16) (r : Fin 512) : k0_pay5 x (ix2 r 0) = Scale.expW (Scale.amax fun k => x (ix2 r k)) := by
  unfold Scale.expW Scale.cnt Scale.amax
  rw [← Scale.bot_bf16]
  unfold_payloads
  pointwise
  rfl

theorem scale_val (x : Vec Ideal S512x3072 .bf16) (r : Fin 512) :
    k0_pay6 x (ix2 r 0) = Ideal.ofBits .f32 (IntOp.shli .vector (IntOp.addi (127#32) (Scale.expW (Scale.amax fun k => x (ix2 r k)))) 23#32) := by
  rw [← exp_val]
  unfold k0_pay6
  generalize k0_pay5 x = q
  pointwise

theorem codes_val (x : Vec Ideal S512x3072 .bf16) (r : Fin 512) (k : Fin 3072) : k0_pay8 (k0_pay7 x) (ix2 r k)
    = min (Ideal.ofBits .f32 0x43E00000#32) (max (Ideal.ofBits .f32 0xC3E00000#32)
      (x (ix2 r k) * Ideal.ofBits .f32 (IntOp.shli .vector (IntOp.subi (127#32) (Scale.expW (Scale.amax fun k => x (ix2 r k)))) 23#32))) := by
  rw [← exp_val]
  unfold k0_pay8 k0_pay7 k0_pay4
  generalize k0_pay5 x = q
  pointwise

/-- The scale, broadcast over the lanes, and the codes again as bf16. -/
theorem lanes_val (q : FVec Ideal S512x1 .f32) (r : Fin 512) (l : Fin 128) : (k0_pay9 (F := Ideal) q (ix2 r l) : EReal) = q (ix2 r 0) := by
  unfold k0_pay9
  pointwise

theorem wide_eq (q : FVec Ideal S512x3072 .f32) : (k0_pay10 (F := Ideal) q : S512x3072.Idx → EReal) = k0_pay8 (F := Ideal) q := rfl

end Cert.QuantKernelIdeal.Quant

end
-- ==== Proof.QuantSpec.lean ====
/-
  What the quantiser computes, over the extended reals and with no reference to a program: a row's scale is two to the
  power of its exponent, its codes are the row divided by the scale and clipped, and `g` is the codes against the factor of
  the tenant the row belongs to, times the row's scale, times that tenant's singular values.
-/
module

public import proofs.«01_k».proof.Proof.Spec
public import proofs.«01_k».proof.Proof.Scale

@[expose] public section

noncomputable section

namespace Cert.QuantSpec

open Idealize.ShloMosaic

/-- A row's scale. -/
def scale (x : Fin 3072 → EReal) : EReal := Ideal.pow (Ideal.ofBits .f32 0x40000000#32) (Scale.expo (Scale.amax x))

/-- A row's code at `k`. -/
def code (x : Fin 3072 → EReal) (k : Fin 3072) : EReal :=
  min (Ideal.ofBits .f32 0x43E00000#32) (max (Ideal.ofBits .f32 0xC3E00000#32)
    (x k * Ideal.pow (Ideal.ofBits .f32 0x40000000#32) (-Scale.expo (Scale.amax x))))

/-- Entry `o` of the row of `g` that the codes `q` and the scale `a` give with tenant `n`'s factor and singular values. -/
def entry (q : Fin 3072 → EReal) (a : EReal) (v : Fin 5 → Fin 3072 → Fin 256 → EReal) (sg : Fin 5 → Fin 256 → EReal) (n : Fin 5) (o : Fin 256) : EReal :=
  (∑ j : Fin 3072, q j * v n j o) * a * sg n o

/-- Entry `(R, o)` of `g`. -/
def g (sz : Fin 5 → BitVec 32) (x : Fin 5120 → Fin 3072 → EReal) (v : Fin 5 → Fin 3072 → Fin 256 → EReal) (sg : Fin 5 → Fin 256 → EReal)
    (R : Fin 5120) (o : Fin 256) : EReal := entry (code (x R)) (scale (x R)) v sg (Spec.tenant sz R) o

end Cert.QuantSpec

end
-- ==== Proof.QuantValue.lean ====
/-
  The quantiser's kernel at the ideal instance: the run with its three outputs named, and the three result arrays element by
  element, in terms of the four argument arrays.  The sizes are assumed small, so that what a block of `g` held before the
  body plays no part.
-/
module

public import proofs.«01_k».proof.Proof.QuantSel
public import proofs.«01_k».proof.Proof.QuantPay
public import proofs.«01_k».proof.Proof.QuantSpec
public import Idealize.ShloMosaic.Lib.Pipeline.Value
public import Idealize.ShloMosaic.Lib.StableHlo.ReadAt

@[expose] public section

noncomputable section

namespace Cert.QuantKernelIdeal.QuantV

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.QuantKernelIdeal Cert.QuantKernelIdeal.Gen
open Cert.QuantKernelIdeal.Quant (gfin gl gl_val gfin_any body ms0_0 ms0_1 ms0_2 ms0_3 ms0_4 ms0_5 ms0_6 defs₀_row)

local notation "𝕄" => MT nD τ sig Unit (Elt Ideal) ℕ (UR sig nD τ) ℕ

variable (m : (ℓ : Loc nD τ sig) → Buf (Elt Ideal) ℓ) (ρ : Dev nD → PrngReg)

/-! ## Where the blocks sit -/

theorem idx1 : ∀ t : Fin grid0.N, win0_1.index t 0 = (grid0.coords t 0).val ∧ win0_1.index t 1 = 0 := by decide +kernel
theorem idx2 : ∀ t : Fin grid0.N, win0_2.index t 0 = 0 ∧ win0_2.index t 1 = 0 ∧ win0_2.index t 2 = 0 := by decide +kernel
theorem idx3 : ∀ t : Fin grid0.N, win0_3.index t 0 = 0 ∧ win0_3.index t 1 = 0 := by decide +kernel
theorem idx4 : ∀ t : Fin grid0.N, win0_4.index t 0 = (grid0.coords t 0).val ∧ win0_4.index t 1 = 0 := by decide +kernel
theorem idx5 : ∀ t : Fin grid0.N, win0_5.index t 0 = (grid0.coords t 0).val ∧ win0_5.index t 1 = 0 := by decide +kernel
theorem idx6 : ∀ t : Fin grid0.N, win0_6.index t 0 = (grid0.coords t 0).val ∧ win0_6.index t 1 = 0 := by decide +kernel

theorem coord0_lt (t : Fin grid0.N) : (grid0.coords t 0).val < 10 := (grid0.coords t 0).isLt

/-- Row `r` of the block at point `t`, among all. -/
abbrev row (t : Fin grid0.N) (r : Fin 512) : Fin 5120 := ⟨512 * (grid0.coords t 0).val + r.val, by have := coord0_lt t; omega⟩

section
variable (c : Dev nD)

/-- The four arguments by their coordinates. -/
abbrev aS (n : Fin 5) : BitVec 32 := m ((c : Thread nD τ).loc main_arg0) (ix1 n)
abbrev aX (R : Fin 5120) (k : Fin 3072) : EReal := m ((c : Thread nD τ).loc main_arg1) (ix3 (⟨R.val / 2560, by omega⟩ : Fin 2) (⟨R.val % 2560, by omega⟩ : Fin 2560) k)
abbrev aV (n : Fin 5) (k : Fin 3072) (o : Fin 256) : EReal := m ((c : Thread nD τ).loc main_arg2) (ix3 n k o)
abbrev aSig (n : Fin 5) (o : Fin 256) : EReal := m ((c : Thread nD τ).loc main_arg3) (ix2 n o)

theorem blk0 (t : Fin grid0.N) (n : Fin 5) : iblk m c 0 t (ix1 n) = aS m c n := by
  show V m c main_arg0 ((win0_0.rect t).emb (ix1 n)) = _
  rw [V_main_arg0]
  congr 1
  funext a
  refine Fin.ext ?_
  rw [Pipeline.Window.rect_emb_val win0_0]
  fin_cases a
  show win0_0.index t 0 * 5 + n.val = n.val
  have : ∀ t : Fin grid0.N, win0_0.index t 0 = 0 := by decide +kernel
  rw [this t]
  omega

theorem V_x (R : Fin 5120) (k : Fin 3072) : V m c main_v0 (ix2 R k) = aX m c R k := by
  unfold V
  after_reads_at

theorem blk1 (t : Fin grid0.N) (r : Fin 512) (k : Fin 3072) : iblk m c 1 t (ix2 r k) = aX m c (row t r) k := by
  have h := idx1 t
  show V m c main_v0 ((win0_1.rect t).emb (ix2 r k)) = _
  rw [← V_x]
  congr 1
  funext a
  refine Fin.ext ?_
  rw [Pipeline.Window.rect_emb_val win0_1]
  fin_cases a
  · show win0_1.index t 0 * 512 + r.val = 512 * (grid0.coords t 0).val + r.val; omega
  · show win0_1.index t 1 * 3072 + k.val = k.val; omega

theorem blk2 (t : Fin grid0.N) (n : Fin 5) (k : Fin 3072) (o : Fin 256) : iblk m c 2 t (ix3 n k o) = aV m c n k o := by
  have h := idx2 t
  show V m c main_arg2 ((win0_2.rect t).emb (ix3 n k o)) = _
  rw [V_main_arg2]
  congr 1
  funext a
  refine Fin.ext ?_
  rw [Pipeline.Window.rect_emb_val win0_2]
  fin_cases a
  · show win0_2.index t 0 * 5 + n.val = n.val; omega
  · show win0_2.index t 1 * 3072 + k.val = k.val; omega
  · show win0_2.index t 2 * 256 + o.val = o.val; omega

theorem blk3 (t : Fin grid0.N) (n : Fin 5) (o : Fin 256) : iblk m c 3 t (ix2 n o) = aSig m c n o := by
  have h := idx3 t
  show V m c main_arg3 ((win0_3.rect t).emb (ix2 n o)) = _
  rw [V_main_arg3]
  congr 1
  funext a
  refine Fin.ext ?_
  rw [Pipeline.Window.rect_emb_val win0_3]
  fin_cases a
  · show win0_3.index t 0 * 5 + n.val = n.val; omega
  · show win0_3.index t 1 * 256 + o.val = o.val; omega
end

/-! ## The run with its outputs named -/

/-- The proof data: each input at its block, the codes, the scales, and the block of `g` as the loop leaves it. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay8 (k0_pay7 (iblk m c 1 t))
    | ⟨5, _⟩ => k0_pay9 (k0_pay6 (iblk m c 1 t))
    | ⟨6, _⟩ => gfin (grid0.coords t) (iblk m c 0 t) (iblk m c 1 t) (iblk m c 2 t) (iblk m c 3 t) (fun _ => (0 : EReal))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = k0_pay8 (k0_pay7 (iblk m c 1 t)) := by dsimp only [dats]
theorem after0_5 (c : Dev nD) (t : Fin cfg0.N) : (dats m 0 c).after 5 t = k0_pay9 (k0_pay6 (iblk m c 1 t)) := by dsimp only [dats]
theorem after0_6 (c : Dev nD) (t : Fin cfg0.N) : (dats m 0 c).after 6 t
    = gfin (grid0.coords t) (iblk m c 0 t) (iblk m c 1 t) (iblk m c 2 t) (iblk m c 3 t) (fun _ => (0 : EReal)) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at point `t`, -/
def pre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def post (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

variable (hs : ∀ c, Words.Small (aS m c 0) (aS m c 1) (aS m c 2) (aS m c 3))

include hs in
theorem gfin_eq (c : Dev nD) (t : Fin cfg0.N) (d : Vec Ideal S512x256 .bf16) :
    gfin (grid0.coords t) (iblk m c 0 t) (iblk m c 1 t) (iblk m c 2 t) (iblk m c 3 t) d
      = gfin (grid0.coords t) (iblk m c 0 t) (iblk m c 1 t) (iblk m c 2 t) (iblk m c 3 t) (fun _ => (0 : EReal)) :=
  gfin_any _ _ (by rw [blk0, blk0, blk0, blk0]; exact hs c) _ _ _ _ _

include hs in
set_option maxHeartbeats 800000 in
/-- The body at any point. -/
theorem sound_body (c : Dev nD) (t : Fin cfg0.N) :
    pre m c t ⊢ wp frame (wpE (defs₀ (F := Ideal)) Variants.none c none) Set.univ (bodyAt0 t) (fun _ => post m c t) := by
  unfold pre post bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  rw [← gfin_eq m hs c t ((dats m 0 c).before 6 t d6)]
  iapply ((body c (grid0.coords t) _ _ _ _ _ _ _ _ _ _ _ _ _ _ (iblk m c 0 t) (iblk m c 1 t) (iblk m c 2 t) (iblk m c 3 t) ((dats m 0 c).before 6 t d6)) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

include hs in
theorem body_obligation (c : Dev nD) : BodyObligation (dats m 0 c) (defs₀ (F := Ideal)) Variants.none () Set.univ := fun t => by
  rw [bigSep_W0, bigSep_W0, defs₀_row]
  exact triple_restated (sound_body m hs c t) rfl .rfl fun _ => .rfl

include hs in
set_option backward.isDefEq.respectTransparency.types false in
/-- The run: it ends with the arrays as the proof data say and every counter at zero. -/
theorem run : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m hs c).loose) (hshare := fun c => (dats m 0 c).share_full fun _ => rfl)
    (howed := fun _ _ => rfl) (V := V m) (hmain := hmain m Variants.none) (hA := A_eq m) (hΦ := fun _ _ => rfl)

include hs in
/-- The three result arrays named, the arguments unchanged. -/
theorem run_blocks : θ_run defs (onTc (τ := τ) (main (F := Ideal))) ⟨m, fun _ => 0, ρ⟩ (fun r => ∀ c : Dev nD,
      r.2.mem ((c.tc : Thread nD τ).loc main_v1_0) = (dats m 0 c).arrAt 4 cfg0.N
      ∧ r.2.mem ((c.tc : Thread nD τ).loc main_v1_1) = (dats m 0 c).arrAt 5 cfg0.N
      ∧ r.2.mem ((c.tc : Thread nD τ).loc main_v1_2) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1 c).1 4, (h.1 c).1 5, (h.1 c).1 6,
      ((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c),
      ((h.1 c).1 2).trans (((dats m 0 c).arrAt_in 2 rfl _).trans ((A_eq m c 2).trans (V_main_arg2 m c))),
      ((h.1 c).1 3).trans (((dats m 0 c).arrAt_in 3 rfl _).trans ((A_eq m c 3).trans (V_main_arg3 m c)))⟩) (run m ρ hs)

end Cert.QuantKernelIdeal.QuantV

end
-- ==== Proof.QuantArrays.lean ====
/-
  The quantiser's kernel at the ideal instance: its three result arrays, element by element, in terms of its four argument
  arrays.  The activations are assumed finite and bounded; then the exponent counted from the bit patterns is the exponent by
  the logarithm.
-/
module

public import proofs.«01_k».proof.Proof.QuantValue

@[expose] public section

noncomputable section

namespace Cert.QuantKernelIdeal.QuantV

open Idealize.ShloMosaic Idealize.ShloMosaic.TcCoe Idealize.SL.Sem
open Cert.QuantKernelIdeal Cert.QuantKernelIdeal.Gen
open Cert.QuantKernelIdeal.Quant (gfin gl gl_val exp_val scale_val codes_val lanes_val wide_eq)

variable (m : (ℓ : Loc nD τ sig) → Buf (Elt Ideal) ℓ) (c : Dev nD)

theorem idx_inj4 : ∀ t t' : Fin cfg0.N, win0_4.index t = win0_4.index t' → t = t' :=
  (by decide +kernel : ∀ t t' : Fin grid0.N, win0_4.index t = win0_4.index t' → t = t')
theorem idx_inj5 : ∀ t t' : Fin cfg0.N, win0_5.index t = win0_5.index t' → t = t' :=
  (by decide +kernel : ∀ t t' : Fin grid0.N, win0_5.index t = win0_5.index t' → t = t')
theorem idx_inj6 : ∀ t t' : Fin cfg0.N, win0_6.index t = win0_6.index t' → t = t' :=
  (by decide +kernel : ∀ t t' : Fin grid0.N, win0_6.index t = win0_6.index t' → t = t')

theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- Every row lies in some point's block. -/
theorem point (R : Fin 5120) : ∃ t : Fin grid0.N, (grid0.coords t 0).val = R.val / 512 := by
  have h : ∀ a : Fin 10, ∃ t : Fin grid0.N, (grid0.coords t 0).val = a.val := by decide +kernel
  exact h ⟨R.val / 512, by omega⟩

/-- The activations are finite, and small enough that no scale overflows. -/
def Bounded (x : Fin 5120 → Fin 3072 → EReal) : Prop := ∀ R k, max (x R k) (-(x R k)) ≤ Ideal.ofBits .f32 0x7F7FC99E#32

theorem amax_blk (t : Fin grid0.N) (r : Fin 512) : Scale.amax (fun k => iblk m c 1 t (ix2 r k)) = Scale.amax (aX m c (row t r)) :=
  congrArg Scale.amax (funext fun k => blk1 m c t r k)

variable (hb : Bounded (aX m c))

include hb in
theorem scale_blk (t : Fin grid0.N) (r : Fin 512) : (k0_pay6 (iblk m c 1 t) (ix2 r 0) : EReal) = QuantSpec.scale (aX m c (row t r)) := by
  rw [scale_val, amax_blk]
  obtain ⟨a, ha, e⟩ := Scale.amax_real (aX m c (row t r)) (hb (row t r))
  unfold QuantSpec.scale
  rw [e, Scale.scale_eq a ha]

include hb in
theorem codes_blk (t : Fin grid0.N) (r : Fin 512) (k : Fin 3072) : (k0_pay8 (k0_pay7 (iblk m c 1 t)) (ix2 r k) : EReal) = QuantSpec.code (aX m c (row t r)) k := by
  rw [codes_val, amax_blk, blk1]
  obtain ⟨a, ha, e⟩ := Scale.amax_real (aX m c (row t r)) (hb (row t r))
  unfold QuantSpec.code
  rw [e, Scale.inv_eq a ha]

include hb in
theorem g_blk (hs : Words.Small (aS m c 0) (aS m c 1) (aS m c 2) (aS m c 3)) (t : Fin grid0.N) (r : Fin 512) (o : Fin 256) :
    (gfin (grid0.coords t) (iblk m c 0 t) (iblk m c 1 t) (iblk m c 2 t) (iblk m c 3 t) (fun _ => (0 : EReal)) (ix2 r o) : EReal)
      = QuantSpec.g (aS m c) (aX m c) (aV m c) (aSig m c) (row t r) o := by
  unfold gfin
  rw [blk0, blk0, blk0, blk0]
  rw [gl_val _ _ _ _ _ hs]
  unfold Quant.entry QuantSpec.g QuantSpec.entry
  rw [scale_blk m c hb, blk3]
  refine congrArg (fun q : EReal => q * _ * _) (Finset.sum_congr rfl fun j _ => ?_)
  rw [blk2]
  refine congrArg (fun q : EReal => q * _) ?_
  exact (congrFun (wide_eq _) _).trans (codes_blk m c hb t r j)

include hb in
/-- The codes. -/
theorem arr4 (R : Fin 5120) (k : Fin 3072) : (dats m 0 c).arrAt 4 cfg0.N (ix2 R k) = QuantSpec.code (aX m c R) k := by
  obtain ⟨t, h0⟩ := point R
  have h := idx4 t
  have hf : ∀ t : Fin cfg0.N, (cfg0.win 4).flush t = true := by decide +kernel
  have e := (dats m 0 c).arrAt_emb_eq_flushed 4 disjoint4 t (hf t) (ix2 (⟨R.val % 512, by omega⟩ : Fin 512) k)
  have e' : ((cfg0.win 4).blk t).view.emb (ix2 (⟨R.val % 512, by omega⟩ : Fin 512) k) = ix2 R k := by
    show (win0_4.rect t).emb _ = _
    funext a
    refine Fin.ext ?_
    rw [Pipeline.Window.rect_emb_val win0_4]
    fin_cases a
    · show win0_4.index t 0 * 512 + R.val % 512 = R.val; omega
    · show win0_4.index t 1 * 3072 + k.val = k.val; omega
  rw [e'] at e
  refine e.trans ?_
  show (cfg0.win 4).cut (grid0.coords t) ((dats m 0 c).after 4 t) _ = _
  rw [after0_4]
  have v := codes_blk m c hb t ⟨R.val % 512, by omega⟩ k
  have er : row t ⟨R.val % 512, by omega⟩ = R := Fin.ext (by show 512 * (grid0.coords t 0).val + R.val % 512 = R.val; omega)
  rw [er] at v
  generalize k0_pay8 (k0_pay7 (iblk m c 1 t)) = X at v ⊢
  exact v

include hb in
/-- The scales. -/
theorem arr5 (R : Fin 5120) (l : Fin 128) : (dats m 0 c).arrAt 5 cfg0.N (ix2 R l) = QuantSpec.scale (aX m c R) := by
  obtain ⟨t, h0⟩ := point R
  have h := idx5 t
  have hf : ∀ t : Fin cfg0.N, (cfg0.win 5).flush t = true := by decide +kernel
  have e := (dats m 0 c).arrAt_emb_eq_flushed 5 disjoint5 t (hf t) (ix2 (⟨R.val % 512, by omega⟩ : Fin 512) l)
  have e' : ((cfg0.win 5).blk t).view.emb (ix2 (⟨R.val % 512, by omega⟩ : Fin 512) l) = ix2 R l := by
    show (win0_5.rect t).emb _ = _
    funext a
    refine Fin.ext ?_
    rw [Pipeline.Window.rect_emb_val win0_5]
    fin_cases a
    · show win0_5.index t 0 * 512 + R.val % 512 = R.val; omega
    · show win0_5.index t 1 * 128 + l.val = l.val; omega
  rw [e'] at e
  refine e.trans ?_
  show (cfg0.win 5).cut (grid0.coords t) ((dats m 0 c).after 5 t) _ = _
  rw [after0_5]
  have v := (lanes_val (k0_pay6 (iblk m c 1 t)) ⟨R.val % 512, by omega⟩ l).trans (scale_blk m c hb t ⟨R.val % 512, by omega⟩)
  have er : row t ⟨R.val % 512, by omega⟩ = R := Fin.ext (by show 512 * (grid0.coords t 0).val + R.val % 512 = R.val; omega)
  rw [er] at v
  generalize k0_pay9 (k0_pay6 (iblk m c 1 t)) = X at v ⊢
  exact v

include hb in
/-- The rows of `g`. -/
theorem arr6 (hs : Words.Small (aS m c 0) (aS m c 1) (aS m c 2) (aS m c 3)) (R : Fin 5120) (o : Fin 256) :
    (dats m 0 c).arrAt 6 cfg0.N (ix2 R o) = QuantSpec.g (aS m c) (aX m c) (aV m c) (aSig m c) R o := by
  obtain ⟨t, h0⟩ := point R
  have h := idx6 t
  have hf : ∀ t : Fin cfg0.N, (cfg0.win 6).flush t = true := by decide +kernel
  have e := (dats m 0 c).arrAt_emb_eq_flushed 6 disjoint6 t (hf t) (ix2 (⟨R.val % 512, by omega⟩ : Fin 512) o)
  have e' : ((cfg0.win 6).blk t).view.emb (ix2 (⟨R.val % 512, by omega⟩ : Fin 512) o) = ix2 R o := by
    show (win0_6.rect t).emb _ = _
    funext a
    refine Fin.ext ?_
    rw [Pipeline.Window.rect_emb_val win0_6]
    fin_cases a
    · show win0_6.index t 0 * 512 + R.val % 512 = R.val; omega
    · show win0_6.index t 1 * 256 + o.val = o.val; omega
  rw [e'] at e
  refine e.trans ?_
  show (cfg0.win 6).cut (grid0.coords t) ((dats m 0 c).after 6 t) _ = _
  rw [after0_6]
  have v := g_blk m c hb hs t ⟨R.val % 512, by omega⟩ o
  have er : row t ⟨R.val % 512, by omega⟩ = R := Fin.ext (by show 512 * (grid0.coords t 0).val + R.val % 512 = R.val; omega)
  rw [er] at v
  generalize gfin (grid0.coords t) (iblk m c 0 t) (iblk m c 1 t) (iblk m c 2 t) (iblk m c 3 t) (fun _ => (0 : EReal)) = X at v ⊢
  exact v

end Cert.QuantKernelIdeal.QuantV

end
-- ==== Proof.QuantHost.lean ====
/-
  The host code of the quantiser's reference at the ideal instance: the row scale, the scaled and clipped activations and
  the mask of tenants, element by element.  The line is read in two parts, at the row maximum.
-/
module

public import proofs.«01_k».proof.Proof.Spec
public import proofs.«01_k».proof.Proof.Scale
public import proofs.«01_k».proof.Proof.Gen.QuantReferenceIdeal.Value
public import Idealize.ShloMosaic.Lib.Tactic
public import Idealize.ShloMosaic.Lib.VecWindow
public import Idealize.ShloMosaic.Lib.Pointwise
public import Idealize.ShloMosaic.Lib.StableHlo.ReadAt

@[expose] public section

noncomputable section

namespace Cert.QuantReferenceIdeal.Ref

open Idealize.ShloMosaic Idealize.ShloMosaic.TcCoe Idealize.SL.Sem
open Cert.QuantReferenceIdeal Cert.QuantReferenceIdeal.Gen

/-- The operations before the region, as far as the scaled row maximum, and the rest. -/
abbrev ops : List (HloOp τ sig (Elt Ideal)) := List.flatten [hostOps0, hostOps0_1, hostOps0_2, hostOps0_3, hostOps0_4, hostOps0_5, hostOps0_6]
abbrev head : List (HloOp τ sig (Elt Ideal)) := ops.take 9
abbrev tail : List (HloOp τ sig (Elt Ideal)) := ops.drop 9

theorem after_append (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => exact ih _

variable (W : Valuation τ sig (Elt Ideal))

theorem head_x (R : Fin 5120) (k : Fin 3072) : StableHlo.after head W main_v1 (ix2 R k)
    = W main_arg1 (ix3 (⟨R.val / 2560, by omega⟩ : Fin 2) (⟨R.val % 2560, by omega⟩ : Fin 2560) k) := by
  unfold head ops
  simp only [hostOps0, List.flatten_cons, List.cons_append, List.take_succ_cons, List.take_zero]
  after_reads_at

theorem const_at {s : Shape} (φ : FTy) (b : BitVec φ.bits) (j : s.Idx) : (constant s φ b : FVec Ideal s φ) j = Ideal.ofBits φ b := rfl

theorem id_const_at {s : Shape} (φ : FTy) (b : BitVec φ.bits) (j : s.Idx) : (id (constant s φ b : FVec Ideal s φ)) j = Ideal.ofBits φ b := rfl

theorem abs_at {s : Shape} (x : FVec Ideal s .f32) (j : s.Idx) : (Host.absf x j : EReal) = max (x j) (-(x j)) := rfl

theorem rowMax (x : FVec Ideal S5120x3072 .f32) (v : FVec Ideal S_ .f32) (R : Fin 5120) :
    Host.reduce FloatOps.maximumf x v reducesTo_S5120x3072_S5120_d1 h_S_ (ix1 R) = Finset.fold max (v ix0) (fun k => x (ix2 R k)) Finset.univ := by
  have e : Shape.Idx.first h_S_ = ix0 := funext fun a => a.elim0
  rw [← e]
  pointwise

theorem mulAt (q : FVec Ideal S5120 .f32) (b : BitVec 32) (R : Fin 5120) : (mulf (F := Ideal) (φ := .f32) (broadcastInDim S5120x1 ![0] bcast_S5120_S5120x1_0 q)
      (broadcastInDim S5120x1 ![] bcast_S_S5120x1 (constant S_ FTy.f32 b)) (ix2 R 0) : EReal) = (show EReal from q (ix1 R)) * Ideal.ofBits .f32 b := by
  pointwise

theorem foldAt (x : FVec Ideal S5120x3072 .f32) (a : EReal) (R : Fin 5120) :
    (Finset.fold max (show Ideal .f32 from a) (fun k => Host.absf x (ix2 R k)) Finset.univ : Ideal .f32) = (Finset.fold max a (fun k => max (show EReal from x (ix2 R k)) (-(show EReal from x (ix2 R k)))) Finset.univ : EReal) := by
  exact Finset.fold_congr fun k _ => abs_at x _

theorem maxAt (x : FVec Ideal S5120x3072 .f32) (a b : BitVec 32) (R : Fin 5120) :
    mulf (broadcastInDim S5120x1 ![0] bcast_S5120_S5120x1_0 (Host.reduce FloatOps.maximumf (Host.absf x) (constant S_ FTy.f32 a) reducesTo_S5120x3072_S5120_d1 h_S_))
      (broadcastInDim S5120x1 ![] bcast_S_S5120x1 (constant S_ FTy.f32 b)) (ix2 R 0)
      = (show EReal from Finset.fold max (show Ideal .f32 from Ideal.ofBits .f32 a) (fun k => Host.absf x (ix2 R k)) Finset.univ) * Ideal.ofBits .f32 b := by
  rw [mulAt, rowMax, const_at]

theorem amaxAt (x : FVec Ideal S5120x3072 .f32) (R : Fin 5120) :
    mulf (broadcastInDim S5120x1 ![0] bcast_S5120_S5120x1_0 (Host.reduce FloatOps.maximumf (Host.absf x) (constant S_ FTy.f32 0xFF800000#32) reducesTo_S5120x3072_S5120_d1 h_S_))
      (broadcastInDim S5120x1 ![] bcast_S_S5120x1 (constant S_ FTy.f32 0x3B124925#32)) (ix2 R 0) = Scale.amax (fun k => x (ix2 R k)) := by
  rw [maxAt, foldAt, Scale.bot_f32]
  unfold Scale.amax
  rfl

theorem head_max (R : Fin 5120) : StableHlo.after head W main_v6 (ix2 R 0)
    = Scale.amax (fun k => W main_arg1 (ix3 (⟨R.val / 2560, by omega⟩ : Fin 2) (⟨R.val % 2560, by omega⟩ : Fin 2560) k)) := by
  unfold head ops
  simp only [hostOps0, List.flatten_cons, List.cons_append, List.take_succ_cons, List.take_zero]
  after_reads_simp
  refine (amaxAt _ R).trans (congrArg Scale.amax (funext fun k => ?_))
  generalize W main_arg1 = X
  pointwise

theorem tail_scale (R : Fin 5120) : StableHlo.after tail W main_v18 (ix2 R 0)
    = Ideal.pow (Ideal.ofBits .f32 0x40000000#32) (Scale.expo (W main_v6 (ix2 R 0))) := by
  unfold tail ops
  simp only [hostOps0, hostOps0_1, hostOps0_2, hostOps0_3, hostOps0_4, hostOps0_5, hostOps0_6, List.flatten_cons, List.flatten_nil, List.append_nil, List.cons_append, List.nil_append, List.drop_succ_cons, List.drop_zero]
  after_reads_at
  unfold Scale.expo
  simp only [id_const_at]

theorem tail_codes (R : Fin 5120) (k : Fin 3072) : StableHlo.after tail W main_v24 (ix2 R k)
    = min (Ideal.ofBits .f32 0x43E00000#32) (max (Ideal.ofBits .f32 0xC3E00000#32)
      ((show EReal from W main_v1 (ix2 R k)) * Ideal.pow (Ideal.ofBits .f32 0x40000000#32) (-Scale.expo (W main_v6 (ix2 R 0))))) := by
  unfold tail ops
  simp only [hostOps0, hostOps0_1, hostOps0_2, hostOps0_3, hostOps0_4, hostOps0_5, hostOps0_6, List.flatten_cons, List.flatten_nil, List.append_nil, List.cons_append, List.nil_append, List.drop_succ_cons, List.drop_zero]
  after_reads_at
  unfold Scale.expo
  simp only [id_const_at]

variable (m : (ℓ : Loc nD τ sig) → Buf (Elt Ideal) ℓ) (c : Dev nD)

theorem V_split (b : Ref sig .tc) : V m c b = StableHlo.after tail (StableHlo.after head fun b => m (c, b)) b := by
  rw [← after_append, List.take_append_drop]

/-- The arguments by their coordinates. -/
abbrev aS (n : Fin 5) : BitVec 32 := m ((c : Thread nD τ).loc main_arg0) (ix1 n)
abbrev aX (R : Fin 5120) (k : Fin 3072) : EReal := m ((c : Thread nD τ).loc main_arg1) (ix3 (⟨R.val / 2560, by omega⟩ : Fin 2) (⟨R.val % 2560, by omega⟩ : Fin 2560) k)
abbrev aV (n : Fin 5) (k : Fin 3072) (o : Fin 256) : EReal := m ((c : Thread nD τ).loc main_arg2) (ix3 n k o)
abbrev aSig (n : Fin 5) (o : Fin 256) : EReal := m ((c : Thread nD τ).loc main_arg3) (ix2 n o)

theorem V_scale (R : Fin 5120) : V m c main_v18 (ix2 R 0)
    = Ideal.pow (Ideal.ofBits .f32 0x40000000#32) (Scale.expo (Scale.amax (aX m c R))) := by
  rw [V_split, tail_scale, head_max]

theorem V_codes (R : Fin 5120) (k : Fin 3072) : V m c main_v24 (ix2 R k)
    = min (Ideal.ofBits .f32 0x43E00000#32) (max (Ideal.ofBits .f32 0xC3E00000#32)
      (aX m c R k * Ideal.pow (Ideal.ofBits .f32 0x40000000#32) (-Scale.expo (Scale.amax (aX m c R))))) := by
  rw [V_split, tail_codes, head_max, head_x]

theorem V_keep (h : Spec.Partition (aS m c)) (R : Fin 5120) (n : Fin 5) :
    V m c main_v46 (ix2 R n) = if Spec.tenant (aS m c) R = n then 1#32 else 0#32 := by
  rw [← Spec.mask_eq h]
  unfold V
  after_reads_at
  rfl

end Cert.QuantReferenceIdeal.Ref

end
-- ==== Proof.QuantReference.lean ====
/-
  The quantiser's reference at the ideal instance: its three result arrays, element by element, in terms of its four
  argument arrays.
-/
module

public import proofs.«01_k».proof.Proof.QuantSpec
public import proofs.«01_k».proof.Proof.QuantHost

@[expose] public section

noncomputable section

namespace Cert.QuantReferenceIdeal.Ref

open Idealize.ShloMosaic Idealize.ShloMosaic.TcCoe Idealize.SL.Sem
open Cert.QuantReferenceIdeal Cert.QuantReferenceIdeal.Gen

/-- The one grid point. -/
abbrev t0_0 : Fin cfg0.N := ⟨0, by decide⟩

theorem hz : (![0, 0] : Fin 2 → Nat) = fun _ => 0 := funext fun a => by fin_cases a <;> rfl

section
variable (x0 : Vec Ideal S5120x3072 .f32) (x1 : Vec Ideal S5120x1 .f32) (x2 : Vec Ideal S5120x5 .i32) (x3 : Vec Ideal S5x256 .f32) (x4 : Vec Ideal S5x3072x256 .bf16)

theorem out5_val (R : Fin 5120) (k : Fin 3072) : (out0_5 x0 x1 x2 x3 x4 (ix2 R k) : EReal) = x0 (ix2 R k) := by
  unfold_out out0_5
  rw [View.canon_unit_zero hz]
  unfold_payloads
  pointwise

theorem out6_val (R : Fin 5120) (l : Fin 128) : out0_6 x0 x1 x2 x3 x4 (ix2 R l) = x1 (ix2 R 0) := by
  unfold_out out0_6
  rw [View.canon_unit_zero hz]
  unfold_payloads
  pointwise

/-- Tenant `n`'s masked product and its masked singular value. -/
abbrev part (R : Fin 5120) (O : Fin 256) (n : Fin 5) : EReal :=
  Scalar.select (IntOp.cmpi .eq (x2 (ix2 R n)) 1#32) (∑ j : Fin 3072, (show EReal from x0 (ix2 R j)) * x4 (ix3 n j O)) (0 : EReal)
abbrev partS (R : Fin 5120) (O : Fin 256) (n : Fin 5) : EReal :=
  Scalar.select (IntOp.cmpi .eq (x2 (ix2 R n)) 1#32) (x3 (ix2 n O)) (0 : EReal)

theorem out7_val (R : Fin 5120) (O : Fin 256) : (out0_7 x0 x1 x2 x3 x4 (ix2 R O) : EReal)
    = (part x0 x2 x4 R O 0 + part x0 x2 x4 R O 1 + part x0 x2 x4 R O 2 + part x0 x2 x4 R O 3 + part x0 x2 x4 R O 4) * x1 (ix2 R 0)
      * (partS x2 x3 R O 0 + partS x2 x3 R O 1 + partS x2 x3 R O 2 + partS x2 x3 R O 3 + partS x2 x3 R O 4) := by
  unfold_out out0_7
  rw [View.canon_unit_zero hz]
  unfold_payloads
  pointwise
end

variable (m : (ℓ : Loc nD τ sig) → Buf (Elt Ideal) ℓ) (c : Dev nD)

theorem blk0 (R : Fin 5120) (k : Fin 3072) : iblk m c 0 t0_0 (ix2 R k) = QuantSpec.code (aX m c R) k := by
  show V m c main_v24 ((win0_0.rect t0_0).emb (ix2 R k)) = _
  refine Eq.trans ?_ (V_codes m c R k)
  congr 1
  funext a
  refine Fin.ext ?_
  rw [Pipeline.Window.rect_emb_val win0_0]
  fin_cases a
  · show 0 * 5120 + R.val = R.val; omega
  · show 0 * 3072 + k.val = k.val; omega

theorem V_scale' (R : Fin 5120) (z : Fin 1) : V m c main_v18 (ix2 R z) = QuantSpec.scale (aX m c R) := by
  obtain rfl : z = 0 := Subsingleton.elim _ _
  rw [V_scale, QuantSpec.scale]

/-- The scales' block, whatever the arrays hold. -/
theorem read1 (W : (b : Ref sig .tc) → Buf (Elt Ideal) ((c : Thread nD τ).loc b)) (R : Fin 5120) (z : Fin 1) (q : EReal) (hV : W main_v18 (ix2 R z) = q) : ((cfg0.win 1).blk t0_0).view.read (Elt Ideal) (W (Pipeline.arrRef spec0 1)) (ix2 R z) = q := by
  subst hV
  show W main_v18 ((win0_1.rect t0_0).emb (ix2 R z)) = _
  congr 1
  funext a
  refine Fin.ext ?_
  rw [Pipeline.Window.rect_emb_val win0_1]
  fin_cases a
  · show 0 * 5120 + R.val = R.val; omega
  · show 0 * 1 + z.val = z.val; omega

theorem blk1_of (R : Fin 5120) (z : Fin 1) (q : EReal) (hV : V m c main_v18 (ix2 R z) = q) : iblk m c 1 t0_0 (ix2 R z) = q := by
  unfold iblk
  exact read1 c (V m c) R z q hV

theorem blk1 (R : Fin 5120) (z : Fin 1) : iblk m c 1 t0_0 (ix2 R z) = QuantSpec.scale (aX m c R) := blk1_of m c R z _ (V_scale' m c R z)

theorem blk2 (h : Spec.Partition (aS m c)) (R : Fin 5120) (n : Fin 5) : iblk m c 2 t0_0 (ix2 R n) = if Spec.tenant (aS m c) R = n then 1#32 else 0#32 := by
  show V m c main_v46 ((win0_2.rect t0_0).emb (ix2 R n)) = _
  rw [← V_keep m c h]
  congr 1
  funext a
  refine Fin.ext ?_
  rw [Pipeline.Window.rect_emb_val win0_2]
  fin_cases a
  · show 0 * 5120 + R.val = R.val; omega
  · show 0 * 5 + n.val = n.val; omega

theorem blk3 (n : Fin 5) (o : Fin 256) : iblk m c 3 t0_0 (ix2 n o) = aSig m c n o := by
  show V m c main_arg3 ((win0_3.rect t0_0).emb (ix2 n o)) = _
  rw [V_main_arg3]
  congr 1
  funext a
  refine Fin.ext ?_
  rw [Pipeline.Window.rect_emb_val win0_3]
  fin_cases a
  · show 0 * 5 + n.val = n.val; omega
  · show 0 * 256 + o.val = o.val; omega

theorem blk4 (n : Fin 5) (k : Fin 3072) (o : Fin 256) : iblk m c 4 t0_0 (ix3 n k o) = aV m c n k o := by
  show V m c main_arg2 ((win0_4.rect t0_0).emb (ix3 n k o)) = _
  rw [V_main_arg2]
  congr 1
  funext a
  refine Fin.ext ?_
  rw [Pipeline.Window.rect_emb_val win0_4]
  fin_cases a
  · show 0 * 5 + n.val = n.val; omega
  · show 0 * 3072 + k.val = k.val; omega
  · show 0 * 256 + o.val = o.val; omega

/-- Of five summands of which all but one are zero, the one remains. -/
theorem five (n : Fin 5) (f : Fin 5 → EReal) :
    (if n = 0 then f 0 else 0) + (if n = 1 then f 1 else 0) + (if n = 2 then f 2 else 0) + (if n = 3 then f 3 else 0) + (if n = 4 then f 4 else 0) = f n := by
  match n with
  | 0 => simp
  | 1 => simp
  | 2 => simp
  | 3 => simp
  | 4 => simp

variable (h : Spec.Partition (aS m c))

include h in
theorem part_val (R : Fin 5120) (O : Fin 256) (n : Fin 5) : part (iblk m c 0 t0_0) (iblk m c 2 t0_0) (iblk m c 4 t0_0) R O n
    = if Spec.tenant (aS m c) R = n then (∑ j : Fin 3072, QuantSpec.code (aX m c R) j * aV m c n j O) else 0 := by
  have e : (∑ j : Fin 3072, (show EReal from iblk m c 0 t0_0 (ix2 R j)) * (show EReal from iblk m c 4 t0_0 (ix3 n j O))) = ∑ j : Fin 3072, QuantSpec.code (aX m c R) j * aV m c n j O :=
    Finset.sum_congr rfl fun j _ => by rw [blk0, blk4]
  unfold part
  rw [blk2 m c h, e]
  split_ifs <;> rfl

include h in
theorem partS_val (R : Fin 5120) (O : Fin 256) (n : Fin 5) : partS (iblk m c 2 t0_0) (iblk m c 3 t0_0) R O n
    = if Spec.tenant (aS m c) R = n then aSig m c n O else 0 := by
  unfold partS
  rw [blk2 m c h, blk3]
  split_ifs <;> rfl

/-- The codes. -/
theorem arr5 (R : Fin 5120) (k : Fin 3072) : (dats m 0 c).arrAt 5 cfg0.N (ix2 R k) = QuantSpec.code (aX m c R) k := by
  have e := (dats m 0 c).arrAt_emb_eq_flushed 5 Value.disjoint5 t0_0 (by decide) (ix2 R k)
  have e' : ((cfg0.win 5).blk t0_0).view.emb (ix2 R k) = ix2 R k := by
    show (win0_5.rect t0_0).emb _ = _
    funext a
    refine Fin.ext ?_
    rw [Pipeline.Window.rect_emb_val win0_5]
    fin_cases a
    · show 0 * 5120 + R.val = R.val; omega
    · show 0 * 3072 + k.val = k.val; omega
  rw [e'] at e
  refine e.trans ?_
  rw [Value.flushed5]
  have v := out5_val (iblk m c 0 t0_0) (iblk m c 1 t0_0) (iblk m c 2 t0_0) (iblk m c 3 t0_0) (iblk m c 4 t0_0) R k
  generalize out0_5 (iblk m c 0 t0_0) (iblk m c 1 t0_0) (iblk m c 2 t0_0) (iblk m c 3 t0_0) (iblk m c 4 t0_0) = X at v ⊢
  show X (ix2 R k) = _
  exact v.trans (blk0 m c R k)

/-- The scales, one for each row, the same on every lane. -/
theorem arr6 (R : Fin 5120) (l : Fin 128) : (dats m 0 c).arrAt 6 cfg0.N (ix2 R l) = QuantSpec.scale (aX m c R) := by
  have e := (dats m 0 c).arrAt_emb_eq_flushed 6 Value.disjoint6 t0_0 (by decide) (ix2 R l)
  have e' : ((cfg0.win 6).blk t0_0).view.emb (ix2 R l) = ix2 R l := by
    show (win0_6.rect t0_0).emb _ = _
    funext a
    refine Fin.ext ?_
    rw [Pipeline.Window.rect_emb_val win0_6]
    fin_cases a
    · show 0 * 5120 + R.val = R.val; omega
    · show 0 * 128 + l.val = l.val; omega
  rw [e'] at e
  refine e.trans ?_
  rw [Value.flushed6]
  have v := out6_val (iblk m c 0 t0_0) (iblk m c 1 t0_0) (iblk m c 2 t0_0) (iblk m c 3 t0_0) (iblk m c 4 t0_0) R l
  generalize out0_6 (iblk m c 0 t0_0) (iblk m c 1 t0_0) (iblk m c 2 t0_0) (iblk m c 3 t0_0) (iblk m c 4 t0_0) = X at v ⊢
  show X (ix2 R l) = _
  exact v.trans (blk1 m c R 0)

include h in
/-- The rows of `g`. -/
theorem arr7 (R : Fin 5120) (O : Fin 256) : (dats m 0 c).arrAt 7 cfg0.N (ix2 R O) = QuantSpec.g (aS m c) (aX m c) (aV m c) (aSig m c) R O := by
  have e := (dats m 0 c).arrAt_emb_eq_flushed 7 Value.disjoint7 t0_0 (by decide) (ix2 R O)
  have e' : ((cfg0.win 7).blk t0_0).view.emb (ix2 R O) = ix2 R O := by
    show (win0_7.rect t0_0).emb _ = _
    funext a
    refine Fin.ext ?_
    rw [Pipeline.Window.rect_emb_val win0_7]
    fin_cases a
    · show 0 * 5120 + R.val = R.val; omega
    · show 0 * 256 + O.val = O.val; omega
  rw [e'] at e
  refine e.trans ?_
  rw [Value.flushed7]
  have v := out7_val (iblk m c 0 t0_0) (iblk m c 1 t0_0) (iblk m c 2 t0_0) (iblk m c 3 t0_0) (iblk m c 4 t0_0) R O
  generalize out0_7 (iblk m c 0 t0_0) (iblk m c 1 t0_0) (iblk m c 2 t0_0) (iblk m c 3 t0_0) (iblk m c 4 t0_0) = X at v ⊢
  show X (ix2 R O) = _
  refine v.trans ?_
  rw [part_val m c h, part_val m c h, part_val m c h, part_val m c h, part_val m c h, partS_val m c h, partS_val m c h, partS_val m c h, partS_val m c h, partS_val m c h,
    five (Spec.tenant (aS m c) R) (fun n => ∑ j : Fin 3072, QuantSpec.code (aX m c R) j * aV m c n j O), five (Spec.tenant (aS m c) R) (fun n => aSig m c n O), blk1]
  rfl

end Cert.QuantReferenceIdeal.Ref

end
-- ==== Proof.QuantPre.lean ====
/-
  The precondition of the quantiser's claim, read: the sizes lie between 0 and the number of rows and add up to it, and every
  activation is bounded in absolute value.
-/
module

public import proofs.«01_k».proof.Proof.Spec
public import proofs.«01_k».proof.Proof.Gen.Pre_finite_and_sizes_partition_rows
public import Idealize.ShloMosaic.Lib.ReduceAll
public import Idealize.ShloMosaic.Lib.Pointwise

@[expose] public section

noncomputable section

namespace Cert.QuantPre

open Idealize.ShloMosaic
open Cert.Pre_finite_and_sizes_partition_rows Cert.Pre_finite_and_sizes_partition_rows.Gen

theorem and_one : ∀ a b : BitVec 1, IntOp.andi a b = 1#1 → a = 1#1 ∧ b = 1#1 := by decide

variable (s : IVec S5 32) (x : FVec Ideal S2x2560x3072 .bf16) (v : FVec Ideal S5x3072x256 .bf16) (sg : FVec Ideal S5x256 .f32)
  (h : fn (F := Ideal) s x v sg = fun _ => 1#1)

include h in
theorem partition : Spec.Partition (fun n => s (ix1 n)) := by
  have e := congrFun h ix0
  dsimp only [fn, andi] at e
  obtain ⟨e, _⟩ := and_one _ _ e
  obtain ⟨ea, es⟩ := and_one _ _ e
  have hall : ∀ n : Fin 5, (s (ix1 n)).toNat ≤ 5120 := by
    intro n
    have hn := Host.reduce_andi_all _ _ _ _ _ ea (ix1 n)
    obtain ⟨h1, h2⟩ := and_one _ _ hn
    have h1' := IntOp.cmpi_sge.1 h1
    have h2' := IntOp.cmpi_sle.1 h2
    simp only [broadcastInDim, constantI] at h1' h2'
    have z : (0#32 : BitVec 32).toInt = 0 := rfl
    have z' : (5120#32 : BitVec 32).toInt = 5120 := rfl
    rw [z] at h1'; rw [z'] at h2'
    rw [BitVec.toInt_eq_toNat_cond] at h1' h2'
    split_ifs at h1' h2' <;> omega
  refine ⟨hall, ?_⟩
  have es' := IntOp.cmpi_eq.1 es
  have h0 := hall 0; have h1 := hall 1; have h2 := hall 2; have h3 := hall 3; have h4 := hall 4
  have hf : Host.reduce IntOp.addi s (constantI S_ 32 0#32) reducesTo_S5_S_d0 h_S_ ix0 = s (ix1 0) + (s (ix1 1) + (s (ix1 2) + (s (ix1 3) + (s (ix1 4) + 0#32)))) := by
    pointwise
    rfl
  rw [hf] at es'
  have := congrArg BitVec.toNat es'
  simp only [BitVec.toNat_add, constantI] at this
  have z : (0#32 : BitVec 32).toNat = 0 := rfl
  have z' : (5120#32 : BitVec 32).toNat = 5120 := rfl
  omega

theorem cmpf_le (a : EReal) (b : BitVec 32) (e : FloatOps.cmpf (F := Ideal) (φ := .f32) .ole a (Ideal.ofBits .f32 b) = 1#1) : a ≤ Ideal.ofBits .f32 b := by
  by_contra hn
  have : FloatOps.cmpf (F := Ideal) (φ := .f32) .ole a (Ideal.ofBits .f32 b) = BitVec.ofBool (decide (a ≤ Ideal.ofBits .f32 b)) := rfl
  rw [this, decide_eq_false hn] at e
  exact absurd e (by decide)

include h in
theorem bounded (i : S2x2560x3072.Idx) : max (show EReal from x i) (-(show EReal from x i)) ≤ Ideal.ofBits .f32 0x7F7FC99E#32 := by
  have e := congrFun h ix0
  dsimp only [fn, andi] at e
  obtain ⟨_, eb⟩ := and_one _ _ e
  exact cmpf_le _ _ (Host.reduce_andi_all _ _ _ _ _ eb i)

end Cert.QuantPre

end
-- ==== Proof.Codes.lean ====
/-
  The packed codes of a factor: how the code of one row and column sits in the three byte arrays, and that the words the
  kernel builds hold those codes, one per byte.  Rows go in groups: four to a byte of the 2-bit columns, eight to three bytes
  of the 3-bit columns; the 8-bit columns have a byte per row.
-/
module

public import Idealize.ShloMosaic.Lib.BitcastFour
public import Idealize.ShloMosaic.Lib.BitcastPair
public import Idealize.ShloMosaic.Lib.ValueIdx
public import Mathlib.Data.EReal.Basic
public import Mathlib.Data.EReal.Operations

@[expose] public section

noncomputable section

namespace Cert.Codes

open Idealize.ShloMosaic Idealize.ShloMosaic.ValueIdx

/-- Eight 3-bit codes from their three bytes, lowest byte first. -/
def word (b0 b1 b2 : BitVec 8) : BitVec 32 := b0.setWidth 32 ||| b1.setWidth 32 <<< 8 ||| b2.setWidth 32 <<< 16

/-- Code `k` of the eight in a word, and of the four in a byte. -/
def mid (w : BitVec 32) (k : Nat) : BitVec 32 := w >>> (3 * k) &&& 7#32
def lo (b : BitVec 8) (k : Nat) : BitVec 32 := b.setWidth 32 >>> (2 * k) &&& 3#32

/-- A shift that keeps the sign gives the same code: the code's bits lie below the sign. -/
theorem mid_shift (w : BitVec 32) (k : Nat) (hk : k < 8) : w.sshiftRight (3 * k) &&& 7#32 = mid w k := by
  apply BitVec.eq_of_getLsbD_eq
  intro i hi
  unfold mid
  have h7 : (7#32 : BitVec 32).getLsbD i = decide (i < 3) := by interval_cases i <;> rfl
  simp only [BitVec.getLsbD_and, BitVec.getLsbD_ushiftRight, BitVec.getLsbD_sshiftRight, h7]
  by_cases hi3 : i < 3
  · simp [hi3, show ¬ 32 ≤ i by omega, show 3 * k + i < 32 by omega]
  · simp [hi3]

theorem lo_shift (b : BitVec 8) (k : Nat) (hk : k < 4) : (b.setWidth 32).sshiftRight (2 * k) &&& 3#32 = lo b k := by
  apply BitVec.eq_of_getLsbD_eq
  intro i hi
  unfold lo
  have h3 : (3#32 : BitVec 32).getLsbD i = decide (i < 2) := by interval_cases i <;> rfl
  simp only [BitVec.getLsbD_and, BitVec.getLsbD_ushiftRight, BitVec.getLsbD_sshiftRight, h3]
  by_cases hi2 : i < 2
  · simp [hi2, show ¬ 32 ≤ i by omega, show 2 * k + i < 32 by omega]
  · simp [hi2]

/-! ## The kernel's words -/

/-- Four 2-bit codes of a byte, one to each byte of a word. -/
def spreadLo (b : BitVec 8) : BitVec 32 :=
  let p := b.setWidth 32
  (p ||| p <<< 6 ||| p <<< 12 ||| p <<< 18) &&& 50529027#32

/-- The low twelve bits of a word in its low half and the next twelve in its high half. -/
def halves (w : BitVec 32) : BitVec 32 := (w &&& 4095#32) ||| (w &&& 16773120#32) <<< 4

/-- Four 3-bit codes of a half word, one to each byte of a word. -/
def spreadMid (h : BitVec 16) : BitVec 32 :=
  let m := h.signExtend 32
  let m := (m ||| m <<< 10) &&& 4128831#32
  (m ||| m <<< 5) &&& 117901063#32

/-- Byte `k` of a word, as a word. -/
def byte (w : BitVec 32) (k : Nat) : BitVec 32 := (w.extractLsb' (8 * k) 8).setWidth 32

theorem lo_fin : ∀ (b : Fin 256) (k : Fin 4), byte (spreadLo (BitVec.ofFin b)) k.val = lo (BitVec.ofFin b) k.val := by decide +kernel

theorem byte_lo (b : BitVec 8) (k : Nat) (hk : k < 4) : byte (spreadLo b) k = lo b k := lo_fin b.toFin ⟨k, hk⟩

theorem mid_fin : ∀ (x : Fin 4096) (k : Fin 4), byte (spreadMid ((BitVec.ofFin x : BitVec 12).setWidth 16)) k.val = (BitVec.ofFin x : BitVec 12).setWidth 32 >>> (3 * k.val) &&& 7#32 := by
  decide +kernel

theorem halves_half (w : BitVec 32) (h : Fin 2) : (halves w).extractLsb' (16 * h.val) 16 = (w.extractLsb' (12 * h.val) 12).setWidth 16 := by
  apply BitVec.eq_of_getLsbD_eq
  intro i hi
  unfold halves
  fin_cases h <;> interval_cases i <;> simp [BitVec.getLsbD_extractLsb', BitVec.getLsbD_setWidth, BitVec.getLsbD_or, BitVec.getLsbD_and, BitVec.getLsbD_shiftLeft]

theorem mid_half (w : BitVec 32) (h : Fin 2) (k : Fin 4) : (w.extractLsb' (12 * h.val) 12).setWidth 32 >>> (3 * k.val) &&& 7#32 = mid w (4 * h.val + k.val) := by
  apply BitVec.eq_of_getLsbD_eq
  intro i hi
  unfold mid
  have h7 : (7#32 : BitVec 32).getLsbD i = decide (i < 3) := by interval_cases i <;> rfl
  simp only [BitVec.getLsbD_and, BitVec.getLsbD_ushiftRight, BitVec.getLsbD_setWidth, BitVec.getLsbD_extractLsb', h7]
  by_cases hi3 : i < 3
  · have e : 12 * h.val + (3 * k.val + i) = 3 * (4 * h.val + k.val) + i := by omega
    rw [e]
    simp [hi3, show 3 * k.val + i < 12 by omega, show 3 * k.val + i < 32 by omega]
  · simp [hi3]

theorem byte_mid (w : BitVec 32) (h k : Nat) (hh : h < 2) (hk : k < 4) : byte (spreadMid ((halves w).extractLsb' (16 * h) 16)) k = mid w (4 * h + k) := by
  have e := halves_half w ⟨h, hh⟩
  have f := mid_fin (w.extractLsb' (12 * h) 12).toFin ⟨k, hk⟩
  have g := mid_half w ⟨h, hh⟩ ⟨k, hk⟩
  simp only at e f g
  rw [e]
  exact f.trans g

/-! ## Words and bytes at an index -/

variable {s t : Shape}

theorem bitcast_32_8_ix2 {R r n : Nat} (x : (⟨2, ![r, n]⟩ : Shape).Idx → BitVec 32)
    (h : (⟨2, ![r, n]⟩ : Shape).Bitcasts 32 ⟨2, ![R, n]⟩ 8) (a : Fin R) (l : Fin n) (p : Fin r) (hp : p.val = a.val / 4) :
    bitcast ⟨2, ![R, n]⟩ 8 x h (ix2 a l) = (x (ix2 p l)).extractLsb' (8 * (a.val % 4)) 8 := by
  apply BitVec.eq_of_getLsbD_eq
  intro i hi
  rw [bitcast_getLsbD x h _ i hi (by decide), BitVec.getLsbD_extractLsb']
  have er : (⟨2, ![R, n]⟩ : Shape).row (ix2 a l) = a.val := rfl
  have ep : ((⟨2, ![R, n]⟩ : Shape).row (ix2 a l) * 8 + i) / 32 = p.val := by rw [er]; omega
  have eq : ((⟨2, ![R, n]⟩ : Shape).row (ix2 a l) * 8 + i) % 32 = 8 * (a.val % 4) + i := by rw [er]; omega
  rw [eq]
  simp only [hi, decide_true, Bool.true_and]
  congr 2
  funext c
  match c with
  | ⟨0, _⟩ => exact Fin.ext ((h.srcIdx_row _ _ _ ⟨0, Nat.zero_lt_two⟩ rfl).trans ep)
  | ⟨1, _⟩ => exact Fin.ext (h.srcIdx_other _ _ _ ⟨1, Nat.one_lt_two⟩ (by show ¬ 1 + 2 = 2; omega))

theorem bitcast_32_16_ix2 {R r n : Nat} (x : (⟨2, ![r, n]⟩ : Shape).Idx → BitVec 32)
    (h : (⟨2, ![r, n]⟩ : Shape).Bitcasts 32 ⟨2, ![R, n]⟩ 16) (a : Fin R) (l : Fin n) (p : Fin r) (hp : p.val = a.val / 2) :
    bitcast ⟨2, ![R, n]⟩ 16 x h (ix2 a l) = (x (ix2 p l)).extractLsb' (16 * (a.val % 2)) 16 := by
  rw [bitcast_32_16 x h]
  show (x _).extractLsb' (16 * (a.val % 2)) 16 = _
  congr 2
  funext c
  match c with
  | ⟨0, _⟩ => exact Fin.ext ((h.srcIdx_row _ _ _ ⟨0, Nat.zero_lt_two⟩ rfl).trans hp.symm)
  | ⟨1, _⟩ => exact Fin.ext (h.srcIdx_other _ _ _ ⟨1, Nat.one_lt_two⟩ (by show ¬ 1 + 2 = 2; omega))

/-- A byte of a word of four bytes. -/
theorem byte_hi {R r n : Nat} (x : (⟨2, ![R, n]⟩ : Shape).Idx → BitVec 8)
    (h : (⟨2, ![R, n]⟩ : Shape).Bitcasts 8 ⟨2, ![r, n]⟩ 32) (a : Fin r) (l : Fin n) (p : Fin R) (hp : a.val = p.val / 4) :
    byte (bitcast ⟨2, ![r, n]⟩ 32 x h (ix2 a l)) (p.val % 4) = (x (ix2 p l)).setWidth 32 := by
  unfold byte
  congr 1
  apply BitVec.eq_of_getLsbD_eq
  intro i hi
  rw [BitVec.getLsbD_extractLsb', bitcast_8_32_getLsbD_ix2 x h a l (8 * (p.val % 4) + i) (by omega) p (by omega)]
  simp [hi, show (8 * (p.val % 4) + i) % 8 = i by omega]

/-! ## One code, by its column -/

/-- The code at column `c` of row `k` of a group of eight, from the row's bytes of the 8-bit columns, the group's three bytes of
    the 3-bit columns and the row's four's byte of the 2-bit columns. -/
def code (h : Fin 2 → BitVec 8) (m : Fin 3 → Fin 32 → BitVec 8) (l : Fin 222 → BitVec 8) (k : Nat) (c : Fin 256) : BitVec 32 :=
  if h2 : c.val < 2 then (h ⟨c.val, h2⟩).setWidth 32
  else if h34 : c.val < 34 then mid (word (m 0 ⟨c.val - 2, by omega⟩) (m 1 ⟨c.val - 2, by omega⟩) (m 2 ⟨c.val - 2, by omega⟩)) (k % 8)
  else lo (l ⟨c.val - 34, by omega⟩) (k % 4)

theorem and_lt (x : BitVec 32) (n : Nat) (hn : n < 256) : (x &&& BitVec.ofNat 32 n).toNat < 256 := by
  rw [BitVec.toNat_and]
  refine lt_of_le_of_lt Nat.and_le_right ?_
  rw [BitVec.toNat_ofNat]
  omega

theorem setWidth_lt (b : BitVec 8) : (b.setWidth 32).toNat < 256 := by
  rw [BitVec.toNat_setWidth]
  have := b.isLt
  omega

theorem code_lt (h : Fin 2 → BitVec 8) (m : Fin 3 → Fin 32 → BitVec 8) (l : Fin 222 → BitVec 8) (k : Nat) (c : Fin 256) : (code h m l k c).toNat < 256 := by
  unfold code mid lo
  split
  · exact setWidth_lt _
  · split
    · exact and_lt _ 7 (by decide)
    · exact and_lt _ 3 (by decide)

theorem toInt_of_lt (x : BitVec 32) (h : x.toNat < 256) : x.toInt = x.toNat := by
  rw [BitVec.toInt_eq_toNat_cond, if_pos (by omega)]

/-- The difference of two words that hold bytes is that of the bytes. -/
theorem toInt_sub (x y : BitVec 32) (hx : x.toNat < 256) (hy : y.toNat < 256) : (x - y).toInt = x.toInt - y.toInt := by
  rw [BitVec.toInt_sub, toInt_of_lt x hx, toInt_of_lt y hy, Int.bmod_def]
  split <;> omega

/-- The element a code, its group's zero point and its group's scale stand for. -/
def value (code : BitVec 32) (zero : BitVec 8) (scale : EReal) : EReal :=
  (((code.toInt : ℝ) : EReal) - (((zero.setWidth 32).toInt : ℝ) : EReal)) * scale

theorem value_sub (code : BitVec 32) (zero : BitVec 8) (scale : EReal) (hc : code.toNat < 256) :
    (((code - zero.setWidth 32).toInt : ℝ) : EReal) * scale = value code zero scale := by
  unfold value
  rw [toInt_sub _ _ hc (setWidth_lt zero), Int.cast_sub, EReal.coe_sub]

end Cert.Codes

end
-- ==== Proof.DequantPay.lean ====
/-
  The body of the call that dequantises the factor `v`, at the ideal instance: the element at a row and a column of the block it
  stores, from the five blocks it reads.
-/
module

public import proofs.«01_k».proof.Proof.Codes
public import proofs.«01_k».proof.Proof.Gen.DequantKernelIdeal.Skeleton
public import Idealize.ShloMosaic.Lib.Tactic
public import Idealize.ShloMosaic.Lib.VecWindow
public import Idealize.ShloMosaic.Lib.Pointwise

@[expose] public section

noncomputable section

namespace Cert.DequantKernelIdeal.Dequant

open Idealize.ShloMosaic Idealize.ShloMosaic.TcCoe Idealize.SL.Sem
open Cert.DequantKernelIdeal Cert.DequantKernelIdeal.Gen

theorem hi_val (x : Vec Ideal S1x3072x2 .i8) (r : Fin 3072) (c : Fin 2) : k0_pay2 x (ix2 r c) = x (ix3 0 r c) := by
  unfold_payloads
  pointwise

theorem lo_val (x : Vec Ideal S1x768x222 .i8) (p : Fin 768) (c : Fin 222) : k0_pay4 x (ix2 p c) = (x (ix3 0 p c)).setWidth 32 := by
  unfold_payloads
  pointwise

theorem mid_val (x : Vec Ideal S1x3x384x32 .i8) (p : Fin 768) (c : Fin 32) (q : Fin 384) (hq : q.val = p.val / 2) :
    k0_pay3 x (ix2 p c) = Codes.spreadMid ((Codes.halves (Codes.word (x (ix4 0 0 q c)) (x (ix4 0 1 q c)) (x (ix4 0 2 q c)))).extractLsb' (16 * (p.val % 2)) 16) := by
  unfold_payloads
  pointwise
  generalize hB : bitcast S768x32 16 _ bitcasts_S384x32_w32_S768x32_w16 = B
  have e : B (ix2 p c) = (Codes.halves (Codes.word (x (ix4 0 0 q c)) (x (ix4 0 1 q c)) (x (ix4 0 2 q c)))).extractLsb' (16 * (p.val % 2)) 16 := by
    rw [← hB]
    refine (Codes.bitcast_32_16_ix2 _ _ p c q hq).trans ?_
    congr 1
    pointwise
    rfl
  rw [e]
  rfl

/-- The words of a block's codes, four rows to a word. -/
def words (v1 : IVec S3072x2 8) (v37 : IVec S768x32 32) (v38 : IVec S768x222 32) : IVec S768x256 32 :=
  concatenate S768x256 1 [⟨S768x2, bitcast S768x2 32 v1 bitcasts_S3072x2_w8_S768x2_w32⟩, ⟨S768x32, v37⟩,
    ⟨S768x222, andi (ori (ori (ori v38 (shli v38 (broadcast S768x222 6#32))) (shli v38 (broadcast S768x222 12#32))) (shli v38 (broadcast S768x222 18#32)))
      (broadcast S768x222 50529027#32)⟩] concatenates_S768x2_S768x32_S768x222_S768x256_d1

theorem words_hi (v1 : IVec S3072x2 8) (v37 : IVec S768x32 32) (v38 : IVec S768x222 32) (p : Fin 768) (c : Fin 256) (h2 : c.val < 2) :
    words v1 v37 v38 (ix2 p c) = bitcast S768x2 32 v1 bitcasts_S3072x2_w8_S768x2_w32 (ix2 p ⟨c.val, h2⟩) := by
  unfold words
  generalize bitcast S768x2 32 v1 bitcasts_S3072x2_w8_S768x2_w32 = w
  pointwise
  simp [h2]

theorem words_mid (v1 : IVec S3072x2 8) (v37 : IVec S768x32 32) (v38 : IVec S768x222 32) (p : Fin 768) (c : Fin 256) (h2 : ¬ c.val < 2) (h34 : c.val < 34) :
    words v1 v37 v38 (ix2 p c) = v37 (ix2 p ⟨c.val - 2, by omega⟩) := by
  unfold words
  generalize bitcast S768x2 32 v1 bitcasts_S3072x2_w8_S768x2_w32 = w
  pointwise
  simp [h2, show c.val - 2 < 32 by omega]

theorem words_lo (v1 : IVec S3072x2 8) (v37 : IVec S768x32 32) (v38 : IVec S768x222 32) (p : Fin 768) (c : Fin 256) (h2 : ¬ c.val < 2) (h34 : ¬ c.val < 34) (b : BitVec 8)
    (hb : v38 (ix2 p ⟨c.val - 34, by omega⟩) = b.setWidth 32) : words v1 v37 v38 (ix2 p c) = Codes.spreadLo b := by
  unfold words
  generalize bitcast S768x2 32 v1 bitcasts_S3072x2_w8_S768x2_w32 = w
  pointwise
  simp only [h2, show ¬ c.val - 2 < 32 by omega, dite_false, if_false, Nat.sub_sub, Nat.reduceAdd, hb]
  rfl

theorem code_val (x0 : Vec Ideal S1x3072x2 .i8) (x1 : Vec Ideal S1x3x384x32 .i8) (x2 : Vec Ideal S1x768x222 .i8) (r : Fin 3072) (c : Fin 256) :
    (bitcast S3072x256 8 (words (k0_pay2 x0) (k0_pay3 x1) (k0_pay4 x2)) bitcasts_S768x256_w32_S3072x256_w8 (ix2 r c)).setWidth 32
      = Codes.code (fun c => x0 (ix3 0 r c)) (fun b c => x1 (ix4 0 b ⟨r.val / 8, by omega⟩ c)) (fun c => x2 (ix3 0 ⟨r.val / 4, by omega⟩ c)) r.val c := by
  refine (congrArg (BitVec.setWidth 32) (Codes.bitcast_32_8_ix2 _ _ r c ⟨r.val / 4, by omega⟩ rfl)).trans ?_
  show Codes.byte (words (k0_pay2 x0) (k0_pay3 x1) (k0_pay4 x2) (ix2 (⟨r.val / 4, by omega⟩ : Fin 768) c)) (r.val % 4) = _
  unfold Codes.code
  split
  · next h2 =>
    rw [words_hi _ _ _ _ _ h2]
    refine (Codes.byte_hi (k0_pay2 x0) _ _ _ r rfl).trans ?_
    exact congrArg (BitVec.setWidth 32) (hi_val x0 r ⟨c.val, h2⟩)
  · next h2 =>
    split
    · next h34 =>
      rw [words_mid _ _ _ _ _ h2 h34, mid_val x1 _ _ ⟨r.val / 8, by omega⟩ (by show r.val / 8 = r.val / 4 / 2; omega)]
      show Codes.byte (Codes.spreadMid (BitVec.extractLsb' (16 * (r.val / 4 % 2)) 16 _)) _ = _
      rw [Codes.byte_mid _ _ _ (by omega) (by omega)]
      congr 1
      omega
    · next h34 =>
      rw [words_lo _ _ _ _ _ h2 h34 _ (lo_val x2 _ _), Codes.byte_lo _ _ (by omega)]

theorem out_val (x0 : Vec Ideal S1x3072x2 .i8) (x1 : Vec Ideal S1x3x384x32 .i8) (x2 : Vec Ideal S1x768x222 .i8) (z : Vec Ideal S1x24x256 .i8) (s : Vec Ideal S1x24x256 .f32) (r : Fin 3072) (c : Fin 256) :
    k0_pay1 (F := Ideal) (k0_pay2 x0) (k0_pay3 x1) (k0_pay4 x2) z s (ix3 0 r c)
      = Codes.value (Codes.code (fun c => x0 (ix3 0 r c)) (fun b c => x1 (ix4 0 b ⟨r.val / 8, by omega⟩ c)) (fun c => x2 (ix3 0 ⟨r.val / 4, by omega⟩ c)) r.val c)
        (z (ix3 0 ⟨r.val / 128, by omega⟩ c)) (s (ix3 0 ⟨r.val / 128, by omega⟩ c)) := by
  rw [← code_val]
  unfold words
  generalize k0_pay2 x0 = v1
  generalize k0_pay3 x1 = v37
  generalize k0_pay4 x2 = v38
  unfold k0_pay1
  pointwise
  rfl

end Cert.DequantKernelIdeal.Dequant

end
-- ==== Proof.DequantArrays.lean ====
/-
  The call that dequantises the factor `v`, at the ideal instance: its result array element by element, in terms of the five
  argument arrays.
-/
module

public import proofs.«01_k».proof.Proof.DequantPay
public import proofs.«01_k».proof.Proof.Gen.DequantKernelIdeal.Value
public import Idealize.ShloMosaic.Lib.Pipeline.Value
public import Idealize.ShloMosaic.Lib.StableHlo.ReadAt

@[expose] public section

noncomputable section

namespace Cert.DequantKernelIdeal.Dequant

open Idealize.ShloMosaic Idealize.ShloMosaic.TcCoe Idealize.ShloMosaic.Tactic Idealize.SL.Sem
open Idealize.ShloMosaic.Pipeline (Dat)
open Cert.DequantKernelIdeal Cert.DequantKernelIdeal.Gen

variable (m : (ℓ : Loc nD τ sig) → Buf (Elt Ideal) ℓ) (c : Dev nD)

/-- The five arguments by their coordinates. -/
abbrev aHi (n : Fin 5) (R : Fin 3072) (o : Fin 2) : BitVec 8 := m ((c : Thread nD τ).loc main_arg0) (ix3 n R o)
abbrev aMid (n : Fin 5) (q : Fin 384) (b : Fin 3) (o : Fin 32) : BitVec 8 := m ((c : Thread nD τ).loc main_arg1) (ix4 n q b o)
abbrev aLo (n : Fin 5) (p : Fin 768) (o : Fin 222) : BitVec 8 := m ((c : Thread nD τ).loc main_arg2) (ix3 n p o)
abbrev aScale (n : Fin 5) (g : Fin 24) (o : Fin 256) : EReal := m ((c : Thread nD τ).loc main_arg3) (ix3 n g o)
abbrev aZero (n : Fin 5) (g : Fin 24) (o : Fin 256) : BitVec 8 := m ((c : Thread nD τ).loc main_arg4) (ix3 n g o)

/-! ## Where the blocks sit -/

theorem idx0 : ∀ t : Fin grid0.N, win0_0.index t 0 = t.val ∧ win0_0.index t 1 = 0 ∧ win0_0.index t 2 = 0 := by decide +kernel
theorem idx1 : ∀ t : Fin grid0.N, win0_1.index t 0 = t.val ∧ win0_1.index t 1 = 0 ∧ win0_1.index t 2 = 0 ∧ win0_1.index t 3 = 0 := by decide +kernel
theorem idx2 : ∀ t : Fin grid0.N, win0_2.index t 0 = t.val ∧ win0_2.index t 1 = 0 ∧ win0_2.index t 2 = 0 := by decide +kernel
theorem idx3 : ∀ t : Fin grid0.N, win0_3.index t 0 = t.val ∧ win0_3.index t 1 = 0 ∧ win0_3.index t 2 = 0 := by decide +kernel
theorem idx4 : ∀ t : Fin grid0.N, win0_4.index t 0 = t.val ∧ win0_4.index t 1 = 0 ∧ win0_4.index t 2 = 0 := by decide +kernel
theorem idx5 : ∀ t : Fin grid0.N, win0_5.index t 0 = t.val ∧ win0_5.index t 1 = 0 ∧ win0_5.index t 2 = 0 := by decide +kernel

/-- The tenant of point `t`. -/
abbrev tenant (t : Fin grid0.N) : Fin 5 := ⟨t.val, lt_of_lt_of_eq t.isLt (by decide)⟩

theorem blk0 (t : Fin grid0.N) (r : Fin 3072) (o : Fin 2) : iblk m c 0 t (ix3 0 r o) = aHi m c (tenant t) r o := by
  have h := idx0 t
  show V m c main_arg0 ((win0_0.rect t).emb (ix3 0 r o)) = _
  rw [V_main_arg0]
  congr 1
  funext a
  refine Fin.ext ?_
  rw [Pipeline.Window.rect_emb_val win0_0]
  fin_cases a
  · show win0_0.index t 0 * 1 + 0 = t.val; omega
  · show win0_0.index t 1 * 3072 + r.val = r.val; omega
  · show win0_0.index t 2 * 2 + o.val = o.val; omega

/-- The bytes of the 3-bit columns as the call's host code reorders them. -/
theorem V_mid (n : Fin 5) (b : Fin 3) (q : Fin 384) (o : Fin 32) : V m c main_v0 (ix4 n b q o) = aMid m c n q b o := by
  unfold V
  after_reads_at

theorem blk1 (t : Fin grid0.N) (b : Fin 3) (q : Fin 384) (o : Fin 32) : iblk m c 1 t (ix4 0 b q o) = aMid m c (tenant t) q b o := by
  have h := idx1 t
  show V m c main_v0 ((win0_1.rect t).emb (ix4 0 b q o)) = _
  rw [← V_mid]
  congr 1
  funext a
  refine Fin.ext ?_
  rw [Pipeline.Window.rect_emb_val win0_1]
  fin_cases a
  · show win0_1.index t 0 * 1 + 0 = t.val; omega
  · show win0_1.index t 1 * 3 + b.val = b.val; omega
  · show win0_1.index t 2 * 384 + q.val = q.val; omega
  · show win0_1.index t 3 * 32 + o.val = o.val; omega

theorem blk2 (t : Fin grid0.N) (p : Fin 768) (o : Fin 222) : iblk m c 2 t (ix3 0 p o) = aLo m c (tenant t) p o := by
  have h := idx2 t
  show V m c main_arg2 ((win0_2.rect t).emb (ix3 0 p o)) = _
  rw [V_main_arg2]
  congr 1
  funext a
  refine Fin.ext ?_
  rw [Pipeline.Window.rect_emb_val win0_2]
  fin_cases a
  · show win0_2.index t 0 * 1 + 0 = t.val; omega
  · show win0_2.index t 1 * 768 + p.val = p.val; omega
  · show win0_2.index t 2 * 222 + o.val = o.val; omega

theorem blk3 (t : Fin grid0.N) (g : Fin 24) (o : Fin 256) : iblk m c 3 t (ix3 0 g o) = aScale m c (tenant t) g o := by
  have h := idx3 t
  show V m c main_arg3 ((win0_3.rect t).emb (ix3 0 g o)) = _
  rw [V_main_arg3]
  congr 1
  funext a
  refine Fin.ext ?_
  rw [Pipeline.Window.rect_emb_val win0_3]
  fin_cases a
  · show win0_3.index t 0 * 1 + 0 = t.val; omega
  · show win0_3.index t 1 * 24 + g.val = g.val; omega
  · show win0_3.index t 2 * 256 + o.val = o.val; omega

theorem blk4 (t : Fin grid0.N) (g : Fin 24) (o : Fin 256) : iblk m c 4 t (ix3 0 g o) = aZero m c (tenant t) g o := by
  have h := idx4 t
  show V m c main_arg4 ((win0_4.rect t).emb (ix3 0 g o)) = _
  rw [V_main_arg4]
  congr 1
  funext a
  refine Fin.ext ?_
  rw [Pipeline.Window.rect_emb_val win0_4]
  fin_cases a
  · show win0_4.index t 0 * 1 + 0 = t.val; omega
  · show win0_4.index t 1 * 24 + g.val = g.val; omega
  · show win0_4.index t 2 * 256 + o.val = o.val; omega

/-! ## The result -/

theorem hz : (![0, 0, 0] : Fin 3 → Nat) = fun _ => 0 := funext fun a => by fin_cases a <;> rfl
theorem hz4 : (![0, 0, 0, 0] : Fin 4 → Nat) = fun _ => 0 := funext fun a => by fin_cases a <;> rfl

theorem blockOut (x0 : Vec Ideal S1x3072x2 .i8) (x1 : Vec Ideal S1x3x384x32 .i8) (x2 : Vec Ideal S1x768x222 .i8) (x3 : Vec Ideal S1x24x256 .f32) (x4 : Vec Ideal S1x24x256 .i8) (r : Fin 3072) (o : Fin 256) :
    out0_5 (F := Ideal) x0 x1 x2 x3 x4 (ix3 0 r o)
      = Codes.value (Codes.code (fun o => x0 (ix3 0 r o)) (fun b o => x1 (ix4 0 b ⟨r.val / 8, by omega⟩ o)) (fun o => x2 (ix3 0 ⟨r.val / 4, by omega⟩ o)) r.val o)
        (x4 (ix3 0 ⟨r.val / 128, by omega⟩ o)) (x3 (ix3 0 ⟨r.val / 128, by omega⟩ o)) := by
  unfold out0_5
  unfold r0_4
  rw [View.canon_unit_zero hz]
  have e0 : View.ld x0 r0_0 = x0 := View.ld_unit_zero hz _ x0
  have e1 : View.ld x1 r0_1 = x1 := View.ld_unit_zero hz4 _ x1
  have e2 : View.ld x2 r0_2 = x2 := View.ld_unit_zero hz _ x2
  have e3 : View.ld x3 r0_3 = x3 := View.ld_unit_zero hz _ x3
  have e4 : View.ld x4 r0_3 = x4 := View.ld_unit_zero hz _ x4
  rw [e0, e1, e2, e3, e4]
  exact out_val x0 x1 x2 x4 x3 r o

theorem flush_all : ∀ t : Fin cfg0.N, (cfg0.win 5).flush t = true := (by decide +kernel : ∀ t : Fin grid0.N, win0_5.flush t = true)

theorem arr5 (n : Fin 5) (R : Fin 3072) (o : Fin 256) : (dats m 0 c).arrAt 5 cfg0.N (ix3 n R o)
    = Codes.value (Codes.code (aHi m c n R) (aMid m c n ⟨R.val / 8, by omega⟩) (aLo m c n ⟨R.val / 4, by omega⟩) R.val o)
      (aZero m c n ⟨R.val / 128, by omega⟩ o) (aScale m c n ⟨R.val / 128, by omega⟩ o) := by
  obtain ⟨t, ht⟩ : ∃ t : Fin grid0.N, tenant t = n := ⟨⟨n.val, lt_of_lt_of_eq n.isLt (by decide)⟩, rfl⟩
  have h := idx5 t
  have e := (dats m 0 c).arrAt_emb_eq_flushed 5 Value.disjoint5 t (flush_all t) (ix3 0 R o)
  have e' : ((cfg0.win 5).blk t).view.emb (ix3 0 R o) = ix3 n R o := by
    show (win0_5.rect t).emb _ = _
    rw [← ht]
    funext a
    refine Fin.ext ?_
    rw [Pipeline.Window.rect_emb_val win0_5]
    fin_cases a
    · show win0_5.index t 0 * 1 + 0 = t.val; omega
    · show win0_5.index t 1 * 3072 + R.val = R.val; omega
    · show win0_5.index t 2 * 256 + o.val = o.val; omega
  rw [e'] at e
  refine e.trans ?_
  rw [Value.flushed5]
  have v := blockOut (iblk m c 0 t) (iblk m c 1 t) (iblk m c 2 t) (iblk m c 3 t) (iblk m c 4 t) R o
  simp only [blk0, blk1, blk2, blk3, blk4, ht] at v
  generalize out0_5 (iblk m c 0 t) (iblk m c 1 t) (iblk m c 2 t) (iblk m c 3 t) (iblk m c 4 t) = X at v ⊢
  show X (ix3 0 R o) = _
  exact v

end Cert.DequantKernelIdeal.Dequant

end
-- ==== Proof.DequantReference.lean ====
/-
  The reference of the call that dequantises the factor `v`, at the ideal instance: its result array element by element, in
  terms of the five argument arrays.
-/
module

public import proofs.«01_k».proof.Proof.Codes
public import proofs.«01_k».proof.Proof.Gen.DequantReferenceIdeal.Run
public import Idealize.ShloMosaic.Lib.Tactic
public import Idealize.ShloMosaic.Lib.VecWindow
public import Idealize.ShloMosaic.Lib.Pointwise

@[expose] public section

noncomputable section

namespace Cert.DequantReferenceIdeal.Ref

open Idealize.ShloMosaic Idealize.ShloMosaic.TcCoe Idealize.SL.Sem
open Cert.DequantReferenceIdeal Cert.DequantReferenceIdeal.Gen

/-- A code out of its word, as the reference shifts and masks it, and out of its byte. -/
theorem mid_bits (w : BitVec 32) (k : Nat) (hk : k < 8) :
    IntOp.andi (IntOp.shrsi .host w (IntOp.muli 3#32 (BitVec.ofNat 32 k))) 7#32 = Codes.mid w k := by
  have e : IntOp.shrsi .host w (IntOp.muli 3#32 (BitVec.ofNat 32 k)) = w.sshiftRight (3 * k) := by interval_cases k <;> rfl
  rw [e]
  exact Codes.mid_shift w k hk

theorem lo_bits (b : BitVec 8) (k : Nat) (hk : k < 4) :
    IntOp.andi (IntOp.shrsi .host (b.setWidth 32) (IntOp.muli 2#32 (BitVec.ofNat 32 k))) 3#32 = Codes.lo b k := by
  have e : IntOp.shrsi .host (b.setWidth 32) (IntOp.muli 2#32 (BitVec.ofNat 32 k)) = (b.setWidth 32).sshiftRight (2 * k) := by interval_cases k <;> rfl
  rw [e]
  exact Codes.lo_shift b k hk

def words (x1 : IVec S5x384x3x32 8) : IVec S5x384x32 32 :=
  ori (ori (shapeCast _ (extractStridedSlice S5x384x1x32 ![0, 0, 0, 0] (extui 32 x1 natLt_8_32) slices_S5x384x3x32_S5x384x1x32_0_0_0_0) shapeCasts_S5x384x1x32_S5x384x32)
    (Host.shli (shapeCast _ (extractStridedSlice S5x384x1x32 ![0, 0, 1, 0] (extui 32 x1 natLt_8_32) slices_S5x384x3x32_S5x384x1x32_0_0_1_0) shapeCasts_S5x384x1x32_S5x384x32)
      (broadcastInDim S5x384x32 ![] bcast_S_S5x384x32 (constantI S_ 32 8#32))))
    (Host.shli (shapeCast _ (extractStridedSlice S5x384x1x32 ![0, 0, 2, 0] (extui 32 x1 natLt_8_32) slices_S5x384x3x32_S5x384x1x32_0_0_2_0) shapeCasts_S5x384x1x32_S5x384x32)
      (broadcastInDim S5x384x32 ![] bcast_S_S5x384x32 (constantI S_ 32 16#32)))

theorem words_val (x1 : IVec S5x384x3x32 8) (n : Fin 5) (q : Fin 384) (o : Fin 32) :
    words x1 (ix3 n q o) = Codes.word (x1 (ix4 n q 0 o)) (x1 (ix4 n q 1 o)) (x1 (ix4 n q 2 o)) := by
  unfold words
  pointwise
  rfl

def mids (w : IVec S5x384x32 32) : IVec S5x3072x32 32 :=
  shapeCast _ (andi (Host.shrsi (broadcastInDim S5x384x8x32 ![0, 1, 2, 3] bcast_S5x384x1x32_S5x384x8x32_0_1_2_3 (broadcastInDim S5x384x1x32 ![0, 1, 3] bcast_S5x384x32_S5x384x1x32_0_1_3 w))
    (broadcastInDim S5x384x8x32 ![0, 1, 2, 3] bcast_S1x1x8x1_S5x384x8x32_0_1_2_3 (broadcastInDim S1x1x8x1 ![2] bcast_S8_S1x1x8x1_2 (muli (broadcastInDim S8 ![] bcast_S_S8 (constantI S_ 32 3#32)) (iotaInDim S8 32 0)))))
    (broadcastInDim S5x384x8x32 ![] bcast_S_S5x384x8x32 (constantI S_ 32 7#32))) shapeCasts_S5x384x8x32_S5x3072x32

theorem mids_val (w : IVec S5x384x32 32) (n : Fin 5) (R : Fin 3072) (o : Fin 32) :
    mids w (ix3 n R o) = Codes.mid (w (ix3 n ⟨R.val / 8, by omega⟩ o)) (R.val % 8) := by
  unfold mids
  rw [← mid_bits _ _ (by omega)]
  pointwise
  done

def los (x2 : IVec S5x768x222 8) : IVec S5x3072x222 32 :=
  shapeCast _ (andi (Host.shrsi (broadcastInDim S5x768x4x222 ![0, 1, 2, 3] bcast_S5x768x1x222_S5x768x4x222_0_1_2_3 (broadcastInDim S5x768x1x222 ![0, 1, 3] bcast_S5x768x222_S5x768x1x222_0_1_3 (extui 32 x2 natLt_8_32)))
    (broadcastInDim S5x768x4x222 ![0, 1, 2, 3] bcast_S1x1x4x1_S5x768x4x222_0_1_2_3 (broadcastInDim S1x1x4x1 ![2] bcast_S4_S1x1x4x1_2 (muli (broadcastInDim S4 ![] bcast_S_S4 (constantI S_ 32 2#32)) (iotaInDim S4 32 0)))))
    (broadcastInDim S5x768x4x222 ![] bcast_S_S5x768x4x222 (constantI S_ 32 3#32))) shapeCasts_S5x768x4x222_S5x3072x222

theorem los_val (x2 : IVec S5x768x222 8) (n : Fin 5) (R : Fin 3072) (o : Fin 222) :
    los x2 (ix3 n R o) = Codes.lo (x2 (ix3 n ⟨R.val / 4, by omega⟩ o)) (R.val % 4) := by
  unfold los
  rw [← lo_bits _ _ (by omega)]
  pointwise
  done

def codes (x0 : IVec S5x3072x2 8) (x1 : IVec S5x384x3x32 8) (x2 : IVec S5x768x222 8) : IVec S5x3072x256 32 :=
  concatenate S5x3072x256 2 [⟨S5x3072x2, extui 32 x0 natLt_8_32⟩, ⟨S5x3072x32, mids (words x1)⟩, ⟨S5x3072x222, los x2⟩] concatenates_S5x3072x2_S5x3072x32_S5x3072x222_S5x3072x256_d2

theorem codes_val (x0 : IVec S5x3072x2 8) (x1 : IVec S5x384x3x32 8) (x2 : IVec S5x768x222 8) (n : Fin 5) (R : Fin 3072) (o : Fin 256) :
    codes x0 x1 x2 (ix3 n R o)
      = Codes.code (fun o => x0 (ix3 n R o)) (fun b o => x1 (ix4 n ⟨R.val / 8, by omega⟩ b o)) (fun o => x2 (ix3 n ⟨R.val / 4, by omega⟩ o)) R.val o := by
  have hm := mids_val (words x1) n R
  have hl := los_val x2 n R
  simp only [words_val] at hm
  unfold codes Codes.code
  generalize mids (words x1) = M at hm ⊢
  generalize los x2 = L at hl ⊢
  simp only [← hm, ← hl]
  pointwise
  by_cases h2 : o.val < 2
  · simp [h2]
  · by_cases h34 : o.val < 34
    · simp [h2, h34, show o.val - 2 < 32 by omega]
    · simp [h2, h34, show ¬ o.val - 2 < 32 by omega, Nat.sub_sub]

def out (x0 : IVec S5x3072x2 8) (x1 : IVec S5x384x3x32 8) (x2 : IVec S5x768x222 8) (x3 : FVec Ideal S5x24x256 .f32) (x4 : IVec S5x24x256 8) : FVec Ideal S5x3072x256 .bf16 :=
  mulf (sitofp .bf16 (subi (codes x0 x1 x2) (shapeCast _ (broadcastInDim S5x24x128x256 ![0, 1, 3] bcast_S5x24x256_S5x24x128x256_0_1_3 (extui 32 x4 natLt_8_32)) shapeCasts_S5x24x128x256_S5x3072x256)))
    (shapeCast _ (broadcastInDim S5x24x128x256 ![0, 1, 3] bcast_S5x24x256_S5x24x128x256_0_1_3 (truncf .bf16 x3 bitsLt_bf16_f32)) shapeCasts_S5x24x128x256_S5x3072x256)

theorem out_val (x0 : IVec S5x3072x2 8) (x1 : IVec S5x384x3x32 8) (x2 : IVec S5x768x222 8) (x3 : FVec Ideal S5x24x256 .f32) (x4 : IVec S5x24x256 8) (n : Fin 5) (R : Fin 3072) (o : Fin 256) :
    out x0 x1 x2 x3 x4 (ix3 n R o)
      = Codes.value (Codes.code (fun o => x0 (ix3 n R o)) (fun b o => x1 (ix4 n ⟨R.val / 8, by omega⟩ b o)) (fun o => x2 (ix3 n ⟨R.val / 4, by omega⟩ o)) R.val o)
        (x4 (ix3 n ⟨R.val / 128, by omega⟩ o)) (x3 (ix3 n ⟨R.val / 128, by omega⟩ o)) := by
  rw [← Codes.value_sub _ _ _ (Codes.code_lt _ _ _ _ _), ← codes_val]
  unfold out
  generalize codes x0 x1 x2 = C
  pointwise
  rfl

/-- On every device the result is `out` of the arguments, and the arguments are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v46) = out (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Value.run m ρ

end Cert.DequantReferenceIdeal.Ref

end
-- ==== Proof.DequantUPay.lean ====
/-
  The body of the call that dequantises the factor `u`, at the ideal instance: the element at a row and a column of the block it
  stores, from the five blocks it reads.
-/
module

public import proofs.«01_k».proof.Proof.Codes
public import proofs.«01_k».proof.Proof.Gen.DequantUKernelIdeal.Skeleton
public import Idealize.ShloMosaic.Lib.Tactic
public import Idealize.ShloMosaic.Lib.VecWindow
public import Idealize.ShloMosaic.Lib.Pointwise

@[expose] public section

noncomputable section

namespace Cert.DequantUKernelIdeal.Dequant

open Idealize.ShloMosaic Idealize.ShloMosaic.TcCoe Idealize.SL.Sem
open Cert.DequantUKernelIdeal Cert.DequantUKernelIdeal.Gen

theorem hi_val (x : Vec Ideal S1x4096x2 .i8) (r : Fin 4096) (c : Fin 2) : k0_pay2 x (ix2 r c) = x (ix3 0 r c) := by
  unfold_payloads
  pointwise

theorem lo_val (x : Vec Ideal S1x1024x222 .i8) (p : Fin 1024) (c : Fin 222) : k0_pay4 x (ix2 p c) = (x (ix3 0 p c)).setWidth 32 := by
  unfold_payloads
  pointwise

theorem mid_val (x : Vec Ideal S1x3x512x32 .i8) (p : Fin 1024) (c : Fin 32) (q : Fin 512) (hq : q.val = p.val / 2) :
    k0_pay3 x (ix2 p c) = Codes.spreadMid ((Codes.halves (Codes.word (x (ix4 0 0 q c)) (x (ix4 0 1 q c)) (x (ix4 0 2 q c)))).extractLsb' (16 * (p.val % 2)) 16) := by
  unfold_payloads
  pointwise
  generalize hB : bitcast S1024x32 16 _ bitcasts_S512x32_w32_S1024x32_w16 = B
  have e : B (ix2 p c) = (Codes.halves (Codes.word (x (ix4 0 0 q c)) (x (ix4 0 1 q c)) (x (ix4 0 2 q c)))).extractLsb' (16 * (p.val % 2)) 16 := by
    rw [← hB]
    refine (Codes.bitcast_32_16_ix2 _ _ p c q hq).trans ?_
    congr 1
    pointwise
    rfl
  rw [e]
  rfl

/-- The words of a block's codes, four rows to a word. -/
def words (v1 : IVec S4096x2 8) (v37 : IVec S1024x32 32) (v38 : IVec S1024x222 32) : IVec S1024x256 32 :=
  concatenate S1024x256 1 [⟨S1024x2, bitcast S1024x2 32 v1 bitcasts_S4096x2_w8_S1024x2_w32⟩, ⟨S1024x32, v37⟩,
    ⟨S1024x222, andi (ori (ori (ori v38 (shli v38 (broadcast S1024x222 6#32))) (shli v38 (broadcast S1024x222 12#32))) (shli v38 (broadcast S1024x222 18#32)))
      (broadcast S1024x222 50529027#32)⟩] concatenates_S1024x2_S1024x32_S1024x222_S1024x256_d1

theorem words_hi (v1 : IVec S4096x2 8) (v37 : IVec S1024x32 32) (v38 : IVec S1024x222 32) (p : Fin 1024) (c : Fin 256) (h2 : c.val < 2) :
    words v1 v37 v38 (ix2 p c) = bitcast S1024x2 32 v1 bitcasts_S4096x2_w8_S1024x2_w32 (ix2 p ⟨c.val, h2⟩) := by
  unfold words
  generalize bitcast S1024x2 32 v1 bitcasts_S4096x2_w8_S1024x2_w32 = w
  pointwise
  simp [h2]

theorem words_mid (v1 : IVec S4096x2 8) (v37 : IVec S1024x32 32) (v38 : IVec S1024x222 32) (p : Fin 1024) (c : Fin 256) (h2 : ¬ c.val < 2) (h34 : c.val < 34) :
    words v1 v37 v38 (ix2 p c) = v37 (ix2 p ⟨c.val - 2, by omega⟩) := by
  unfold words
  generalize bitcast S1024x2 32 v1 bitcasts_S4096x2_w8_S1024x2_w32 = w
  pointwise
  simp [h2, show c.val - 2 < 32 by omega]

theorem words_lo (v1 : IVec S4096x2 8) (v37 : IVec S1024x32 32) (v38 : IVec S1024x222 32) (p : Fin 1024) (c : Fin 256) (h2 : ¬ c.val < 2) (h34 : ¬ c.val < 34) (b : BitVec 8)
    (hb : v38 (ix2 p ⟨c.val - 34, by omega⟩) = b.setWidth 32) : words v1 v37 v38 (ix2 p c) = Codes.spreadLo b := by
  unfold words
  generalize bitcast S1024x2 32 v1 bitcasts_S4096x2_w8_S1024x2_w32 = w
  pointwise
  simp only [h2, show ¬ c.val - 2 < 32 by omega, dite_false, if_false, Nat.sub_sub, Nat.reduceAdd, hb]
  rfl

theorem code_val (x0 : Vec Ideal S1x4096x2 .i8) (x1 : Vec Ideal S1x3x512x32 .i8) (x2 : Vec Ideal S1x1024x222 .i8) (r : Fin 4096) (c : Fin 256) :
    (bitcast S4096x256 8 (words (k0_pay2 x0) (k0_pay3 x1) (k0_pay4 x2)) bitcasts_S1024x256_w32_S4096x256_w8 (ix2 r c)).setWidth 32
      = Codes.code (fun c => x0 (ix3 0 r c)) (fun b c => x1 (ix4 0 b ⟨r.val / 8, by omega⟩ c)) (fun c => x2 (ix3 0 ⟨r.val / 4, by omega⟩ c)) r.val c := by
  refine (congrArg (BitVec.setWidth 32) (Codes.bitcast_32_8_ix2 _ _ r c ⟨r.val / 4, by omega⟩ rfl)).trans ?_
  show Codes.byte (words (k0_pay2 x0) (k0_pay3 x1) (k0_pay4 x2) (ix2 (⟨r.val / 4, by omega⟩ : Fin 1024) c)) (r.val % 4) = _
  unfold Codes.code
  split
  · next h2 =>
    rw [words_hi _ _ _ _ _ h2]
    refine (Codes.byte_hi (k0_pay2 x0) _ _ _ r rfl).trans ?_
    exact congrArg (BitVec.setWidth 32) (hi_val x0 r ⟨c.val, h2⟩)
  · next h2 =>
    split
    · next h34 =>
      rw [words_mid _ _ _ _ _ h2 h34, mid_val x1 _ _ ⟨r.val / 8, by omega⟩ (by show r.val / 8 = r.val / 4 / 2; omega)]
      show Codes.byte (Codes.spreadMid (BitVec.extractLsb' (16 * (r.val / 4 % 2)) 16 _)) _ = _
      rw [Codes.byte_mid _ _ _ (by omega) (by omega)]
      congr 1
      omega
    · next h34 =>
      rw [words_lo _ _ _ _ _ h2 h34 _ (lo_val x2 _ _), Codes.byte_lo _ _ (by omega)]

theorem out_val (x0 : Vec Ideal S1x4096x2 .i8) (x1 : Vec Ideal S1x3x512x32 .i8) (x2 : Vec Ideal S1x1024x222 .i8) (z : Vec Ideal S1x32x256 .i8) (s : Vec Ideal S1x32x256 .f32) (r : Fin 4096) (c : Fin 256) :
    k0_pay1 (F := Ideal) (k0_pay2 x0) (k0_pay3 x1) (k0_pay4 x2) z s (ix3 0 r c)
      = Codes.value (Codes.code (fun c => x0 (ix3 0 r c)) (fun b c => x1 (ix4 0 b ⟨r.val / 8, by omega⟩ c)) (fun c => x2 (ix3 0 ⟨r.val / 4, by omega⟩ c)) r.val c)
        (z (ix3 0 ⟨r.val / 128, by omega⟩ c)) (s (ix3 0 ⟨r.val / 128, by omega⟩ c)) := by
  rw [← code_val]
  unfold words
  generalize k0_pay2 x0 = v1
  generalize k0_pay3 x1 = v37
  generalize k0_pay4 x2 = v38
  unfold k0_pay1
  pointwise
  rfl

end Cert.DequantUKernelIdeal.Dequant

end
-- ==== Proof.DequantUArrays.lean ====
/-
  The call that dequantises the factor `u`, at the ideal instance: its result array element by element, in terms of the five
  argument arrays.  A tenant's rows take two grid points, and the host code around the call turns every argument so that the
  rows come before the columns.
-/
module

public import proofs.«01_k».proof.Proof.DequantUPay
public import proofs.«01_k».proof.Proof.Gen.DequantUKernelIdeal.Value
public import Idealize.ShloMosaic.Lib.Pipeline.Value
public import Idealize.ShloMosaic.Lib.StableHlo.ReadAt

@[expose] public section

noncomputable section

namespace Cert.DequantUKernelIdeal.Dequant

open Idealize.ShloMosaic Idealize.ShloMosaic.TcCoe Idealize.ShloMosaic.Tactic Idealize.SL.Sem
open Idealize.ShloMosaic.Pipeline (Dat)
open Cert.DequantUKernelIdeal Cert.DequantUKernelIdeal.Gen

variable (m : (ℓ : Loc nD τ sig) → Buf (Elt Ideal) ℓ) (c : Dev nD)

/-- The five arguments by their coordinates, rows first. -/
abbrev aHi (n : Fin 5) (R : Fin 8192) (o : Fin 2) : BitVec 8 := m ((c : Thread nD τ).loc main_arg0) (ix3 n o R)
abbrev aMid (n : Fin 5) (q : Fin 1024) (b : Fin 3) (o : Fin 32) : BitVec 8 := m ((c : Thread nD τ).loc main_arg1) (ix4 n o q b)
abbrev aLo (n : Fin 5) (p : Fin 2048) (o : Fin 222) : BitVec 8 := m ((c : Thread nD τ).loc main_arg2) (ix3 n o p)
abbrev aScale (n : Fin 5) (g : Fin 64) (o : Fin 256) : EReal := m ((c : Thread nD τ).loc main_arg3) (ix3 n o g)
abbrev aZero (n : Fin 5) (g : Fin 64) (o : Fin 256) : BitVec 8 := m ((c : Thread nD τ).loc main_arg4) (ix3 n o g)

/-! ## The arguments as the call reads them -/

theorem V_hi (n : Fin 5) (R : Fin 8192) (o : Fin 2) : V m c main_v0 (ix3 n R o) = aHi m c n R o := by
  unfold V
  after_reads_at

theorem V_mid (n : Fin 5) (b : Fin 3) (q : Fin 1024) (o : Fin 32) : V m c main_v1 (ix4 n b q o) = aMid m c n q b o := by
  unfold V
  after_reads_at

theorem V_lo (n : Fin 5) (p : Fin 2048) (o : Fin 222) : V m c main_v2 (ix3 n p o) = aLo m c n p o := by
  unfold V
  after_reads_at

theorem V_scale (n : Fin 5) (g : Fin 64) (o : Fin 256) : V m c main_v3 (ix3 n g o) = aScale m c n g o := by
  unfold V
  after_reads_at

theorem V_zero (n : Fin 5) (g : Fin 64) (o : Fin 256) : V m c main_v4 (ix3 n g o) = aZero m c n g o := by
  unfold V
  after_reads_at

/-! ## Where the blocks sit -/

theorem idx0 : ∀ t : Fin grid0.N, win0_0.index t 0 = t.val / 2 ∧ win0_0.index t 1 = t.val % 2 ∧ win0_0.index t 2 = 0 := by decide +kernel
theorem idx1 : ∀ t : Fin grid0.N, win0_1.index t 0 = t.val / 2 ∧ win0_1.index t 1 = 0 ∧ win0_1.index t 2 = t.val % 2 ∧ win0_1.index t 3 = 0 := by decide +kernel
theorem idx2 : ∀ t : Fin grid0.N, win0_2.index t 0 = t.val / 2 ∧ win0_2.index t 1 = t.val % 2 ∧ win0_2.index t 2 = 0 := by decide +kernel
theorem idx3 : ∀ t : Fin grid0.N, win0_3.index t 0 = t.val / 2 ∧ win0_3.index t 1 = t.val % 2 ∧ win0_3.index t 2 = 0 := by decide +kernel
theorem idx4 : ∀ t : Fin grid0.N, win0_4.index t 0 = t.val / 2 ∧ win0_4.index t 1 = t.val % 2 ∧ win0_4.index t 2 = 0 := by decide +kernel
theorem idx5 : ∀ t : Fin grid0.N, win0_5.index t 0 = t.val / 2 ∧ win0_5.index t 1 = t.val % 2 ∧ win0_5.index t 2 = 0 := by decide +kernel

theorem t_lt (t : Fin grid0.N) : t.val < 10 := lt_of_lt_of_eq t.isLt (by decide)

/-- The tenant of point `t`, and row `x` of `k` of the point's half among all. -/
abbrev tenant (t : Fin grid0.N) : Fin 5 := ⟨t.val / 2, by have := t_lt t; omega⟩
abbrev half (t : Fin grid0.N) (k : Nat) (x : Fin k) : Fin (2 * k) := ⟨k * (t.val % 2) + x.val, by rcases Nat.mod_two_eq_zero_or_one t.val with h | h <;> rw [h] <;> omega⟩

theorem blk0 (t : Fin grid0.N) (r : Fin 4096) (o : Fin 2) : iblk m c 0 t (ix3 0 r o) = aHi m c (tenant t) (half t 4096 r) o := by
  have h := idx0 t
  show V m c main_v0 ((win0_0.rect t).emb (ix3 0 r o)) = _
  rw [← V_hi]
  congr 1
  funext a
  refine Fin.ext ?_
  rw [Pipeline.Window.rect_emb_val win0_0]
  fin_cases a
  · show win0_0.index t 0 * 1 + 0 = t.val / 2; omega
  · show win0_0.index t 1 * 4096 + r.val = 4096 * (t.val % 2) + r.val; omega
  · show win0_0.index t 2 * 2 + o.val = o.val; omega

theorem blk1 (t : Fin grid0.N) (b : Fin 3) (q : Fin 512) (o : Fin 32) : iblk m c 1 t (ix4 0 b q o) = aMid m c (tenant t) (half t 512 q) b o := by
  have h := idx1 t
  show V m c main_v1 ((win0_1.rect t).emb (ix4 0 b q o)) = _
  rw [← V_mid]
  congr 1
  funext a
  refine Fin.ext ?_
  rw [Pipeline.Window.rect_emb_val win0_1]
  fin_cases a
  · show win0_1.index t 0 * 1 + 0 = t.val / 2; omega
  · show win0_1.index t 1 * 3 + b.val = b.val; omega
  · show win0_1.index t 2 * 512 + q.val = 512 * (t.val % 2) + q.val; omega
  · show win0_1.index t 3 * 32 + o.val = o.val; omega

theorem blk2 (t : Fin grid0.N) (p : Fin 1024) (o : Fin 222) : iblk m c 2 t (ix3 0 p o) = aLo m c (tenant t) (half t 1024 p) o := by
  have h := idx2 t
  show V m c main_v2 ((win0_2.rect t).emb (ix3 0 p o)) = _
  rw [← V_lo]
  congr 1
  funext a
  refine Fin.ext ?_
  rw [Pipeline.Window.rect_emb_val win0_2]
  fin_cases a
  · show win0_2.index t 0 * 1 + 0 = t.val / 2; omega
  · show win0_2.index t 1 * 1024 + p.val = 1024 * (t.val % 2) + p.val; omega
  · show win0_2.index t 2 * 222 + o.val = o.val; omega

theorem blk3 (t : Fin grid0.N) (g : Fin 32) (o : Fin 256) : iblk m c 3 t (ix3 0 g o) = aScale m c (tenant t) (half t 32 g) o := by
  have h := idx3 t
  show V m c main_v3 ((win0_3.rect t).emb (ix3 0 g o)) = _
  rw [← V_scale]
  congr 1
  funext a
  refine Fin.ext ?_
  rw [Pipeline.Window.rect_emb_val win0_3]
  fin_cases a
  · show win0_3.index t 0 * 1 + 0 = t.val / 2; omega
  · show win0_3.index t 1 * 32 + g.val = 32 * (t.val % 2) + g.val; omega
  · show win0_3.index t 2 * 256 + o.val = o.val; omega

theorem blk4 (t : Fin grid0.N) (g : Fin 32) (o : Fin 256) : iblk m c 4 t (ix3 0 g o) = aZero m c (tenant t) (half t 32 g) o := by
  have h := idx4 t
  show V m c main_v4 ((win0_4.rect t).emb (ix3 0 g o)) = _
  rw [← V_zero]
  congr 1
  funext a
  refine Fin.ext ?_
  rw [Pipeline.Window.rect_emb_val win0_4]
  fin_cases a
  · show win0_4.index t 0 * 1 + 0 = t.val / 2; omega
  · show win0_4.index t 1 * 32 + g.val = 32 * (t.val % 2) + g.val; omega
  · show win0_4.index t 2 * 256 + o.val = o.val; omega

/-! ## The result -/

theorem hz : (![0, 0, 0] : Fin 3 → Nat) = fun _ => 0 := funext fun a => by fin_cases a <;> rfl
theorem hz4 : (![0, 0, 0, 0] : Fin 4 → Nat) = fun _ => 0 := funext fun a => by fin_cases a <;> rfl

theorem blockOut (x0 : Vec Ideal S1x4096x2 .i8) (x1 : Vec Ideal S1x3x512x32 .i8) (x2 : Vec Ideal S1x1024x222 .i8) (x3 : Vec Ideal S1x32x256 .f32) (x4 : Vec Ideal S1x32x256 .i8) (r : Fin 4096) (o : Fin 256) :
    out0_5 (F := Ideal) x0 x1 x2 x3 x4 (ix3 0 r o)
      = Codes.value (Codes.code (fun o => x0 (ix3 0 r o)) (fun b o => x1 (ix4 0 b ⟨r.val / 8, by omega⟩ o)) (fun o => x2 (ix3 0 ⟨r.val / 4, by omega⟩ o)) r.val o)
        (x4 (ix3 0 ⟨r.val / 128, by omega⟩ o)) (x3 (ix3 0 ⟨r.val / 128, by omega⟩ o)) := by
  unfold out0_5
  unfold r0_4
  rw [View.canon_unit_zero hz]
  have e0 : View.ld x0 r0_0 = x0 := View.ld_unit_zero hz _ x0
  have e1 : View.ld x1 r0_1 = x1 := View.ld_unit_zero hz4 _ x1
  have e2 : View.ld x2 r0_2 = x2 := View.ld_unit_zero hz _ x2
  have e3 : View.ld x3 r0_3 = x3 := View.ld_unit_zero hz _ x3
  have e4 : View.ld x4 r0_3 = x4 := View.ld_unit_zero hz _ x4
  rw [e0, e1, e2, e3, e4]
  exact out_val x0 x1 x2 x4 x3 r o

theorem flush_all : ∀ t : Fin cfg0.N, (cfg0.win 5).flush t = true := (by decide +kernel : ∀ t : Fin grid0.N, win0_5.flush t = true)

theorem code_congr (h : Fin 2 → BitVec 8) (m : Fin 3 → Fin 32 → BitVec 8) (l : Fin 222 → BitVec 8) (k k' : Nat) (e : k % 8 = k' % 8) (o : Fin 256) :
    Codes.code h m l k o = Codes.code h m l k' o := by
  unfold Codes.code
  rw [e, show k % 4 = k' % 4 by omega]

theorem arr5 (n : Fin 5) (R : Fin 8192) (o : Fin 256) : (dats m 0 c).arrAt 5 cfg0.N (ix3 n R o)
    = Codes.value (Codes.code (aHi m c n R) (aMid m c n ⟨R.val / 8, by omega⟩) (aLo m c n ⟨R.val / 4, by omega⟩) R.val o)
      (aZero m c n ⟨R.val / 128, by omega⟩ o) (aScale m c n ⟨R.val / 128, by omega⟩ o) := by
  obtain ⟨t, ht⟩ : ∃ t : Fin grid0.N, t.val = 2 * n.val + R.val / 4096 :=
    ⟨⟨2 * n.val + R.val / 4096, lt_of_lt_of_eq (by omega : _ < 10) (by decide)⟩, rfl⟩
  obtain ⟨r, hr⟩ : ∃ r : Fin 4096, r.val = R.val % 4096 := ⟨⟨R.val % 4096, by omega⟩, rfl⟩
  have h := idx5 t
  have e := (dats m 0 c).arrAt_emb_eq_flushed 5 Value.disjoint5 t (flush_all t) (ix3 0 r o)
  have e' : ((cfg0.win 5).blk t).view.emb (ix3 0 r o) = ix3 n R o := by
    show (win0_5.rect t).emb _ = _
    funext a
    refine Fin.ext ?_
    rw [Pipeline.Window.rect_emb_val win0_5]
    fin_cases a
    · show win0_5.index t 0 * 1 + 0 = n.val; omega
    · show win0_5.index t 1 * 4096 + r.val = R.val; omega
    · show win0_5.index t 2 * 256 + o.val = o.val; omega
  rw [e'] at e
  refine e.trans ?_
  rw [Value.flushed5]
  have v := blockOut (iblk m c 0 t) (iblk m c 1 t) (iblk m c 2 t) (iblk m c 3 t) (iblk m c 4 t) r o
  have en : tenant t = n := Fin.ext (by show t.val / 2 = n.val; omega)
  have e0 : half t 4096 r = R := Fin.ext (by show 4096 * (t.val % 2) + r.val = R.val; omega)
  have e1 : half t 512 ⟨r.val / 8, by omega⟩ = (⟨R.val / 8, by omega⟩ : Fin 1024) := Fin.ext (by show 512 * (t.val % 2) + r.val / 8 = R.val / 8; omega)
  have e2 : half t 1024 ⟨r.val / 4, by omega⟩ = (⟨R.val / 4, by omega⟩ : Fin 2048) := Fin.ext (by show 1024 * (t.val % 2) + r.val / 4 = R.val / 4; omega)
  have e3 : half t 32 ⟨r.val / 128, by omega⟩ = (⟨R.val / 128, by omega⟩ : Fin 64) := Fin.ext (by show 32 * (t.val % 2) + r.val / 128 = R.val / 128; omega)
  simp only [blk0, blk1, blk2, blk3, blk4, en, e0, e1, e2, e3] at v
  rw [code_congr _ _ _ r.val R.val (by omega)] at v
  generalize out0_5 (iblk m c 0 t) (iblk m c 1 t) (iblk m c 2 t) (iblk m c 3 t) (iblk m c 4 t) = X at v ⊢
  show X (ix3 0 r o) = _
  exact v

end Cert.DequantUKernelIdeal.Dequant

end
-- ==== Proof.DequantUReference.lean ====
/-
  The reference of the call that dequantises the factor `u`, at the ideal instance: its result array element by element, in
  terms of the five argument arrays.
-/
module

public import proofs.«01_k».proof.Proof.DequantReference
public import proofs.«01_k».proof.Proof.Gen.DequantUReferenceIdeal.Run
public import Idealize.ShloMosaic.Lib.Tactic
public import Idealize.ShloMosaic.Lib.VecWindow
public import Idealize.ShloMosaic.Lib.Pointwise

@[expose] public section

noncomputable section

namespace Cert.DequantUReferenceIdeal.Ref

open Idealize.ShloMosaic Idealize.ShloMosaic.TcCoe Idealize.SL.Sem
open Cert.DequantUReferenceIdeal Cert.DequantUReferenceIdeal.Gen

open Cert.DequantReferenceIdeal.Ref (mid_bits lo_bits)

def words (x1 : IVec S5x32x1024x3 8) : IVec S5x32x1024 32 :=
  ori (ori (shapeCast _ (extractStridedSlice S5x32x1024x1 ![0, 0, 0, 0] (extui 32 x1 natLt_8_32) slices_S5x32x1024x3_S5x32x1024x1_0_0_0_0) shapeCasts_S5x32x1024x1_S5x32x1024)
    (Host.shli (shapeCast _ (extractStridedSlice S5x32x1024x1 ![0, 0, 0, 1] (extui 32 x1 natLt_8_32) slices_S5x32x1024x3_S5x32x1024x1_0_0_0_1) shapeCasts_S5x32x1024x1_S5x32x1024)
      (broadcastInDim S5x32x1024 ![] bcast_S_S5x32x1024 (constantI S_ 32 8#32))))
    (Host.shli (shapeCast _ (extractStridedSlice S5x32x1024x1 ![0, 0, 0, 2] (extui 32 x1 natLt_8_32) slices_S5x32x1024x3_S5x32x1024x1_0_0_0_2) shapeCasts_S5x32x1024x1_S5x32x1024)
      (broadcastInDim S5x32x1024 ![] bcast_S_S5x32x1024 (constantI S_ 32 16#32)))

theorem words_val (x1 : IVec S5x32x1024x3 8) (n : Fin 5) (o : Fin 32) (q : Fin 1024) :
    words x1 (ix3 n o q) = Codes.word (x1 (ix4 n o q 0)) (x1 (ix4 n o q 1)) (x1 (ix4 n o q 2)) := by
  unfold words
  pointwise
  rfl

def mids (w : IVec S5x32x1024 32) : IVec S5x32x8192 32 :=
  shapeCast _ (andi (Host.shrsi (broadcastInDim S5x32x1024x8 ![0, 1, 2, 3] bcast_S5x32x1024x1_S5x32x1024x8_0_1_2_3 (broadcastInDim S5x32x1024x1 ![0, 1, 2] bcast_S5x32x1024_S5x32x1024x1_0_1_2 w))
    (broadcastInDim S5x32x1024x8 ![0, 1, 2, 3] bcast_S1x1x1x8_S5x32x1024x8_0_1_2_3 (broadcastInDim S1x1x1x8 ![3] bcast_S8_S1x1x1x8_3 (muli (broadcastInDim S8 ![] bcast_S_S8 (constantI S_ 32 3#32)) (iotaInDim S8 32 0)))))
    (broadcastInDim S5x32x1024x8 ![] bcast_S_S5x32x1024x8 (constantI S_ 32 7#32))) shapeCasts_S5x32x1024x8_S5x32x8192

theorem mids_val (w : IVec S5x32x1024 32) (n : Fin 5) (o : Fin 32) (R : Fin 8192) :
    mids w (ix3 n o R) = Codes.mid (w (ix3 n o ⟨R.val / 8, by omega⟩)) (R.val % 8) := by
  unfold mids
  rw [← mid_bits _ _ (by omega)]
  pointwise
  done

def los (x2 : IVec S5x222x2048 8) : IVec S5x222x8192 32 :=
  shapeCast _ (andi (Host.shrsi (broadcastInDim S5x222x2048x4 ![0, 1, 2, 3] bcast_S5x222x2048x1_S5x222x2048x4_0_1_2_3 (broadcastInDim S5x222x2048x1 ![0, 1, 2] bcast_S5x222x2048_S5x222x2048x1_0_1_2 (extui 32 x2 natLt_8_32)))
    (broadcastInDim S5x222x2048x4 ![0, 1, 2, 3] bcast_S1x1x1x4_S5x222x2048x4_0_1_2_3 (broadcastInDim S1x1x1x4 ![3] bcast_S4_S1x1x1x4_3 (muli (broadcastInDim S4 ![] bcast_S_S4 (constantI S_ 32 2#32)) (iotaInDim S4 32 0)))))
    (broadcastInDim S5x222x2048x4 ![] bcast_S_S5x222x2048x4 (constantI S_ 32 3#32))) shapeCasts_S5x222x2048x4_S5x222x8192

theorem los_val (x2 : IVec S5x222x2048 8) (n : Fin 5) (o : Fin 222) (R : Fin 8192) :
    los x2 (ix3 n o R) = Codes.lo (x2 (ix3 n o ⟨R.val / 4, by omega⟩)) (R.val % 4) := by
  unfold los
  rw [← lo_bits _ _ (by omega)]
  pointwise
  done

def codes (x0 : IVec S5x2x8192 8) (x1 : IVec S5x32x1024x3 8) (x2 : IVec S5x222x2048 8) : IVec S5x256x8192 32 :=
  concatenate S5x256x8192 1 [⟨S5x2x8192, extui 32 x0 natLt_8_32⟩, ⟨S5x32x8192, mids (words x1)⟩, ⟨S5x222x8192, los x2⟩] concatenates_S5x2x8192_S5x32x8192_S5x222x8192_S5x256x8192_d1

theorem codes_val (x0 : IVec S5x2x8192 8) (x1 : IVec S5x32x1024x3 8) (x2 : IVec S5x222x2048 8) (n : Fin 5) (R : Fin 8192) (o : Fin 256) :
    codes x0 x1 x2 (ix3 n o R)
      = Codes.code (fun o => x0 (ix3 n o R)) (fun b o => x1 (ix4 n o ⟨R.val / 8, by omega⟩ b)) (fun o => x2 (ix3 n o ⟨R.val / 4, by omega⟩)) R.val o := by
  have hm := fun o => mids_val (words x1) n o R
  have hl := fun o => los_val x2 n o R
  simp only [words_val] at hm
  unfold codes Codes.code
  generalize mids (words x1) = M at hm ⊢
  generalize los x2 = L at hl ⊢
  simp only [← hm, ← hl]
  pointwise
  by_cases h2 : o.val < 2
  · simp [h2]
  · by_cases h34 : o.val < 34
    · simp [h2, h34, show o.val - 2 < 32 by omega]
    · simp [h2, h34, show ¬ o.val - 2 < 32 by omega, Nat.sub_sub]

def out (x0 : IVec S5x2x8192 8) (x1 : IVec S5x32x1024x3 8) (x2 : IVec S5x222x2048 8) (x3 : FVec Ideal S5x256x64 .f32) (x4 : IVec S5x256x64 8) : FVec Ideal S5x8192x256 .bf16 :=
  transpose S5x8192x256 [0, 2, 1] (mulf (sitofp .bf16 (subi (codes x0 x1 x2) (shapeCast _ (broadcastInDim S5x256x64x128 ![0, 1, 2] bcast_S5x256x64_S5x256x64x128_0_1_2 (extui 32 x4 natLt_8_32)) shapeCasts_S5x256x64x128_S5x256x8192)))
    (shapeCast _ (broadcastInDim S5x256x64x128 ![0, 1, 2] bcast_S5x256x64_S5x256x64x128_0_1_2 (truncf .bf16 x3 bitsLt_bf16_f32)) shapeCasts_S5x256x64x128_S5x256x8192)) transposes_S5x256x8192_S5x8192x256_0_2_1

theorem out_val (x0 : IVec S5x2x8192 8) (x1 : IVec S5x32x1024x3 8) (x2 : IVec S5x222x2048 8) (x3 : FVec Ideal S5x256x64 .f32) (x4 : IVec S5x256x64 8) (n : Fin 5) (R : Fin 8192) (o : Fin 256) :
    out x0 x1 x2 x3 x4 (ix3 n R o)
      = Codes.value (Codes.code (fun o => x0 (ix3 n o R)) (fun b o => x1 (ix4 n o ⟨R.val / 8, by omega⟩ b)) (fun o => x2 (ix3 n o ⟨R.val / 4, by omega⟩)) R.val o)
        (x4 (ix3 n o ⟨R.val / 128, by omega⟩)) (x3 (ix3 n o ⟨R.val / 128, by omega⟩)) := by
  rw [← Codes.value_sub _ _ _ (Codes.code_lt _ _ _ _ _), ← codes_val]
  unfold out
  generalize codes x0 x1 x2 = C
  pointwise
  rfl

/-- On every device the result is `out` of the arguments, and the arguments are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v47) = out (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Value.run m ρ

end Cert.DequantUReferenceIdeal.Ref

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_sizes_partition_rows
public import proofs.«01_k».proof.Proof.Gen.KernelIdeal.Value
public import proofs.«01_k».proof.Proof.Gen.ReferenceIdeal.Value
public import proofs.«01_k».proof.Proof.Gen.QuantKernel
public import proofs.«01_k».proof.Proof.Gen.QuantKernel.Skeleton
public import proofs.«01_k».proof.Proof.Gen.QuantKernel.Loops
public import proofs.«01_k».proof.Proof.Gen.QuantKernel.Launch
public import proofs.«01_k».proof.Proof.Gen.QuantKernel.Points
public import proofs.«01_k».proof.Proof.Gen.QuantKernel.Frame
public import proofs.«01_k».proof.Proof.Gen.QuantKernelIdeal
public import proofs.«01_k».proof.Proof.Gen.QuantKernelIdeal.Skeleton
public import proofs.«01_k».proof.Proof.Gen.QuantKernelIdeal.Loops
public import proofs.«01_k».proof.Proof.Gen.QuantKernelIdeal.Launch
public import proofs.«01_k».proof.Proof.Gen.QuantKernelIdeal.Points
public import proofs.«01_k».proof.Proof.Gen.QuantKernelIdeal.Frame
public import proofs.«01_k».proof.Proof.Gen.QuantReferenceIdeal
public import proofs.«01_k».proof.Proof.Gen.QuantReferenceIdeal.Skeleton
public import proofs.«01_k».proof.Proof.Gen.QuantReferenceIdeal.Launch
public import proofs.«01_k».proof.Proof.Gen.QuantReferenceIdeal.Points
public import proofs.«01_k».proof.Proof.Gen.QuantReferenceIdeal.Frame
public import proofs.«01_k».proof.Proof.Gen.QuantReferenceIdeal.Value
public import proofs.«01_k».proof.Proof.Gen.DequantKernel
public import proofs.«01_k».proof.Proof.Gen.DequantKernel.Skeleton
public import proofs.«01_k».proof.Proof.Gen.DequantKernel.Launch
public import proofs.«01_k».proof.Proof.Gen.DequantKernel.Points
public import proofs.«01_k».proof.Proof.Gen.DequantKernel.Frame
public import proofs.«01_k».proof.Proof.Gen.DequantKernelIdeal
public import proofs.«01_k».proof.Proof.Gen.DequantKernelIdeal.Skeleton
public import proofs.«01_k».proof.Proof.Gen.DequantKernelIdeal.Launch
public import proofs.«01_k».proof.Proof.Gen.DequantKernelIdeal.Points
public import proofs.«01_k».proof.Proof.Gen.DequantKernelIdeal.Frame
public import proofs.«01_k».proof.Proof.Gen.DequantKernelIdeal.Value
public import proofs.«01_k».proof.Proof.Gen.DequantReferenceIdeal
public import proofs.«01_k».proof.Proof.Gen.DequantReferenceIdeal.Run
public import proofs.«01_k».proof.Proof.Gen.DequantUKernel
public import proofs.«01_k».proof.Proof.Gen.DequantUKernel.Skeleton
public import proofs.«01_k».proof.Proof.Gen.DequantUKernel.Launch
public import proofs.«01_k».proof.Proof.Gen.DequantUKernel.Points
public import proofs.«01_k».proof.Proof.Gen.DequantUKernel.Frame
public import proofs.«01_k».proof.Proof.Gen.DequantUKernelIdeal
public import proofs.«01_k».proof.Proof.Gen.DequantUKernelIdeal.Skeleton
public import proofs.«01_k».proof.Proof.Gen.DequantUKernelIdeal.Launch
public import proofs.«01_k».proof.Proof.Gen.DequantUKernelIdeal.Points
public import proofs.«01_k».proof.Proof.Gen.DequantUKernelIdeal.Frame
public import proofs.«01_k».proof.Proof.Gen.DequantUKernelIdeal.Value
public import proofs.«01_k».proof.Proof.Gen.DequantUReferenceIdeal
public import proofs.«01_k».proof.Proof.Gen.DequantUReferenceIdeal.Run
public import proofs.«01_k».proof.Proof.Gen.Pre_finite_and_sizes_partition_rows
public import proofs.«01_k».proof.Proof.HypsKernel
public import proofs.«01_k».proof.Proof.MainArrays
public import proofs.«01_k».proof.Proof.Reference
public import proofs.«01_k».proof.Proof.Sizes
public import proofs.«01_k».proof.Proof.QuantRun
public import proofs.«01_k».proof.Proof.QuantArrays
public import proofs.«01_k».proof.Proof.QuantReference
public import proofs.«01_k».proof.Proof.QuantPre
public import proofs.«01_k».proof.Proof.DequantArrays
public import proofs.«01_k».proof.Proof.DequantReference
public import proofs.«01_k».proof.Proof.DequantUArrays
public import proofs.«01_k».proof.Proof.DequantUReference
public import Idealize.ShloMosaic.Adequacy
public import Idealize.ShloMosaic.Init

@[expose] public section

noncomputable section

namespace Cert.Proof

open Idealize.ShloMosaic Idealize.SL.Sem Cert.Kernel

/-- Two functions on the results' indices that agree at every row and column are equal. -/
theorem ext2 {A : Type} (f g : Cert.KernelIdeal.S5120x8192.Idx → A) (h : ∀ (R : Fin 5120) (O : Fin 8192), f (ix2 R O) = g (ix2 R O)) : f = g := by
  funext i
  idx_vars i
  exact h i0 i1

theorem algebraic : algebraic_KernelIdeal_ReferenceIdeal_pre_sizes_partition_rows := by
  intro m g m' g' hp hm
  have hs : ∀ c, Spec.Partition (Cert.KernelIdeal.Main.aS m c) := fun c => Sizes.partition _ _ _ _ _ _ _ (hp c)
  have hs' : ∀ c, Spec.Partition (Cert.ReferenceIdeal.Ref.aS m' c) := fun c => by
    have e : Cert.ReferenceIdeal.Ref.aS m' c = Cert.KernelIdeal.Main.aS m c := funext fun n => congrFun (hm c).1 (ix1 n)
    rw [e]; exact hs c
  refine ⟨fun c => (Cert.KernelIdeal.Gen.dats m (Cert.KernelIdeal.Main.hyps m) 0 c).arrAt 7 Cert.KernelIdeal.cfg0.N,
    fun c => (Cert.KernelIdeal.Gen.dats m (Cert.KernelIdeal.Main.hyps m) 0 c).arrAt 8 Cert.KernelIdeal.cfg0.N,
    Cert.KernelIdeal.Value.run_blocks m g (Cert.KernelIdeal.Main.hyps m), ?_⟩
  refine (θ_run _ _ _).mono (fun r h c => ?_) (Cert.ReferenceIdeal.Value.run_blocks m' g')
  obtain ⟨h7, h8, hk⟩ := h c
  obtain ⟨e0, e1, e2, e3, e4, e5, e6⟩ := hm c
  refine ⟨h7.trans (ext2 _ _ fun R O => ?_), h8.trans (ext2 _ _ fun R O => ?_), hk⟩
  · rw [Cert.ReferenceIdeal.Ref.arr7 m' c (hs' c)]
    refine Eq.trans ?_ (Cert.KernelIdeal.Main.arr7 m c (hs c).small R O).symm
    unfold Cert.ReferenceIdeal.Ref.aS Cert.ReferenceIdeal.Ref.aX Cert.ReferenceIdeal.Ref.aW Cert.ReferenceIdeal.Ref.aBs Cert.ReferenceIdeal.Ref.aXs Cert.ReferenceIdeal.Ref.aG Cert.ReferenceIdeal.Ref.aU
    rw [e0, e1, e2, e3, e4, e5, e6]
  · rw [Cert.ReferenceIdeal.Ref.arr8 m' c (hs' c)]
    refine Eq.trans ?_ (Cert.KernelIdeal.Main.arr8 m c (hs c).small R O).symm
    unfold Cert.ReferenceIdeal.Ref.aS Cert.ReferenceIdeal.Ref.aG Cert.ReferenceIdeal.Ref.aU
    rw [e0, e5, e6]

/-- Two functions on a table's indices that agree at every row and column are equal. -/
theorem extTable {A : Type} {a b : Nat} (f g : Shape.Idx ⟨2, ![a, b]⟩ → A) (h : ∀ (R : Fin a) (O : Fin b), f (ix2 R O) = g (ix2 R O)) : f = g := by
  funext i
  have e : i = ix2 (i 0) (i 1) := funext fun a => by fin_cases a <;> rfl
  rw [e]
  exact h (i 0) (i 1)

theorem algebraicQuant : algebraic_QuantKernelIdeal_QuantReferenceIdeal_pre_finite_and_sizes_partition_rows := by
  intro m g m' g' hp hm
  have hs : ∀ c, Spec.Partition (Cert.QuantKernelIdeal.QuantV.aS m c) := fun c => QuantPre.partition _ _ _ _ (hp c)
  have hb : ∀ c, Cert.QuantKernelIdeal.QuantV.Bounded (Cert.QuantKernelIdeal.QuantV.aX m c) := fun c R k => QuantPre.bounded _ _ _ _ (hp c) _
  have eS : ∀ c, Cert.QuantReferenceIdeal.Ref.aS m' c = Cert.QuantKernelIdeal.QuantV.aS m c := fun c => funext fun n => congrFun (hm c).1 (ix1 n)
  have eX : ∀ c, Cert.QuantReferenceIdeal.Ref.aX m' c = Cert.QuantKernelIdeal.QuantV.aX m c := fun c => funext fun R => funext fun k => congrFun (hm c).2.1 _
  have eV : ∀ c, Cert.QuantReferenceIdeal.Ref.aV m' c = Cert.QuantKernelIdeal.QuantV.aV m c := fun c => funext fun n => funext fun k => funext fun o => congrFun (hm c).2.2.1 _
  have eG : ∀ c, Cert.QuantReferenceIdeal.Ref.aSig m' c = Cert.QuantKernelIdeal.QuantV.aSig m c := fun c => funext fun n => funext fun o => congrFun (hm c).2.2.2 _
  have hs' : ∀ c, Spec.Partition (Cert.QuantReferenceIdeal.Ref.aS m' c) := fun c => by rw [eS c]; exact hs c
  have hsm := fun c => (hs c).small
  refine ⟨fun c => (Cert.QuantKernelIdeal.QuantV.dats m 0 c).arrAt 4 Cert.QuantKernelIdeal.cfg0.N,
    fun c => (Cert.QuantKernelIdeal.QuantV.dats m 0 c).arrAt 5 Cert.QuantKernelIdeal.cfg0.N,
    fun c => (Cert.QuantKernelIdeal.QuantV.dats m 0 c).arrAt 6 Cert.QuantKernelIdeal.cfg0.N,
    Cert.QuantKernelIdeal.QuantV.run_blocks m g hsm, ?_⟩
  refine (θ_run _ _ _).mono (fun r h c => ?_) (Cert.QuantReferenceIdeal.Value.run_blocks m' g')
  obtain ⟨h5, h6, h7, hk⟩ := h c
  refine ⟨h5.trans (extTable _ _ fun R O => ?_), h6.trans (extTable _ _ fun R O => ?_), h7.trans (extTable _ _ fun R O => ?_), hk⟩
  · refine (Cert.QuantReferenceIdeal.Ref.arr5 m' c R O).trans (Eq.trans ?_ (Cert.QuantKernelIdeal.QuantV.arr4 m c (hb c) R O).symm)
    rw [eX c]
  · refine (Cert.QuantReferenceIdeal.Ref.arr6 m' c R O).trans (Eq.trans ?_ (Cert.QuantKernelIdeal.QuantV.arr5 m c (hb c) R O).symm)
    rw [eX c]
  · refine (Cert.QuantReferenceIdeal.Ref.arr7 m' c (hs' c) R O).trans (Eq.trans ?_ (Cert.QuantKernelIdeal.QuantV.arr6 m c (hb c) (hsm c) R O).symm)
    rw [eS c, eX c, eV c, eG c]

/-- Two functions on a stack of tables' indices that agree at every table, row and column are equal. -/
theorem extCube {A : Type} {a b k : Nat} (f g : Shape.Idx ⟨3, ![a, b, k]⟩ → A) (h : ∀ (n : Fin a) (R : Fin b) (O : Fin k), f (ix3 n R O) = g (ix3 n R O)) : f = g := by
  funext i
  have e : i = ix3 (i 0) (i 1) (i 2) := funext fun a => by fin_cases a <;> rfl
  rw [e]
  exact h (i 0) (i 1) (i 2)

theorem algebraicDequant : algebraic_DequantKernelIdeal_DequantReferenceIdeal := by
  intro m g m' g' _ hm
  refine ⟨fun c => (Cert.DequantKernelIdeal.Gen.dats m 0 c).arrAt 5 Cert.DequantKernelIdeal.cfg0.N, Cert.DequantKernelIdeal.Value.run_blocks m g, ?_⟩
  refine (θ_run _ _ _).mono (fun r h c => ?_) (Cert.DequantReferenceIdeal.Ref.run m' g')
  obtain ⟨h5, hk⟩ := h c
  obtain ⟨e0, e1, e2, e3, e4⟩ := hm c
  refine ⟨h5.trans (extCube _ _ fun n R o => ?_), hk⟩
  rw [e0, e1, e2, e3, e4]
  exact (Cert.DequantReferenceIdeal.Ref.out_val _ _ _ _ _ n R o).trans (Cert.DequantKernelIdeal.Dequant.arr5 m c n R o).symm

theorem frameDequant : quiescent_DequantReferenceIdeal := fun m ρ _ =>
  (θ_run Cert.DequantReferenceIdeal.defs _ _).mono (fun r h => ⟨fun c => (h c).2, sem_eq_zero_of_no_sems (by decide) r.2⟩) (Cert.DequantReferenceIdeal.Ref.run m ρ)

theorem algebraicDequantU : algebraic_DequantUKernelIdeal_DequantUReferenceIdeal := by
  intro m g m' g' _ hm
  refine ⟨fun c => (Cert.DequantUKernelIdeal.Gen.dats m 0 c).arrAt 5 Cert.DequantUKernelIdeal.cfg0.N, Cert.DequantUKernelIdeal.Value.run_blocks m g, ?_⟩
  refine (θ_run _ _ _).mono (fun r h c => ?_) (Cert.DequantUReferenceIdeal.Ref.run m' g')
  obtain ⟨h5, hk⟩ := h c
  obtain ⟨e0, e1, e2, e3, e4⟩ := hm c
  refine ⟨h5.trans (extCube _ _ fun n R o => ?_), hk⟩
  rw [e0, e1, e2, e3, e4]
  exact (Cert.DequantUReferenceIdeal.Ref.out_val _ _ _ _ _ n R o).trans (Cert.DequantUKernelIdeal.Dequant.arr5 m c n R o).symm

theorem frameDequantU : quiescent_DequantUReferenceIdeal := fun m ρ _ =>
  (θ_run Cert.DequantUReferenceIdeal.defs _ _).mono (fun r h => ⟨fun c => (h c).2, sem_eq_zero_of_no_sems (by decide) r.2⟩) (Cert.DequantUReferenceIdeal.Ref.run m ρ)

theorem claim : Cert.Claim := ⟨Cert.Kernel.Gen.facts, Cert.KernelIdeal.Gen.facts, Cert.ReferenceIdeal.Gen.facts,
  Cert.QuantKernel.Gen.facts, Cert.QuantKernelIdeal.Gen.facts, Cert.QuantReferenceIdeal.Gen.facts,
  Cert.DequantKernel.Gen.facts, Cert.DequantKernelIdeal.Gen.facts, Cert.DequantReferenceIdeal.Gen.facts,
  Cert.DequantUKernel.Gen.facts, Cert.DequantUKernelIdeal.Gen.facts, Cert.DequantUReferenceIdeal.Gen.facts,
  Cert.Pre_sizes_partition_rows.Gen.facts, Cert.Pre_finite_and_sizes_partition_rows.Gen.facts,
  fun m ρ _ => Cert.Kernel.Gen.frame m ρ (Cert.Kernel.Main.hyps m),
  fun m ρ _ => Cert.KernelIdeal.Gen.frame m ρ (Cert.KernelIdeal.Main.hyps m),
  fun m ρ _ => Cert.KernelIdeal.Gen.frame m ρ (Cert.KernelIdeal.Main.hyps m),
  fun m ρ _ => Cert.ReferenceIdeal.Gen.frame m ρ,
  fun m ρ _ => Cert.ReferenceIdeal.Gen.frame m ρ,
  fun m ρ _ => Cert.QuantKernel.Quant.frame m ρ,
  fun m ρ _ => Cert.QuantKernelIdeal.Quant.frame m ρ,
  fun m ρ _ => Cert.QuantKernelIdeal.Quant.frame m ρ,
  fun m ρ _ => Cert.QuantReferenceIdeal.Gen.frame m ρ,
  fun m ρ _ => Cert.QuantReferenceIdeal.Gen.frame m ρ,
  fun m ρ _ => Cert.DequantKernel.Gen.frame m ρ,
  fun m ρ _ => Cert.DequantKernelIdeal.Gen.frame m ρ,
  frameDequant,
  fun m ρ _ => Cert.DequantUKernel.Gen.frame m ρ,
  fun m ρ _ => Cert.DequantUKernelIdeal.Gen.frame m ρ,
  frameDequantU,
  trivial, algebraic, trivial, algebraicQuant, trivial, algebraicDequant, trivial, algebraicDequantU⟩

end Cert.Proof

end
